-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S4x4x512x512 : Shape := ⟨4, ![4, 4, 512, 512]⟩
abbrev S2x512x1024 : Shape := ⟨3, ![2, 512, 1024]⟩
abbrev S6x512x1024 : Shape := ⟨3, ![6, 512, 1024]⟩
abbrev S16 : Shape := ⟨1, ![16]⟩
abbrev S_ : Shape := ⟨0, ![]⟩
abbrev S2 : Shape := ⟨1, ![2]⟩
abbrev S8 : Shape := ⟨1, ![8]⟩
abbrev S1 : Shape := ⟨1, ![1]⟩
abbrev S1x512x1024 : Shape := ⟨3, ![1, 512, 1024]⟩
abbrev S512x1024 : Shape := ⟨2, ![512, 1024]⟩
abbrev S512x512 : Shape := ⟨2, ![512, 512]⟩
abbrev S1x1x512x512 : Shape := ⟨4, ![1, 1, 512, 512]⟩

abbrev nBuf : Space → Nat
  | .hbm => 3
  | .vmem => 7
  | .smem => 0
  | _ => 0

abbrev bufTy : (tb : Table) → Fin (tcTables nBuf tb) → BufTy
  | .hbm, ⟨0, _⟩ => ⟨S512x4096, .f32⟩
  | .hbm, ⟨1, _⟩ => ⟨S4096x1024, .f32⟩
  | .hbm, ⟨2, _⟩ => ⟨S4096x1024, .f32⟩
  | .local _ .vmem, ⟨0, _⟩ => ⟨S512x4096, .f32⟩
  | .local _ .vmem, ⟨1, _⟩ => ⟨S4x4x512x512, .bf16⟩
  | .local _ .vmem, ⟨2, _⟩ => ⟨S4x4x512x512, .bf16⟩
  | .local _ .vmem, ⟨3, _⟩ => ⟨S4096x1024, .bf16⟩
  | .local _ .vmem, ⟨4, _⟩ => ⟨S2x512x1024, .f32⟩
  | .local _ .vmem, ⟨5, _⟩ => ⟨S6x512x1024, .f32⟩
  | .local _ .vmem, ⟨6, _⟩ => ⟨S2x512x1024, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  (ofTc nBuf bufTy 3 75 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_48 : BitVec 32 := 1#32
  let v62 : BitVec 32 := Scalar.muli v5 c1_i32_48
  let v63 : BitVec 32 := Scalar.addi c0_i32_49 v62
  v63.toNat
def k0_dev2 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_51 : BitVec 32 := 1#32
  let v64 : BitVec 32 := Scalar.muli v7 c1_i32_51
  let v65 : BitVec 32 := Scalar.addi c0_i32_52 v64
  v65.toNat
def k0_dev3 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_59 : BitVec 32 := 1#32
  let v66 : BitVec 32 := Scalar.muli v7 c1_i32_59
  let v67 : BitVec 32 := Scalar.addi c0_i32_60 v66
  v67.toNat
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_71 : BitVec 32 := 1#32
  let v76 : BitVec 32 := Scalar.muli v5 c1_i32_71
  let v77 : BitVec 32 := Scalar.addi c0_i32_72 v76
  v77.toNat
def k0_dev5 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_83 : BitVec 32 := 1#32
  let v86 : BitVec 32 := Scalar.muli v7 c1_i32_83
  let v87 : BitVec 32 := Scalar.addi c0_i32_84 v86
  v87.toNat
def k0_dev6 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_95 : BitVec 32 := 1#32
  let v96 : BitVec 32 := Scalar.muli v5 c1_i32_95
  let v97 : BitVec 32 := Scalar.addi c0_i32_96 v96
  v97.toNat
def k0_dev7 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_107 : BitVec 32 := 1#32
  let v106 : BitVec 32 := Scalar.muli v7 c1_i32_107
  let v107 : BitVec 32 := Scalar.addi c0_i32_108 v106
  v107.toNat
def k0_dev8 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_119 : BitVec 32 := 1#32
  let v116 : BitVec 32 := Scalar.muli v5 c1_i32_119
  let v117 : BitVec 32 := Scalar.addi c0_i32_120 v116
  v117.toNat
def k0_dev9 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_130 : BitVec 32 := 1#32
  let v126 : BitVec 32 := Scalar.muli v7 c1_i32_130
  let v127 : BitVec 32 := Scalar.addi c0_i32_131 v126
  v127.toNat
def k0_dev10 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_142 : BitVec 32 := 1#32
  let v136 : BitVec 32 := Scalar.muli v5 c1_i32_142
  let v137 : BitVec 32 := Scalar.addi c0_i32_143 v136
  v137.toNat
def k0_dev11 (d0 : Dev nD) : Nat :=
  let c0_i32_301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_300 : BitVec 32 := 1#32
  let v285 : BitVec 32 := Scalar.muli v7 c1_i32_300
  let v286 : BitVec 32 := Scalar.addi c0_i32_301 v285
  v286.toNat
def k0_dev12 (d0 : Dev nD) : Nat :=
  let c0_i32_313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_312 : BitVec 32 := 1#32
  let v295 : BitVec 32 := Scalar.muli v5 c1_i32_312
  let v296 : BitVec 32 := Scalar.addi c0_i32_313 v295
  v296.toNat
def k0_dev13 (d0 : Dev nD) : Nat :=
  let c0_i32_361 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_360 : BitVec 32 := 1#32
  let v329 : BitVec 32 := Scalar.muli v7 c1_i32_360
  let v330 : BitVec 32 := Scalar.addi c0_i32_361 v329
  v330.toNat
def k0_dev14 (d0 : Dev nD) : Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_372 : BitVec 32 := 1#32
  let v339 : BitVec 32 := Scalar.muli v5 c1_i32_372
  let v340 : BitVec 32 := Scalar.addi c0_i32_373 v339
  v340.toNat
def k0_dev15 (d0 : Dev nD) : Nat :=
  let c0_i32_422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_421 : BitVec 32 := 1#32
  let v375 : BitVec 32 := Scalar.muli v7 c1_i32_421
  let v376 : BitVec 32 := Scalar.addi c0_i32_422 v375
  v376.toNat
def k0_dev16 (d0 : Dev nD) : Nat :=
  let c0_i32_434 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_433 : BitVec 32 := 1#32
  let v385 : BitVec 32 := Scalar.muli v5 c1_i32_433
  let v386 : BitVec 32 := Scalar.addi c0_i32_434 v385
  v386.toNat
def k0_dev17 (d0 : Dev nD) : Nat :=
  let c0_i32_483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_482 : BitVec 32 := 1#32
  let v421 : BitVec 32 := Scalar.muli v7 c1_i32_482
  let v422 : BitVec 32 := Scalar.addi c0_i32_483 v421
  v422.toNat
def k0_dev18 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_494 : BitVec 32 := 1#32
  let v431 : BitVec 32 := Scalar.muli v5 c1_i32_494
  let v432 : BitVec 32 := Scalar.addi c0_i32_495 v431
  v432.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_582 : BitVec 32 := 512#32
  let v507 : BitVec 32 := Scalar.muli v2 c512_i32_582
  let c0_i32_585 : BitVec 32 := 0#32
  ![v507.toNat, 0]
def k0_dev19 (d0 : Dev nD) : Nat :=
  let c0_i32_678 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_677 : BitVec 32 := 1#32
  let v561 : BitVec 32 := Scalar.muli v5 c1_i32_677
  let v562 : BitVec 32 := Scalar.addi c0_i32_678 v561
  v562.toNat
def k0_dev20 (d0 : Dev nD) : Nat :=
  let c0_i32_681 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_680 : BitVec 32 := 1#32
  let v563 : BitVec 32 := Scalar.muli v7 c1_i32_680
  let v564 : BitVec 32 := Scalar.addi c0_i32_681 v563
  v564.toNat
def k0_dev21 (d0 : Dev nD) : Nat :=
  let c0_i32_713 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_712 : BitVec 32 := 1#32
  let v581 : BitVec 32 := Scalar.muli v7 c1_i32_712
  let v582 : BitVec 32 := Scalar.addi c0_i32_713 v581
  v582.toNat
def k0_dev22 (d0 : Dev nD) : Nat :=
  let c0_i32_725 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_724 : BitVec 32 := 1#32
  let v591 : BitVec 32 := Scalar.muli v5 c1_i32_724
  let v592 : BitVec 32 := Scalar.addi c0_i32_725 v591
  v592.toNat
def k0_dev23 (d0 : Dev nD) : Nat :=
  let c0_i32_774 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_773 : BitVec 32 := 1#32
  let v625 : BitVec 32 := Scalar.muli v7 c1_i32_773
  let v626 : BitVec 32 := Scalar.addi c0_i32_774 v625
  v626.toNat
def k0_dev24 (d0 : Dev nD) : Nat :=
  let c0_i32_786 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_785 : BitVec 32 := 1#32
  let v635 : BitVec 32 := Scalar.muli v5 c1_i32_785
  let v636 : BitVec 32 := Scalar.addi c0_i32_786 v635
  v636.toNat
def k0_dev25 (d0 : Dev nD) : Nat :=
  let c0_i32_835 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_834 : BitVec 32 := 1#32
  let v671 : BitVec 32 := Scalar.muli v7 c1_i32_834
  let v672 : BitVec 32 := Scalar.addi c0_i32_835 v671
  v672.toNat
def k0_dev26 (d0 : Dev nD) : Nat :=
  let c0_i32_847 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_846 : BitVec 32 := 1#32
  let v681 : BitVec 32 := Scalar.muli v5 c1_i32_846
  let v682 : BitVec 32 := Scalar.addi c0_i32_847 v681
  v682.toNat
def k0_dev27 (d0 : Dev nD) : Nat :=
  let c0_i32_896 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_895 : BitVec 32 := 1#32
  let v717 : BitVec 32 := Scalar.muli v7 c1_i32_895
  let v718 : BitVec 32 := Scalar.addi c0_i32_896 v717
  v718.toNat
def k0_dev28 (d0 : Dev nD) : Nat :=
  let c0_i32_908 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_907 : BitVec 32 := 1#32
  let v727 : BitVec 32 := Scalar.muli v5 c1_i32_907
  let v728 : BitVec 32 := Scalar.addi c0_i32_908 v727
  v728.toNat
def k0_dev29 (d0 : Dev nD) : Nat :=
  let c0_i32_1023 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1022 : BitVec 32 := 1#32
  let v801 : BitVec 32 := Scalar.muli v5 c1_i32_1022
  let v802 : BitVec 32 := Scalar.addi c0_i32_1023 v801
  v802.toNat
def k0_dev30 (d0 : Dev nD) : Nat :=
  let c0_i32_1026 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1025 : BitVec 32 := 1#32
  let v803 : BitVec 32 := Scalar.muli v7 c1_i32_1025
  let v804 : BitVec 32 := Scalar.addi c0_i32_1026 v803
  v804.toNat
def k0_dev31 (d0 : Dev nD) : Nat :=
  let c0_i32_1061 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1060 : BitVec 32 := 1#32
  let v821 : BitVec 32 := Scalar.muli v7 c1_i32_1060
  let v822 : BitVec 32 := Scalar.addi c0_i32_1061 v821
  v822.toNat
def k0_dev32 (d0 : Dev nD) : Nat :=
  let c0_i32_1073 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1072 : BitVec 32 := 1#32
  let v831 : BitVec 32 := Scalar.muli v5 c1_i32_1072
  let v832 : BitVec 32 := Scalar.addi c0_i32_1073 v831
  v832.toNat
def k0_dev33 (d0 : Dev nD) : Nat :=
  let c0_i32_1122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1121 : BitVec 32 := 1#32
  let v865 : BitVec 32 := Scalar.muli v7 c1_i32_1121
  let v866 : BitVec 32 := Scalar.addi c0_i32_1122 v865
  v866.toNat
def k0_dev34 (d0 : Dev nD) : Nat :=
  let c0_i32_1134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1133 : BitVec 32 := 1#32
  let v875 : BitVec 32 := Scalar.muli v5 c1_i32_1133
  let v876 : BitVec 32 := Scalar.addi c0_i32_1134 v875
  v876.toNat
def k0_dev35 (d0 : Dev nD) : Nat :=
  let c0_i32_1183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1182 : BitVec 32 := 1#32
  let v911 : BitVec 32 := Scalar.muli v7 c1_i32_1182
  let v912 : BitVec 32 := Scalar.addi c0_i32_1183 v911
  v912.toNat
def k0_dev36 (d0 : Dev nD) : Nat :=
  let c0_i32_1195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1194 : BitVec 32 := 1#32
  let v921 : BitVec 32 := Scalar.muli v5 c1_i32_1194
  let v922 : BitVec 32 := Scalar.addi c0_i32_1195 v921
  v922.toNat
def k0_dev37 (d0 : Dev nD) : Nat :=
  let c0_i32_1244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1243 : BitVec 32 := 1#32
  let v957 : BitVec 32 := Scalar.muli v7 c1_i32_1243
  let v958 : BitVec 32 := Scalar.addi c0_i32_1244 v957
  v958.toNat
def k0_dev38 (d0 : Dev nD) : Nat :=
  let c0_i32_1256 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1255 : BitVec 32 := 1#32
  let v967 : BitVec 32 := Scalar.muli v5 c1_i32_1255
  let v968 : BitVec 32 := Scalar.addi c0_i32_1256 v967
  v968.toNat
def k0_dev39 (d0 : Dev nD) : Nat :=
  let c0_i32_1369 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1368 : BitVec 32 := 1#32
  let v1041 : BitVec 32 := Scalar.muli v5 c1_i32_1368
  let v1042 : BitVec 32 := Scalar.addi c0_i32_1369 v1041
  v1042.toNat
def k0_dev40 (d0 : Dev nD) : Nat :=
  let c0_i32_1372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1371 : BitVec 32 := 1#32
  let v1043 : BitVec 32 := Scalar.muli v7 c1_i32_1371
  let v1044 : BitVec 32 := Scalar.addi c0_i32_1372 v1043
  v1044.toNat
def k0_dev41 (d0 : Dev nD) : Nat :=
  let c0_i32_1408 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1407 : BitVec 32 := 1#32
  let v1061 : BitVec 32 := Scalar.muli v7 c1_i32_1407
  let v1062 : BitVec 32 := Scalar.addi c0_i32_1408 v1061
  v1062.toNat
def k0_dev42 (d0 : Dev nD) : Nat :=
  let c0_i32_1420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1419 : BitVec 32 := 1#32
  let v1071 : BitVec 32 := Scalar.muli v5 c1_i32_1419
  let v1072 : BitVec 32 := Scalar.addi c0_i32_1420 v1071
  v1072.toNat
def k0_dev43 (d0 : Dev nD) : Nat :=
  let c0_i32_1470 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1469 : BitVec 32 := 1#32
  let v1105 : BitVec 32 := Scalar.muli v7 c1_i32_1469
  let v1106 : BitVec 32 := Scalar.addi c0_i32_1470 v1105
  v1106.toNat
def k0_dev44 (d0 : Dev nD) : Nat :=
  let c0_i32_1482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1481 : BitVec 32 := 1#32
  let v1115 : BitVec 32 := Scalar.muli v5 c1_i32_1481
  let v1116 : BitVec 32 := Scalar.addi c0_i32_1482 v1115
  v1116.toNat
def k0_dev45 (d0 : Dev nD) : Nat :=
  let c0_i32_1532 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1531 : BitVec 32 := 1#32
  let v1151 : BitVec 32 := Scalar.muli v7 c1_i32_1531
  let v1152 : BitVec 32 := Scalar.addi c0_i32_1532 v1151
  v1152.toNat
def k0_dev46 (d0 : Dev nD) : Nat :=
  let c0_i32_1544 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1543 : BitVec 32 := 1#32
  let v1161 : BitVec 32 := Scalar.muli v5 c1_i32_1543
  let v1162 : BitVec 32 := Scalar.addi c0_i32_1544 v1161
  v1162.toNat
def k0_dev47 (d0 : Dev nD) : Nat :=
  let c0_i32_1594 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1593 : BitVec 32 := 1#32
  let v1197 : BitVec 32 := Scalar.muli v7 c1_i32_1593
  let v1198 : BitVec 32 := Scalar.addi c0_i32_1594 v1197
  v1198.toNat
def k0_dev48 (d0 : Dev nD) : Nat :=
  let c0_i32_1606 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1605 : BitVec 32 := 1#32
  let v1207 : BitVec 32 := Scalar.muli v5 c1_i32_1605
  let v1208 : BitVec 32 := Scalar.addi c0_i32_1606 v1207
  v1208.toNat
def k0_off2 (d0 : Dev nD) (c3_i32_1625 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1227 : BitVec 32 := Scalar.subi v2 c3_i32_1625
  let c1_i32_1626 : BitVec 32 := 1#32
  let v1228 : BitVec 32 := Scalar.subi v1227 c1_i32_1626
  let c8_i32_1627 : BitVec 32 := 8#32
  let v1229 : BitVec 32 := Scalar.addi v1228 c8_i32_1627
  let c8_i32_1628 : BitVec 32 := 8#32
  let v1230 : BitVec 32 := Scalar.remsi v1229 c8_i32_1628
  let c512_i32_1635 : BitVec 32 := 512#32
  let v1243 : BitVec 32 := Scalar.muli v1230 c512_i32_1635
  let c0_i32_1638 : BitVec 32 := 0#32
  ![v1243.toNat, 0]
def k0_dev49 (d0 : Dev nD) : Nat :=
  let c0_i32_1731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1730 : BitVec 32 := 1#32
  let v1297 : BitVec 32 := Scalar.muli v5 c1_i32_1730
  let v1298 : BitVec 32 := Scalar.addi c0_i32_1731 v1297
  v1298.toNat
def k0_dev50 (d0 : Dev nD) : Nat :=
  let c0_i32_1734 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1733 : BitVec 32 := 1#32
  let v1299 : BitVec 32 := Scalar.muli v7 c1_i32_1733
  let v1300 : BitVec 32 := Scalar.addi c0_i32_1734 v1299
  v1300.toNat
def k0_dev51 (d0 : Dev nD) : Nat :=
  let c0_i32_1770 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1769 : BitVec 32 := 1#32
  let v1317 : BitVec 32 := Scalar.muli v7 c1_i32_1769
  let v1318 : BitVec 32 := Scalar.addi c0_i32_1770 v1317
  v1318.toNat
def k0_dev52 (d0 : Dev nD) : Nat :=
  let c0_i32_1782 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1781 : BitVec 32 := 1#32
  let v1327 : BitVec 32 := Scalar.muli v5 c1_i32_1781
  let v1328 : BitVec 32 := Scalar.addi c0_i32_1782 v1327
  v1328.toNat
def k0_dev53 (d0 : Dev nD) : Nat :=
  let c0_i32_1838 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1837 : BitVec 32 := 1#32
  let v1367 : BitVec 32 := Scalar.muli v7 c1_i32_1837
  let v1368 : BitVec 32 := Scalar.addi c0_i32_1838 v1367
  v1368.toNat
def k0_dev54 (d0 : Dev nD) : Nat :=
  let c0_i32_1850 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1849 : BitVec 32 := 1#32
  let v1377 : BitVec 32 := Scalar.muli v5 c1_i32_1849
  let v1378 : BitVec 32 := Scalar.addi c0_i32_1850 v1377
  v1378.toNat
def k0_dev55 (d0 : Dev nD) : Nat :=
  let c0_i32_1900 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1899 : BitVec 32 := 1#32
  let v1413 : BitVec 32 := Scalar.muli v7 c1_i32_1899
  let v1414 : BitVec 32 := Scalar.addi c0_i32_1900 v1413
  v1414.toNat
def k0_dev56 (d0 : Dev nD) : Nat :=
  let c0_i32_1912 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1911 : BitVec 32 := 1#32
  let v1423 : BitVec 32 := Scalar.muli v5 c1_i32_1911
  let v1424 : BitVec 32 := Scalar.addi c0_i32_1912 v1423
  v1424.toNat
def k0_dev57 (d0 : Dev nD) : Nat :=
  let c0_i32_1962 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1961 : BitVec 32 := 1#32
  let v1459 : BitVec 32 := Scalar.muli v7 c1_i32_1961
  let v1460 : BitVec 32 := Scalar.addi c0_i32_1962 v1459
  v1460.toNat
def k0_dev58 (d0 : Dev nD) : Nat :=
  let c0_i32_1974 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1973 : BitVec 32 := 1#32
  let v1469 : BitVec 32 := Scalar.muli v5 c1_i32_1973
  let v1470 : BitVec 32 := Scalar.addi c0_i32_1974 v1469
  v1470.toNat
def k0_off3 (d0 : Dev nD) (c4_i32_1997 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1493 : BitVec 32 := Scalar.addi v2 c4_i32_1997
  let c1_i32_1998 : BitVec 32 := 1#32
  let v1494 : BitVec 32 := Scalar.addi v1493 c1_i32_1998
  let c8_i32_1999 : BitVec 32 := 8#32
  let v1495 : BitVec 32 := Scalar.remsi v1494 c8_i32_1999
  let c512_i32_2018 : BitVec 32 := 512#32
  let v1524 : BitVec 32 := Scalar.muli v1495 c512_i32_2018
  let c0_i32_2021 : BitVec 32 := 0#32
  ![v1524.toNat, 0]
def k0_dev59 (d0 : Dev nD) : Nat :=
  let c0_i32_2147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2146 : BitVec 32 := 1#32
  let v1594 : BitVec 32 := Scalar.muli v7 c1_i32_2146
  let v1595 : BitVec 32 := Scalar.addi c0_i32_2147 v1594
  v1595.toNat
def k0_dev60 (d0 : Dev nD) : Nat :=
  let c0_i32_2159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2158 : BitVec 32 := 1#32
  let v1604 : BitVec 32 := Scalar.muli v5 c1_i32_2158
  let v1605 : BitVec 32 := Scalar.addi c0_i32_2159 v1604
  v1605.toNat
def k0_dev61 (d0 : Dev nD) : Nat :=
  let c0_i32_2215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2214 : BitVec 32 := 1#32
  let v1644 : BitVec 32 := Scalar.muli v7 c1_i32_2214
  let v1645 : BitVec 32 := Scalar.addi c0_i32_2215 v1644
  v1645.toNat
def k0_dev62 (d0 : Dev nD) : Nat :=
  let c0_i32_2227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2226 : BitVec 32 := 1#32
  let v1654 : BitVec 32 := Scalar.muli v5 c1_i32_2226
  let v1655 : BitVec 32 := Scalar.addi c0_i32_2227 v1654
  v1655.toNat
def k0_dev63 (d0 : Dev nD) : Nat :=
  let c0_i32_2277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2276 : BitVec 32 := 1#32
  let v1690 : BitVec 32 := Scalar.muli v7 c1_i32_2276
  let v1691 : BitVec 32 := Scalar.addi c0_i32_2277 v1690
  v1691.toNat
def k0_dev64 (d0 : Dev nD) : Nat :=
  let c0_i32_2289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2288 : BitVec 32 := 1#32
  let v1700 : BitVec 32 := Scalar.muli v5 c1_i32_2288
  let v1701 : BitVec 32 := Scalar.addi c0_i32_2289 v1700
  v1701.toNat
def k0_dev65 (d0 : Dev nD) : Nat :=
  let c0_i32_2339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2338 : BitVec 32 := 1#32
  let v1736 : BitVec 32 := Scalar.muli v7 c1_i32_2338
  let v1737 : BitVec 32 := Scalar.addi c0_i32_2339 v1736
  v1737.toNat
def k0_dev66 (d0 : Dev nD) : Nat :=
  let c0_i32_2351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2350 : BitVec 32 := 1#32
  let v1746 : BitVec 32 := Scalar.muli v5 c1_i32_2350
  let v1747 : BitVec 32 := Scalar.addi c0_i32_2351 v1746
  v1747.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Prog.lean ====
/-
  The kernel body written once more with its loops: the printed body is the unrolled text of `body`, whose fragments take
  the direction of travel, the hop and the sub-block as arguments. `body_eq` says that the two are the same program.
-/
module

public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.Proof

open Cert.KernelIdeal Cert.KernelIdeal.Gen
open Idealize.ShloMosaic Idealize.SL.Sem

variable {F : FTy → Type} [FloatOps F]

abbrev PE (F : FTy → Type) := TpuEff nD τ sig (Elt F) Λ₀ .tc

/-! ### The buffers -/

/-- The device's rows of the activations, in vector memory. -/
abbrev xM : Memref sig .tc .vmem S512x4096 .f32 := stage0_0 0
/-- The device's columns of the weights. -/
abbrev wM : Memref sig .tc .hbm S4096x1024 .f32 := Memref.whole main_arg1
/-- The device's columns of the result. -/
abbrev oM : Memref sig .tc .hbm S4096x1024 .f32 := Memref.whole main_v1
/-- The travelling chunks, by direction: `true` travels to the next device. -/
abbrev bufM : Bool → Memref sig .tc .vmem S4x4x512x512 .bf16
  | true => Memref.whole cc0_scratch0
  | false => Memref.whole cc0_scratch1
/-- The weights rounded to `bf16`. -/
abbrev wbM : Memref sig .tc .vmem S4096x1024 .bf16 := Memref.whole cc0_scratch2
/-- The two staging tiles of the weights. -/
abbrev wsM : Memref sig .tc .vmem S2x512x1024 .f32 := Memref.whole cc0_scratch3
/-- The six half sums. -/
abbrev acM : Memref sig .tc .vmem S6x512x1024 .f32 := Memref.whole cc0_scratch4
/-- The two result tiles. -/
abbrev osM : Memref sig .tc .vmem S2x512x1024 .f32 := Memref.whole cc0_scratch5

/-- The semaphore arrays of the sends, by direction; -/
abbrev sndA : Bool → DmaSems sig S16
  | true => cc0_scratch6
  | false => cc0_scratch8
/-- of the arrivals; -/
abbrev rcvA : Bool → DmaSems sig S16
  | true => cc0_scratch7
  | false => cc0_scratch9
/-- the credit semaphores. -/
abbrev crdA : Bool → Sems sig S_
  | true => cc0_scratch10
  | false => cc0_scratch11

/-! ### The tiles -/

theorem slot_inb (r s : ℕ) : ∀ a, (![r % 4, s % 4, 0, 0] : Fin 4 → ℕ) a + S1x1x512x512.size a ≤ S4x4x512x512.size a := by
  intro a; have := Nat.mod_lt r (show 0 < 4 by decide); have := Nat.mod_lt s (show 0 < 4 by decide)
  fin_cases a <;> simp [S1x1x512x512, S4x4x512x512] <;> omega

/-- Chunk slot `(r, s)` of a travelling buffer. -/
abbrev slotR (r s : ℕ) : Rect S4x4x512x512 :=
  Rect.unit (s := S4x4x512x512) ![r % 4, s % 4, 0, 0] S1x1x512x512.size (slot_inb r s)

theorem slot_packed (r s : ℕ) : (slotR r s).PackedRows (EltTy.packing .bf16) := by
  have h : ∀ a b : Fin 4, (slotR a b).PackedRows (EltTy.packing .bf16) := by decide
  have := h ⟨r % 4, Nat.mod_lt _ (by decide)⟩ ⟨s % 4, Nat.mod_lt _ (by decide)⟩
  simpa only [slotR, Nat.mod_mod] using this

theorem slot_words (r s : ℕ) : (slotR r s).WholeWords (EltTy.packing .bf16) := by
  have h : ∀ a b : Fin 4, (slotR a b).WholeWords (EltTy.packing .bf16) := by decide
  have := h ⟨r % 4, Nat.mod_lt _ (by decide)⟩ ⟨s % 4, Nat.mod_lt _ (by decide)⟩
  simpa only [slotR, Nat.mod_mod] using this

theorem buf_whole (d : Bool) : (bufM d).IsWhole := by cases d <;> exact Memref.isWhole_whole _

/-- The chunk slot as a transfer sees it. -/
abbrev slotM (d : Bool) (r s : ℕ) : Memref sig .tc .vmem S512x512 .bf16 :=
  ((bufM d).slice (slotR r s) (fun _ => rfl)).squeeze S512x512 squeezes_S1x1x512x512_S512x512

theorem slotM_words (d : Bool) (r s : ℕ) : (slotM d r s).view.WordExact :=
  ((buf_whole d).wordExact_slice rfl _ (slot_words r s)).reshape _ _

theorem idx16_inb (i : ℕ) : ∀ a, (![i % 16] : Fin 1 → ℕ) a + S1.size a ≤ S16.size a := by
  intro a; have := Nat.mod_lt i (show 0 < 16 by decide); fin_cases a; simp [S1, S16]; omega

/-- Entry `i` of an array of sixteen semaphores. -/
abbrev at16 (A : DmaSems sig S16) (i : ℕ) : DmaSem sig :=
  ((A.slice (Rect.unit (s := S16) ![i % 16] S1.size (idx16_inb i))).squeeze S_ squeezes_S1_S_).sem

theorem idx2_inb (i : ℕ) : ∀ a, (![i % 2] : Fin 1 → ℕ) a + S1.size a ≤ S2.size a := by
  intro a; have := Nat.mod_lt i (show 0 < 2 by decide); fin_cases a; simp [S1, S2]; omega

/-- The weight tiles' two semaphores. -/
abbrev wSem (i : ℕ) : DmaSem sig :=
  ((cc0_scratch12.slice (Rect.unit (s := S2) ![i % 2] S1.size (idx2_inb i))).squeeze S_ squeezes_S1_S_).sem

theorem idx8_inb (i : ℕ) : ∀ a, (![i % 8] : Fin 1 → ℕ) a + S1.size a ≤ S8.size a := by
  intro a; have := Nat.mod_lt i (show 0 < 8 by decide); fin_cases a; simp [S1, S8]; omega

/-- The result slabs' eight semaphores. -/
abbrev oSem (i : ℕ) : DmaSem sig :=
  ((cc0_scratch13.slice (Rect.unit (s := S8) ![i % 8] S1.size (idx8_inb i))).squeeze S_ squeezes_S1_S_).sem

theorem wrow_inb (k : ℕ) : ∀ a, (![512 * (k % 8), 0] : Fin 2 → ℕ) a + S512x1024.size a ≤ S4096x1024.size a := by
  intro a; have := Nat.mod_lt k (show 0 < 8 by decide); fin_cases a <;> simp [S512x1024, S4096x1024]; omega

/-- Rows `512 k …` of the weights. -/
abbrev wrowR (k : ℕ) : Rect S4096x1024 :=
  Rect.unit (s := S4096x1024) ![512 * (k % 8), 0] S512x1024.size (wrow_inb k)

theorem wrow_packed (k : ℕ) : (wrowR k).PackedRows (EltTy.packing .bf16) := by
  have h : ∀ a : Fin 8, (wrowR a).PackedRows (EltTy.packing .bf16) := by decide
  have := h ⟨k % 8, Nat.mod_lt _ (by decide)⟩
  simpa only [wrowR, Nat.mod_mod] using this

theorem two_inb (k : ℕ) : ∀ a, (![k % 2, 0, 0] : Fin 3 → ℕ) a + S1x512x1024.size a ≤ S2x512x1024.size a := by
  intro a; have := Nat.mod_lt k (show 0 < 2 by decide); fin_cases a <;> simp [S1x512x1024, S2x512x1024]; omega
/-- One of two tiles. -/
abbrev twoR (k : ℕ) : Rect S2x512x1024 :=
  Rect.unit (s := S2x512x1024) ![k % 2, 0, 0] S1x512x1024.size (two_inb k)

theorem six_inb (k : ℕ) : ∀ a, (![k % 6, 0, 0] : Fin 3 → ℕ) a + S1x512x1024.size a ≤ S6x512x1024.size a := by
  intro a; have := Nat.mod_lt k (show 0 < 6 by decide); fin_cases a <;> simp [S1x512x1024, S6x512x1024]; omega
/-- One of six tiles. -/
abbrev sixR (k : ℕ) : Rect S6x512x1024 :=
  Rect.unit (s := S6x512x1024) ![k % 6, 0, 0] S1x512x1024.size (six_inb k)

theorem xcol_inb (k : ℕ) : ∀ a, (![0, 512 * (k % 8)] : Fin 2 → ℕ) a + S512x512.size a ≤ S512x4096.size a := by
  intro a; have := Nat.mod_lt k (show 0 < 8 by decide); fin_cases a <;> simp [S512x512, S512x4096]; omega
/-- Columns `512 k …` of the activations. -/
abbrev xcolR (k : ℕ) : Rect S512x4096 :=
  Rect.unit (s := S512x4096) ![0, 512 * (k % 8)] S512x512.size (xcol_inb k)

abbrev wsT (k : ℕ) : Memref sig .tc .vmem S512x1024 .f32 :=
  (wsM.slice (twoR k) (fun _ => rfl)).squeeze S512x1024 squeezes_S1x512x1024_S512x1024
abbrev osT (k : ℕ) : Memref sig .tc .vmem S512x1024 .f32 :=
  (osM.slice (twoR k) (fun _ => rfl)).squeeze S512x1024 squeezes_S1x512x1024_S512x1024
abbrev acT (k : ℕ) : Memref sig .tc .vmem S512x1024 .f32 :=
  (acM.slice (sixR k) (fun _ => rfl)).squeeze S512x1024 squeezes_S1x512x1024_S512x1024
abbrev wT (k : ℕ) : Memref sig .tc .hbm S512x1024 .f32 := wM.slice (wrowR k) (fun _ => rfl)

/-- The tile that result slab `i` is sent from. -/
abbrev srcT : ℕ → Memref sig .tc .vmem S512x1024 .f32
  | 0 => osT 0
  | 1 => osT 1
  | 2 => acT 5
  | 3 => acT 4
  | 4 => acT 3
  | 5 => acT 2
  | 6 => acT 1
  | _ => acT 0

/-- The rows of result slab `i`. -/
abbrev oOff (c : Dev nD) : ℕ → Fin 2 → ℕ
  | 0 => k0_off1 c
  | 1 => k0_off2 c 3#32
  | 2 => k0_off2 c 4#32
  | 3 => k0_off3 c 4#32
  | 4 => k0_off2 c 5#32
  | 5 => k0_off3 c 5#32
  | 6 => k0_off2 c 6#32
  | _ => k0_off3 c 6#32

theorem oOff_inb (c : Dev nD) (i : ℕ) : ∀ a, oOff c i a + S512x1024.size a ≤ S4096x1024.size a := by
  match i with
  | 0 => exact k0_off1_inb c
  | 1 => exact k0_off2_inb c 0
  | 2 => exact k0_off2_inb c 1
  | 3 => exact k0_off3_inb c 0
  | 4 => exact k0_off2_inb c 2
  | 5 => exact k0_off3_inb c 1
  | 6 => exact k0_off2_inb c 3
  | _ + 7 => exact k0_off3_inb c 2

abbrev oR (c : Dev nD) (i : ℕ) : Rect S4096x1024 :=
  Rect.unit (s := S4096x1024) (oOff c i) S512x1024.size (oOff_inb c i)
abbrev oT (c : Dev nD) (i : ℕ) : Memref sig .tc .hbm S512x1024 .f32 := oM.slice (oR c i) (fun _ => rfl)

theorem srcT_words (i : ℕ) : (srcT i).view.WordExact := by
  match i with
  | 0 | 1 | 2 | 3 | 4 | 5 | 6 | _ + 7 => exact (View.wordExact_bits rfl).reshape _ _

/-! ### The values -/

/-- A chunk of activations as it is stored. -/
def packV (x : Vec F S512x512 .f32) : FVec F S1x1x512x512 .bf16 := k0_pay1 x
/-- A tile of weights as it is stored. -/
def wbV (x : Vec F S1x512x1024 .f32) : FVec F S512x1024 .bf16 := k0_pay10 x
/-- One chunk times one tile. -/
def mm (a : Vec F S1x1x512x512 .bf16) (b : Vec F S512x1024 .bf16) : FVec F S512x1024 .f32 := k0_pay18 a b
/-- A tile with the leading axis. -/
def up (a : FVec F S512x1024 .f32) : FVec F S1x512x1024 .f32 := k0_pay40 a
/-- A tile without it. -/
def down (a : Vec F S1x512x1024 .f32) : FVec F S512x1024 .f32 := shapeCast S512x1024 a shapeCasts_S1x512x1024_S512x1024
/-- The activation and the leading axis. -/
def fin (a : FVec F S512x1024 .f32) : FVec F S1x512x1024 .f32 := k0_pay72 a

/-! ### The devices that are addressed -/

/-- The device that direction `d` sends to. -/
def tgtW (c : Dev nD) : Bool → Dev nD
  | true => ⟨k0_dev3 c, k0_dev3_lt c⟩
  | false => ⟨k0_dev4 c, k0_dev4_lt c⟩

/-! ### The fragments -/

def wStart (k : ℕ) : Prog (PE F) PUnit :=
  Prog.lift (.enqueueDma (wT k) (.here (wsT k)) (.dma (wSem k)) (View.wordExact_bits rfl) ((View.wordExact_bits rfl).reshape _ _) ⟨Or.inl rfl, trivial⟩)

def pack1 (d : Bool) (k s : ℕ) : Prog (PE F) PUnit := do
  let v : Vec F S512x512 .f32 ← Prog.lift (.load xM (xcolR k).toLoadRect (View.loadsAt_vmem h_S512x512))
  let _ : Vec F S1x1x512x512 .bf16 ← Prog.lift (.load (bufM d) (slotR 0 s).toLoadRect (View.loadsAt_vmem h_S1x1x512x512))
  Prog.lift (.store (bufM d) (slotR 0 s) (packV v) Finset.univ (View.stores_vmem h_S1x1x512x512 ((buf_whole d).storeExact_slice rfl _ (slot_packed 0 s)) (fun _ => rfl)) (.inl rfl))

def pack (s : ℕ) : Prog (PE F) PUnit := do
  pack1 true s s
  pack1 false (s + 4) s

def barrier (c : Dev nD) : Prog (PE F) PUnit := do
  semSignalWord (tgtW c false) (SemArray.scalar (sig.barrier 0 rfl) : Sems sig S_).sem 1#32
  semSignalWord (tgtW c true) (SemArray.scalar (sig.barrier 0 rfl) : Sems sig S_).sem 1#32
  semWaitWord (SemArray.scalar (sig.barrier 0 rfl) : Sems sig S_).sem 2#32

/-- The transfer of hop `h`. -/
def send (c : Dev nD) (d : Bool) (h s : ℕ) : Prog (PE F) PUnit :=
  Prog.lift (.enqueueDma (slotM d h s) (.remote (Dev.tc (tgtW c d)) (slotM d (h + 1) s) (.dma (at16 (sndA d) (4 * (h % 4) + s)))) (.dma (at16 (rcvA d) (4 * (h % 4) + s)))
    (slotM_words d h s) (slotM_words d (h + 1) s) ⟨⟨rfl, Or.inl rfl⟩, trivial⟩)

def sends (c : Dev nD) (h s : ℕ) : Prog (PE F) PUnit := do
  send c true h s
  send c false h s

def waitRecv (d : Bool) (h s : ℕ) : Prog (PE F) PUnit :=
  Prog.lift (.waitDma2 (at16 (rcvA d) (4 * (h % 4) + s)) (slotM d h s) (slotM d (h + 1) s) (slotM_words d h s) (slotM_words d (h + 1) s))

def waitSend (d : Bool) (h s : ℕ) : Prog (PE F) PUnit :=
  Prog.lift (.waitDma2 (at16 (sndA d) (4 * (h % 4) + s)) (slotM d (h + 1) s) (slotM d h s) (slotM_words d (h + 1) s) (slotM_words d h s))

def wTile (k : ℕ) : Prog (PE F) PUnit := do
  Prog.lift (.waitDma2 (wSem k) (wT k) (wsT k) (View.wordExact_bits rfl) ((View.wordExact_bits rfl).reshape _ _))
  if k < 7 then wStart (k + 1) else pure ⟨⟩
  let v : Vec F S1x512x1024 .f32 ← Prog.lift (.load wsM (twoR k).toLoadRect (View.loadsAt_vmem h_S1x512x1024))
  let _ : Vec F S512x1024 .bf16 ← Prog.lift (.load wbM (wrowR k).toLoadRect (View.loadsAt_vmem h_S512x1024))
  Prog.lift (.store wbM (wrowR k) (wbV v) Finset.univ (View.stores_vmem h_S512x1024 ((Memref.isWhole_whole _).storeExact_slice rfl _ (wrow_packed k)) (fun _ => rfl)) (.inl rfl))

/-- One chunk times its weights. -/
def mul1 (d : Bool) (r s k : ℕ) : Prog (PE F) (FVec F S512x1024 .f32) := do
  let a : Vec F S1x1x512x512 .bf16 ← Prog.lift (.load (bufM d) (slotR r s).toLoadRect (View.loadsAt_vmem h_S1x1x512x512))
  let b : Vec F S512x1024 .bf16 ← Prog.lift (.load wbM (wrowR k).toLoadRect (View.loadsAt_vmem h_S512x1024))
  pure (mm a b)

def loadAcc (k : ℕ) : Prog (PE F) (Vec F S1x512x1024 .f32) :=
  Prog.lift (.load acM (sixR k).toLoadRect (View.loadsAt_vmem h_S1x512x1024))

def storeAcc (k : ℕ) (v : FVec F S1x512x1024 .f32) : Prog (PE F) PUnit := do
  let _ ← loadAcc k
  Prog.lift (.store acM (sixR k) v Finset.univ (View.stores_vmem_bits_univ h_S1x512x1024 rfl) (.inl rfl))

def storeOst (k : ℕ) (v : FVec F S1x512x1024 .f32) : Prog (PE F) PUnit := do
  let _ : Vec F S1x512x1024 .f32 ← Prog.lift (.load osM (twoR k).toLoadRect (View.loadsAt_vmem h_S1x512x1024))
  Prog.lift (.store osM (twoR k) v Finset.univ (View.stores_vmem_bits_univ h_S1x512x1024 rfl) (.inl rfl))

def push (c : Dev nD) (i : ℕ) : Prog (PE F) PUnit :=
  Prog.lift (.enqueueDma (srcT i) (.here (oT c i)) (.dma (oSem i)) (srcT_words i) (View.wordExact_bits rfl) ⟨Or.inl rfl, trivial⟩)

def waitPush (c : Dev nD) (i : ℕ) : Prog (PE F) PUnit :=
  Prog.lift (.waitDma2 (oSem i) (srcT i) (oT c i) (srcT_words i) (View.wordExact_bits rfl))

/-- The arrivals of hop `h`, sub-block `s`, forwarded. -/
def arrive (c : Dev nD) (h s : ℕ) : Prog (PE F) PUnit := do
  waitRecv true h s
  waitRecv false h s
  if s = 0 ∧ 2 ≤ h ∧ h < 6 then do
    semWaitWord (crdA true).sem 1#32
    semWaitWord (crdA false).sem 1#32
  else pure ⟨⟩
  if h < 6 then sends c (h + 1) s else pure ⟨⟩

def sub0 (c : Dev nD) (h : ℕ) : Prog (PE F) (FVec F S512x1024 .f32 × FVec F S512x1024 .f32) := do
  arrive c h 0
  let a ← mul1 true (h + 1) 0 0
  let b ← mul1 false (h + 1) 0 4
  if 3 < h then do
    let u ← loadAcc (2 * (6 - h) + 1)
    let v ← loadAcc (2 * (6 - h))
    pure (addf a (down u), addf b (down v))
  else pure (a, b)

def subS (c : Dev nD) (h s : ℕ) (p : FVec F S512x1024 .f32 × FVec F S512x1024 .f32) :
    Prog (PE F) (FVec F S512x1024 .f32 × FVec F S512x1024 .f32) := do
  arrive c h s
  let a ← mul1 true (h + 1) s s
  let b ← mul1 false (h + 1) s (s + 4)
  pure (addf p.1 a, addf p.2 b)

def finish (c : Dev nD) (h : ℕ) (p : FVec F S512x1024 .f32 × FVec F S512x1024 .f32) : Prog (PE F) PUnit :=
  if h < 3 then do
    storeAcc (2 * h) (up p.1)
    storeAcc (2 * h + 1) (up p.2)
  else if h = 3 then do
    storeOst 1 (fin (addf p.1 p.2))
    push c 1
  else do
    storeAcc (2 * (6 - h) + 1) (fin p.1)
    push c (2 * h - 6)
    storeAcc (2 * (6 - h)) (fin p.2)
    push c (2 * h - 5)

/-- The device's own rows. -/
def own (c : Dev nD) : Prog (PE F) PUnit := do
  let y ← mul1 true 0 0 0
  let a ← mul1 true 0 1 1
  let y := addf y a
  let a ← mul1 true 0 2 2
  let y := addf y a
  let a ← mul1 true 0 3 3
  let y := addf y a
  let a ← mul1 false 0 0 4
  let y := addf y a
  let a ← mul1 false 0 1 5
  let y := addf y a
  let a ← mul1 false 0 2 6
  let y := addf y a
  let a ← mul1 false 0 3 7
  let y := addf y a
  storeOst 0 (fin y)
  push c 0

def drain (h s : ℕ) : Prog (PE F) PUnit := do
  waitSend true h s
  waitSend false h s

def credit (c : Dev nD) : Prog (PE F) PUnit := do
  semSignalWord (tgtW c false) (crdA true).sem 1#32
  semSignalWord (tgtW c true) (crdA false).sem 1#32

def hop (c : Dev nD) (h : ℕ) : Prog (PE F) PUnit := do
  let p ← sub0 c h
  let p ← subS c h 1 p
  let p ← subS c h 2 p
  let p ← subS c h 3 p
  finish c h p
  if h = 0 then own c else pure ⟨⟩
  drain h 0
  drain h 1
  drain h 2
  drain h 3
  if h ≤ 3 then credit c else pure ⟨⟩

/-- `p 0`, …, `p (n - 1)` in order. -/
def seqN (p : ℕ → Prog (PE F) PUnit) : ℕ → Prog (PE F) PUnit
  | 0 => pure ⟨⟩
  | n + 1 => do
    seqN p n
    p n

def bodyAt (c : Dev nD) : Prog (PE F) PUnit := do
  wStart 0
  seqN pack 4
  barrier c
  seqN (sends c 0) 4
  seqN wTile 8
  seqN (hop c) 7
  seqN (waitPush c) 8

def body : Prog (PE F) PUnit := do
  let c : Dev nD ← Prog.lift .deviceId
  bodyAt c

omit [FloatOps F] in
/-- Two programs that begin with the same effect and continue alike are equal. -/
theorem op_step {α β : Type} {e e' : PE F β} {k k' : β → Prog (PE F) α} (he : e = e') (hk : ∀ x, k x = k' x) :
    Prog.op e k = Prog.op e' k' := by
  subst he; exact congrArg _ (funext hk)

set_option maxRecDepth 65536 in
set_option maxHeartbeats 0 in
/-- The printed body is `body`. -/
theorem body_eq : (bodyAt0 (F := F) t0_0) = body := by
  unfold bodyAt0
  rw [cc0_body_eq_skeleton]
  repeat (refine op_step rfl fun _ => ?_)
  rfl

end Cert.Proof
-- ==== Proof.Vals.lean ====
/-
  The ring, the contents of every tile, and the ownership of tiles: what the kernel computes, as functions of what the
  devices hold at the start.
-/
module

public import proofs.«01_k».proof.Proof.Prog
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ### The ring -/

set_option backward.proofsInPublic true in
/-- The device that direction `d` sends to. -/
def tgt (d : Bool) (c : Dev nD) : Dev nD := if d then ⟨(c.val + 1) % 8, Nat.mod_lt _ (by decide)⟩ else ⟨(c.val + 7) % 8, Nat.mod_lt _ (by decide)⟩

theorem tgt_not (d : Bool) (c : Dev nD) : tgt (!d) (tgt d c) = c := by revert d c; decide
theorem tgt_not' (d : Bool) (c : Dev nD) : tgt d (tgt (!d) c) = c := by revert d c; decide
theorem tgt_ne (c : Dev nD) : tgt true c ≠ tgt false c := by revert c; decide

theorem tgtW_eq (c : Dev nD) (d : Bool) : tgtW c d = tgt d c := by
  cases d
  · exact Fin.ext (k0_dev4_eq c)
  · exact Fin.ext (k0_dev3_eq c)

/-- The devices permuted by one step. -/
def ring (d : Bool) : Dev nD ≃ Dev nD := ⟨tgt d, tgt (!d), tgt_not d, tgt_not' d⟩

/-- Whose rows arrive at `c` after `j` hops in direction `d`. -/
def org (d : Bool) (c : Dev nD) : ℕ → Dev nD
  | 0 => c
  | j + 1 => org d (tgt (!d) c) j

theorem org_tgt (d : Bool) (c : Dev nD) (j : ℕ) : org d (tgt d c) (j + 1) = org d c j := by rw [org, tgt_not]

/-! ### The contents -/

variable (m : (ℓ : Loc nD τ sig) → Buf (Elt F) ℓ) (ρ : Dev nD → PrngReg)

/-- The memory at launch. -/
def s₀ : MemSt nD τ sig (Elt F) := ⟨m, fun _ => 0, ρ⟩

/-- The device's rows of the activations. -/
def xv (c : Dev nD) : FVec F S512x4096 .f32 :=
  (win0_0.blk (0 : Fin 1)).view.read (Elt F) ((s₀ m ρ).mem ((c : Thread nD τ).loc main_arg0))
/-- Its columns of the weights. -/
def wv (c : Dev nD) : FVec F S4096x1024 .f32 := m ((c : Thread nD τ).loc main_arg1)
/-- What the result buffer holds at the start. -/
def ov (c : Dev nD) : FVec F S4096x1024 .f32 := m ((c : Thread nD τ).loc main_v1)

theorem numel_tile : S512x1024.numel = S1x512x1024.numel := by decide
theorem numel_chunk : S512x512.numel = S1x1x512x512.numel := by decide

/-- A tile without its leading axes. -/
abbrev sq {α : Type} {s s' : Shape} (h : s'.numel = s.numel) (X : s.Idx → α) : s'.Idx → α := fun i => X (Shape.reshapeEquiv h i)
/-- And with them. -/
abbrev usq {α : Type} {s s' : Shape} (h : s'.numel = s.numel) (X : s'.Idx → α) : s.Idx → α := fun i => X ((Shape.reshapeEquiv h).symm i)

theorem sq_usq {α : Type} {s s' : Shape} (h : s'.numel = s.numel) (X : s'.Idx → α) : sq h (usq h X) = X :=
  funext fun i => congrArg X (Equiv.symm_apply_apply _ i)
theorem usq_sq {α : Type} {s s' : Shape} (h : s'.numel = s.numel) (X : s.Idx → α) : usq h (sq h X) = X :=
  funext fun i => congrArg X (Equiv.apply_symm_apply _ i)

/-- The block of columns that sub-block `s` of direction `d` carries. -/
abbrev blk (d : Bool) (s : ℕ) : ℕ := if d then s else s + 4

/-- Sub-block `s` of the rows that reach `c` after `j` hops in direction `d`. -/
def chunk (d : Bool) (c : Dev nD) (j s : ℕ) : FVec F S1x1x512x512 .bf16 :=
  packV (fun i => xv m ρ (org d c j) ((xcolR (blk d s)).emb i))

theorem chunk_tgt (d : Bool) (c : Dev nD) (j s : ℕ) : chunk m ρ d (tgt d c) (j + 1) s = chunk m ρ d c j s := by
  unfold chunk; rw [org_tgt]

/-- Tile `k` of the weights as fetched, -/
def wrow (c : Dev nD) (k : ℕ) : FVec F S512x1024 .f32 := fun i => wv m c ((wrowR k).emb i)
/-- as staged, -/
def wst (c : Dev nD) (k : ℕ) : FVec F S1x512x1024 .f32 := usq numel_tile (wrow m c k)
/-- and rounded. -/
def wb (c : Dev nD) (k : ℕ) : FVec F S512x1024 .bf16 := wbV (wst m c k)

/-- Sub-block `s` of the rows after `j` hops times its weights. -/
def prod (d : Bool) (c : Dev nD) (j s : ℕ) : FVec F S512x1024 .f32 := mm (chunk m ρ d c j s) (wb m c (blk d s))

/-- The half product that hop `h` completes, started from `u`. -/
def chain (d : Bool) (c : Dev nD) (j : ℕ) (u : FVec F S512x1024 .f32) : FVec F S512x1024 .f32 :=
  addf (addf (addf u (prod m ρ d c j 1)) (prod m ρ d c j 2)) (prod m ρ d c j 3)

/-- The half product of the first hops. -/
def half (d : Bool) (c : Dev nD) (h : ℕ) : FVec F S512x1024 .f32 := chain m ρ d c (h + 1) (prod m ρ d c (h + 1) 0)

/-- The whole product of the last hops: the half product with the half that the other direction brought. -/
def full (d : Bool) (c : Dev nD) (h : ℕ) : FVec F S512x1024 .f32 :=
  chain m ρ d c (h + 1) (addf (prod m ρ d c (h + 1) 0) (down (up (half m ρ (!d) c (6 - h)))))

/-- The product of the device's own rows. -/
def ownP (c : Dev nD) : FVec F S512x1024 .f32 :=
  addf (addf (addf (addf (addf (addf (addf (prod m ρ true c 0 0) (prod m ρ true c 0 1)) (prod m ρ true c 0 2)) (prod m ρ true c 0 3))
    (prod m ρ false c 0 0)) (prod m ρ false c 0 1)) (prod m ρ false c 0 2)) (prod m ρ false c 0 3)

/-- Slab `i` of the result with its leading axis, -/
def slab (c : Dev nD) : ℕ → FVec F S1x512x1024 .f32
  | 0 => fin (ownP m ρ c)
  | 1 => fin (addf (half m ρ true c 3) (half m ρ false c 3))
  | 2 => fin (full m ρ true c 4)
  | 3 => fin (full m ρ false c 4)
  | 4 => fin (full m ρ true c 5)
  | 5 => fin (full m ρ false c 5)
  | 6 => fin (full m ρ true c 6)
  | _ => fin (full m ρ false c 6)
/-- and as it is sent. -/
def outV (c : Dev nD) (i : ℕ) : FVec F S512x1024 .f32 := sq numel_tile (slab m ρ c i)

/-! ### The ghost state -/

/-- A lane's slot: device, direction, slot, sub-block. -/
abbrev Key : Type := Dev nD × Bool × ℕ × ℕ
abbrev UB : Type := URounds (GSem nD τ sig) ℕ × Release.USlots Key
abbrev UU : Type := UR sig nD τ × UB

abbrev 𝕄 (F : FTy → Type) : Type := MT nD τ sig ℕ (Elt F) ℕ UU ℕ

abbrev EP : Emb (UR sig nD τ) (𝕄 F) := embL
def ER : Emb (URounds (GSem nD τ sig) ℕ) (𝕄 F) := (Emb.inl : Emb (URounds (GSem nD τ sig) ℕ) UB).trans embR
def ES : Emb (Release.USlots Key) (𝕄 F) := (Emb.inr : Emb (Release.USlots Key) UB).trans embR

instance ER_landsIn : (ER : Emb _ (𝕄 F)).LandsIn (upEmb : UEmb _ (𝕄 F)) := by unfold ER embR; infer_instance
instance ES_landsIn : (ES : Emb _ (𝕄 F)).LandsIn (upEmb : UEmb _ (𝕄 F)) := by unfold ES embR; infer_instance

end Cert.Proof
-- ==== Proof.Proto.lean ====
/-
  The protocol: every semaphore's schedule of duties with what each hands over, the levels of the waits and what a device
  owes at every point of its run.

  A device's barrier cell has one duty per direction: the device that direction sends to hands over the slots that the
  first three hops fill. A send cell hands the sender back the half of the chunk it lent, an arrival cell the chunk that
  arrived. Hops three to six fill slots that the receiver has read before: the receiver gives such a slot up when its own
  send out of it is complete, and its credit signal tells the sender so. The sender counts the credits of one direction on
  one semaphore; the `k`-th carries the news of the first `k + 1` slots, so that any `n + 1` credits tell of slot `n`.
-/
module

public import proofs.«01_k».proof.Proof.Vals

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
variable (m : (ℓ : Loc nD τ sig) → Buf (Elt F) ℓ) (ρ : Dev nD → PrngReg)

/-! ### The cells -/

abbrev barS : Sem sig := (SemArray.scalar (sig.barrier 0 rfl) : Sems sig S_).sem

abbrev barC (c : Dev nD) : GSem nD τ sig := ((c : Thread nD τ), .reg barS)
abbrev crdC (d : Bool) (c : Dev nD) : GSem nD τ sig := ((c : Thread nD τ), .reg (crdA d).sem)
/-- The send cell of hop `h`, sub-block `s`; -/
abbrev sndC (d : Bool) (h s : ℕ) (c : Dev nD) : GSem nD τ sig := ((c : Thread nD τ), .dma (at16 (sndA d) (4 * (h % 4) + s)))
/-- the arrival cell. -/
abbrev rcvC (d : Bool) (h s : ℕ) (c : Dev nD) : GSem nD τ sig := ((c : Thread nD τ), .dma (at16 (rcvA d) (4 * (h % 4) + s)))
abbrev wC (k : ℕ) (c : Dev nD) : GSem nD τ sig := ((c : Thread nD τ), .dma (wSem k))
abbrev oC (i : ℕ) (c : Dev nD) : GSem nD τ sig := ((c : Thread nD τ), .dma (oSem i))

/-- What a semaphore is for. -/
inductive Use where
  | bar
  | crd (d : Bool)
  | snd (d : Bool) (i : ℕ)
  | rcv (d : Bool) (i : ℕ)
  | wgt (i : ℕ)
  | out (i : ℕ)
  | other
  deriving DecidableEq

/-- The uses of the transfers' semaphores, by number. -/
def useN (q : ℕ) : Use :=
  if q = 0 then .other else if q ≤ 16 then .snd true (q - 1) else if q ≤ 32 then .rcv true (q - 17) else if q ≤ 48 then .snd false (q - 33)
  else if q ≤ 64 then .rcv false (q - 49) else if q ≤ 66 then .wgt (q - 65) else if q ≤ 74 then .out (q - 67) else .other

def use : SemLoc sig → Use
  | .reg s => if s = barS then .bar else if s = (crdA true).sem then .crd true else if s = (crdA false).sem then .crd false else .other
  | .dma q => useN q.val

theorem at16_congr (A : DmaSems sig S16) {i j : ℕ} (h : i % 16 = j % 16) : at16 A i = at16 A j := by
  have key : ∀ (a b : ℕ) (ha) (hb), a = b → ((A.slice (Rect.unit (s := S16) ![a] S1.size ha)).squeeze S_ squeezes_S1_S_).sem
      = ((A.slice (Rect.unit (s := S16) ![b] S1.size hb)).squeeze S_ squeezes_S1_S_).sem := by rintro a _ _ _ rfl; rfl
  exact key _ _ (idx16_inb i) (idx16_inb j) h
theorem wSem_congr {i j : ℕ} (h : i % 2 = j % 2) : wSem i = wSem j := by
  have key : ∀ (a b : ℕ) (ha) (hb), a = b → ((cc0_scratch12.slice (Rect.unit (s := S2) ![a] S1.size ha)).squeeze S_ squeezes_S1_S_).sem
      = ((cc0_scratch12.slice (Rect.unit (s := S2) ![b] S1.size hb)).squeeze S_ squeezes_S1_S_).sem := by rintro a _ _ _ rfl; rfl
  exact key _ _ (idx2_inb i) (idx2_inb j) h
theorem oSem_congr {i j : ℕ} (h : i % 8 = j % 8) : oSem i = oSem j := by
  have key : ∀ (a b : ℕ) (ha) (hb), a = b → ((cc0_scratch13.slice (Rect.unit (s := S8) ![a] S1.size ha)).squeeze S_ squeezes_S1_S_).sem
      = ((cc0_scratch13.slice (Rect.unit (s := S8) ![b] S1.size hb)).squeeze S_ squeezes_S1_S_).sem := by rintro a _ _ _ rfl; rfl
  exact key _ _ (idx8_inb i) (idx8_inb j) h

theorem use_bar : use (.reg barS) = .bar := by decide
theorem use_crd (d : Bool) : use (.reg (crdA d).sem) = .crd d := by revert d; decide

theorem use_snd' (d : Bool) (i : ℕ) : use (.dma (at16 (sndA d) i)) = .snd d (i % 16) := by
  have h : ∀ (d : Bool) (i : Fin 16), use (.dma (at16 (sndA d) i)) = .snd d i := by decide
  rw [at16_congr _ (Nat.mod_mod i 16).symm]
  exact h d ⟨i % 16, Nat.mod_lt _ (by decide)⟩
theorem use_rcv' (d : Bool) (i : ℕ) : use (.dma (at16 (rcvA d) i)) = .rcv d (i % 16) := by
  have h : ∀ (d : Bool) (i : Fin 16), use (.dma (at16 (rcvA d) i)) = .rcv d i := by decide
  rw [at16_congr _ (Nat.mod_mod i 16).symm]
  exact h d ⟨i % 16, Nat.mod_lt _ (by decide)⟩
theorem use_w (k : ℕ) : use (.dma (wSem k)) = .wgt (k % 2) := by
  have h : ∀ (i : Fin 2), use (.dma (wSem i)) = .wgt i := by decide
  rw [wSem_congr (Nat.mod_mod k 2).symm]
  exact h ⟨k % 2, Nat.mod_lt _ (by decide)⟩
theorem use_o (k : ℕ) : use (.dma (oSem k)) = .out (k % 8) := by
  have h : ∀ (i : Fin 8), use (.dma (oSem i)) = .out i := by decide
  rw [oSem_congr (Nat.mod_mod k 8).symm]
  exact h ⟨k % 8, Nat.mod_lt _ (by decide)⟩

theorem use_snd (d : Bool) (h : ℕ) {s : ℕ} (hs : s < 4) : use (.dma (at16 (sndA d) (4 * (h % 4) + s))) = .snd d (4 * (h % 4) + s) := by
  rw [use_snd', Nat.mod_eq_of_lt (by omega)]
theorem use_rcv (d : Bool) (h : ℕ) {s : ℕ} (hs : s < 4) : use (.dma (at16 (rcvA d) (4 * (h % 4) + s))) = .rcv d (4 * (h % 4) + s) := by
  rw [use_rcv', Nat.mod_eq_of_lt (by omega)]

/-! ### The tiles owned -/

abbrev fs : PosShare TreeShare := fullShare

/-- Device `c` owns chunk slot `(r, s)` of direction `d` at the share `q`, holding `X`. -/
def slotAt (c : Dev nD) (d : Bool) (r s : ℕ) (q : PosShare TreeShare) (X : FVec F S1x1x512x512 .bf16) : sProp (𝕄 F) :=
  ownsTc c ((bufM d).slice (slotR r s) (fun _ => rfl)) q X
/-- It owns it with any contents. -/
def slotAny (c : Dev nD) (d : Bool) (r s : ℕ) : sProp (𝕄 F) := iprop(∃ X, slotAt c d r s fs X)

instance slotAt_storable (c : Dev nD) (d : Bool) (r s : ℕ) (q : PosShare TreeShare) (X : FVec F S1x1x512x512 .bf16) :
    BI.Storable (upEmb : UEmb _ (𝕄 F)) (slotAt c d r s q X) := by unfold slotAt; infer_instance
instance slotAny_storable (c : Dev nD) (d : Bool) (r s : ℕ) : BI.Storable (upEmb : UEmb _ (𝕄 F)) (slotAny (F := F) c d r s) := by
  unfold slotAny; infer_instance

theorem slotAt_mod (c : Dev nD) (d : Bool) {r r' : ℕ} (s : ℕ) (q : PosShare TreeShare) (X : FVec F S1x1x512x512 .bf16) (h : r % 4 = r' % 4) :
    slotAt c d r s q X = slotAt c d r' s q X := by
  have key : ∀ (a b : ℕ) (ha) (hb), a = b →
      (ownsTc c ((bufM d).slice (Rect.unit (s := S4x4x512x512) ![a, s % 4, 0, 0] S1x1x512x512.size ha) (fun _ => rfl)) q X : sProp (𝕄 F))
        = ownsTc c ((bufM d).slice (Rect.unit (s := S4x4x512x512) ![b, s % 4, 0, 0] S1x1x512x512.size hb) (fun _ => rfl)) q X := by
    rintro a _ _ _ rfl; rfl
  exact key _ _ (slot_inb r s) (slot_inb r' s) h

/-- Weights tile `k` staged, -/
def wstAt (c : Dev nD) (k : ℕ) (X : FVec F S1x512x1024 .f32) : sProp (𝕄 F) := ownsTc c (wsM.slice (twoR k) (fun _ => rfl)) fs X
/-- its rows of the argument, -/
def wrowAt (c : Dev nD) (k : ℕ) (X : FVec F S512x1024 .f32) : sProp (𝕄 F) := ownsTc c (wT k) fs X
/-- and its rows rounded. -/
def wbAt (c : Dev nD) (k : ℕ) (X : FVec F S512x1024 .bf16) : sProp (𝕄 F) := ownsTc c (wbM.slice (wrowR k) (fun _ => rfl)) fs X
/-- A tile of half sums; -/
def accAt (c : Dev nD) (k : ℕ) (X : FVec F S1x512x1024 .f32) : sProp (𝕄 F) := ownsTc c (acM.slice (sixR k) (fun _ => rfl)) fs X
/-- a result tile; -/
def ostAt (c : Dev nD) (k : ℕ) (X : FVec F S1x512x1024 .f32) : sProp (𝕄 F) := ownsTc c (osM.slice (twoR k) (fun _ => rfl)) fs X
/-- the tile that slab `i` is sent from; -/
def srcAt (c : Dev nD) (i : ℕ) (X : FVec F S512x1024 .f32) : sProp (𝕄 F) := ownsTc c (srcT i) fs X
/-- a slab of the result. -/
def outAt (c : Dev nD) (i : ℕ) (X : FVec F S512x1024 .f32) : sProp (𝕄 F) := ownsTc c (oT c i) fs X

instance wstAt_storable (c : Dev nD) (k : ℕ) (X : FVec F S1x512x1024 .f32) : BI.Storable (upEmb : UEmb _ (𝕄 F)) (wstAt c k X) := by
  unfold wstAt; infer_instance
instance wrowAt_storable (c : Dev nD) (k : ℕ) (X : FVec F S512x1024 .f32) : BI.Storable (upEmb : UEmb _ (𝕄 F)) (wrowAt c k X) := by
  unfold wrowAt; infer_instance
instance srcAt_storable (c : Dev nD) (k : ℕ) (X : FVec F S512x1024 .f32) : BI.Storable (upEmb : UEmb _ (𝕄 F)) (srcAt c k X) := by
  unfold srcAt; infer_instance
instance outAt_storable (c : Dev nD) (k : ℕ) (X : FVec F S512x1024 .f32) : BI.Storable (upEmb : UEmb _ (𝕄 F)) (outAt c k X) := by
  unfold outAt; infer_instance

/-! ### The schedule -/

/-- A chunk's credit; -/
def NS (d : Bool) : ℕ := (slotM d 0 0).view.dmaCredit
/-- a weight tile's; -/
def NW : ℕ := (wsT 0).view.dmaCredit
/-- a result slab's. -/
def NO : ℕ := (oT 0 0).view.dmaCredit

theorem NS_pos (d : Bool) : 0 < NS d := View.dmaCredit_pos _ h_S512x512
theorem NW_pos : 0 < NW := View.dmaCredit_pos _ h_S512x1024
theorem NO_pos : 0 < NO := View.dmaCredit_pos _ h_S512x1024

/-- The number that stands for a direction among the barrier's duties. -/
abbrev dn (d : Bool) : ℕ := if d then 1 else 0

def dutiesU : Use → ℕ → Finset ℕ
  | .bar, r => if r = 0 then Finset.range 2 else ∅
  | .crd _, r => if r = 0 then Finset.range 4 else ∅
  | .snd _ i, r => if 4 * r + i / 4 < 7 then {0} else ∅
  | .rcv _ i, r => if 4 * r + i / 4 < 7 then {0} else ∅
  | .wgt _, r => if r < 4 then {0} else ∅
  | .out _, r => if r = 0 then {0} else ∅
  | .other, _ => ∅

def amountU : Use → ℕ
  | .bar => 1
  | .crd _ => 1
  | .snd d _ => NS d
  | .rcv d _ => NS d
  | .wgt _ => NW
  | .out _ => NO
  | .other => 1

/-- That the first `n` slots of direction `d` on device `e` are given up. -/
def news (d : Bool) (e : Dev nD) (n : ℕ) : sProp (𝕄 F) :=
  bigSep (Finset.range 4) fun s => bigSep (Finset.range n) fun j => released ES ((e, d, j, s) : Key) 1
instance news_persistent (d : Bool) (e : Dev nD) (n : ℕ) : BI.Persistent (news (F := F) d e n) := by unfold news; infer_instance
instance news_storable (d : Bool) (e : Dev nD) (n : ℕ) : BI.Storable (upEmb : UEmb _ (𝕄 F)) (news (F := F) d e n) := by unfold news; infer_instance

/-- The slots of direction `d` on device `e` that the first three hops fill. -/
def fresh (d : Bool) (e : Dev nD) : sProp (𝕄 F) :=
  bigSep (Finset.range 4) fun s => bigSep (Finset.range 3) fun h => slotAny e d (h + 1) s
instance fresh_storable (d : Bool) (e : Dev nD) : BI.Storable (upEmb : UEmb _ (𝕄 F)) (fresh (F := F) d e) := by unfold fresh; infer_instance

/-- What an arrival hands over, -/
def arrived (c : Dev nD) (d : Bool) (h s : ℕ) : sProp (𝕄 F) := slotAt c d (h + 1) s fs (chunk m ρ d c (h + 1) s)
/-- what a send hands back, -/
def lent (c : Dev nD) (d : Bool) (h s : ℕ) : sProp (𝕄 F) := slotAt c d h s fs.right (chunk m ρ d c h s)
/-- what a fetched tile of weights hands over, -/
def fetched (c : Dev nD) (k : ℕ) : sProp (𝕄 F) := iprop(wstAt c k (wst m c k) ∗ wrowAt c k (wrow m c k))
/-- and what a slab sent hands back. -/
def sent (c : Dev nD) (i : ℕ) : sProp (𝕄 F) := iprop(outAt c i (outV m ρ c i) ∗ ∃ X, srcAt c i X)

instance arrived_storable (c : Dev nD) (d : Bool) (h s : ℕ) : BI.Storable (upEmb : UEmb _ (𝕄 F)) (arrived m ρ c d h s) := by unfold arrived; infer_instance
instance lent_storable (c : Dev nD) (d : Bool) (h s : ℕ) : BI.Storable (upEmb : UEmb _ (𝕄 F)) (lent m ρ c d h s) := by unfold lent; infer_instance
instance fetched_storable (c : Dev nD) (k : ℕ) : BI.Storable (upEmb : UEmb _ (𝕄 F)) (fetched m c k) := by unfold fetched; infer_instance
instance sent_storable (c : Dev nD) (k : ℕ) : BI.Storable (upEmb : UEmb _ (𝕄 F)) (sent m ρ c k) := by unfold sent; infer_instance

def payU (c : Dev nD) : Use → ℕ → ℕ → sProp (𝕄 F)
  | .bar, _, u => fresh (decide (u = 1)) (tgt (decide (u = 1)) c)
  | .crd d, _, u => news d (tgt d c) (u + 1)
  | .snd d i, r, _ => lent m ρ c d (4 * r + i / 4) (i % 4)
  | .rcv d i, r, _ => arrived m ρ c d (4 * r + i / 4) (i % 4)
  | .wgt i, r, _ => fetched m c (2 * r + i)
  | .out i, _, _ => sent m ρ c i
  | .other, _, _ => iprop(emp)

instance payU_storable (c : Dev nD) (u : Use) (r k : ℕ) : BI.Storable (upEmb : UEmb _ (𝕄 F)) (payU m ρ c u r k) := by
  cases u <;> unfold payU <;> infer_instance

theorem amountU_pos (u : Use) : 0 < amountU u := by
  cases u <;> unfold amountU
  · exact Nat.one_pos
  · exact Nat.one_pos
  · exact NS_pos _
  · exact NS_pos _
  · exact NW_pos
  · exact NO_pos
  · exact Nat.one_pos

def rd : Rounds.Schedule (GSem nD τ sig) ℕ (𝕄 F) where
  duties g r := if g.1.2 = .tc then dutiesU (use g.2) r else ∅
  unitless _ := False
  amount g _ _ := amountU (use g.2)
  payload g r k := payU m ρ g.1.1 (use g.2) r k
  amount_pos g _ _ _ := amountU_pos _

instance rd_storable (g : GSem nD τ sig) (r k : ℕ) : BI.Storable (upEmb : UEmb _ (𝕄 F)) ((rd (F := F) m ρ).payload g r k) := by
  unfold rd; infer_instance

section Facts
variable (c : Dev nD)

theorem duties_tc (sm : SemLoc sig) (r : ℕ) : (rd (F := F) m ρ).duties ((c : Thread nD τ), sm) r = dutiesU (use sm) r := by
  unfold rd; dsimp only; rw [if_pos rfl]

theorem duties_bar : (rd (F := F) m ρ).duties (barC c) 0 = Finset.range 2 := by rw [duties_tc, use_bar]; rfl
theorem duties_crd (d : Bool) : (rd (F := F) m ρ).duties (crdC d c) 0 = Finset.range 4 := by rw [duties_tc, use_crd]; rfl
theorem duties_snd (d : Bool) {h s : ℕ} (hh : h < 7) (hs : s < 4) : (rd (F := F) m ρ).duties (sndC d h s c) (h / 4) = {0} := by
  rw [duties_tc, use_snd d h hs, dutiesU, if_pos (by omega)]
theorem duties_rcv (d : Bool) {h s : ℕ} (hh : h < 7) (hs : s < 4) : (rd (F := F) m ρ).duties (rcvC d h s c) (h / 4) = {0} := by
  rw [duties_tc, use_rcv d h hs, dutiesU, if_pos (by omega)]
theorem duties_w {k : ℕ} (hk : k < 8) : (rd (F := F) m ρ).duties (wC k c) (k / 2) = {0} := by
  rw [duties_tc, use_w, dutiesU, if_pos (by omega)]
theorem duties_o (i : ℕ) : (rd (F := F) m ρ).duties (oC i c) 0 = {0} := by
  rw [duties_tc, use_o, dutiesU, if_pos rfl]

theorem amount_bar (r k : ℕ) : (rd (F := F) m ρ).amount (barC c) r k = 1 := by unfold rd; dsimp only; rw [use_bar]; rfl
theorem amount_crd (d : Bool) (r k : ℕ) : (rd (F := F) m ρ).amount (crdC d c) r k = 1 := by unfold rd; dsimp only; rw [use_crd]; rfl
theorem amount_snd (d : Bool) (h s r k : ℕ) : (rd (F := F) m ρ).amount (sndC d h s c) r k = NS d := by unfold rd; dsimp only; rw [use_snd']; rfl
theorem amount_rcv (d : Bool) (h s r k : ℕ) : (rd (F := F) m ρ).amount (rcvC d h s c) r k = NS d := by unfold rd; dsimp only; rw [use_rcv']; rfl
theorem amount_w (i r k : ℕ) : (rd (F := F) m ρ).amount (wC i c) r k = NW := by unfold rd; dsimp only; rw [use_w]; rfl
theorem amount_o (i r k : ℕ) : (rd (F := F) m ρ).amount (oC i c) r k = NO := by unfold rd; dsimp only; rw [use_o]; rfl

theorem expect_bar : (rd (F := F) m ρ).expect (barC c) 0 = 2 := by
  unfold Schedule.expect Schedule.amountOf
  rw [duties_bar, Finset.sum_congr rfl fun d _ => amount_bar m ρ c 0 d]; rfl
theorem expect_crd (d : Bool) : (rd (F := F) m ρ).expect (crdC d c) 0 = 4 := by
  unfold Schedule.expect Schedule.amountOf
  rw [duties_crd, Finset.sum_congr rfl fun k _ => amount_crd m ρ c d 0 k]; rfl
theorem expect_snd (d : Bool) {h s : ℕ} (hh : h < 7) (hs : s < 4) : (rd (F := F) m ρ).expect (sndC d h s c) (h / 4) = NS d := by
  unfold Schedule.expect Schedule.amountOf; rw [duties_snd m ρ c d hh hs, Finset.sum_singleton, amount_snd]
theorem expect_rcv (d : Bool) {h s : ℕ} (hh : h < 7) (hs : s < 4) : (rd (F := F) m ρ).expect (rcvC d h s c) (h / 4) = NS d := by
  unfold Schedule.expect Schedule.amountOf; rw [duties_rcv m ρ c d hh hs, Finset.sum_singleton, amount_rcv]
theorem expect_w {k : ℕ} (hk : k < 8) : (rd (F := F) m ρ).expect (wC k c) (k / 2) = NW := by
  unfold Schedule.expect Schedule.amountOf; rw [duties_w m ρ c hk, Finset.sum_singleton, amount_w]
theorem expect_o (i : ℕ) : (rd (F := F) m ρ).expect (oC i c) 0 = NO := by
  unfold Schedule.expect Schedule.amountOf; rw [duties_o m ρ c, Finset.sum_singleton, amount_o]

theorem payload_bar (d : Bool) : (rd (F := F) m ρ).payload (barC c) 0 (dn d) = fresh d (tgt d c) := by
  unfold rd; dsimp only; rw [use_bar]; cases d <;> rfl
theorem payload_crd (d : Bool) (k : ℕ) : (rd (F := F) m ρ).payload (crdC d c) 0 k = news d (tgt d c) (k + 1) := by
  unfold rd; dsimp only; rw [use_crd]; rfl
theorem payload_snd (d : Bool) {h s : ℕ} (hs : s < 4) (k : ℕ) : (rd (F := F) m ρ).payload (sndC d h s c) (h / 4) k = lent m ρ c d h s := by
  unfold rd; dsimp only; rw [use_snd d h hs, payU, show 4 * (h / 4) + (4 * (h % 4) + s) / 4 = h by omega, show (4 * (h % 4) + s) % 4 = s by omega]
theorem payload_rcv (d : Bool) {h s : ℕ} (hs : s < 4) (k : ℕ) : (rd (F := F) m ρ).payload (rcvC d h s c) (h / 4) k = arrived m ρ c d h s := by
  unfold rd; dsimp only; rw [use_rcv d h hs, payU, show 4 * (h / 4) + (4 * (h % 4) + s) / 4 = h by omega, show (4 * (h % 4) + s) % 4 = s by omega]
theorem payload_w (i k : ℕ) : (rd (F := F) m ρ).payload (wC i c) (i / 2) k = fetched m c i := by
  unfold rd; dsimp only; rw [use_w, payU, show 2 * (i / 2) + i % 2 = i by omega]
theorem payload_o {i : ℕ} (hi : i < 8) (k : ℕ) : (rd (F := F) m ρ).payload (oC i c) 0 k = sent m ρ c i := by
  unfold rd; dsimp only; rw [use_o, payU, Nat.mod_eq_of_lt hi]

theorem rest_bar : bigSep ((rd (F := F) m ρ).duties (barC c) 0 \ ∅) (fun k => (rd (F := F) m ρ).payload (barC c) 0 k)
    = iprop(fresh false (tgt false c) ∗ fresh true (tgt true c)) := by
  rw [Finset.sdiff_empty, duties_bar, bigSep_eq_bigSepL_of_eq [0, 1] (by decide) (by decide), bigSepL_cons_cons, bigSepL_singleton]
  exact congrArg₂ _ (payload_bar m ρ c false) (payload_bar m ρ c true)
theorem rest_snd (d : Bool) {h s : ℕ} (hh : h < 7) (hs : s < 4) :
    bigSep ((rd (F := F) m ρ).duties (sndC d h s c) (h / 4) \ ∅) (fun k => (rd (F := F) m ρ).payload (sndC d h s c) (h / 4) k) = lent m ρ c d h s := by
  rw [Finset.sdiff_empty, duties_snd m ρ c d hh hs, bigSep_singleton, payload_snd m ρ c d hs]
theorem rest_rcv (d : Bool) {h s : ℕ} (hh : h < 7) (hs : s < 4) :
    bigSep ((rd (F := F) m ρ).duties (rcvC d h s c) (h / 4) \ ∅) (fun k => (rd (F := F) m ρ).payload (rcvC d h s c) (h / 4) k) = arrived m ρ c d h s := by
  rw [Finset.sdiff_empty, duties_rcv m ρ c d hh hs, bigSep_singleton, payload_rcv m ρ c d hs]
theorem rest_w {k : ℕ} (hk : k < 8) :
    bigSep ((rd (F := F) m ρ).duties (wC k c) (k / 2) \ ∅) (fun u => (rd (F := F) m ρ).payload (wC k c) (k / 2) u) = fetched m c k := by
  rw [Finset.sdiff_empty, duties_w m ρ c hk, bigSep_singleton, payload_w m ρ c]
theorem rest_o {i : ℕ} (hi : i < 8) :
    bigSep ((rd (F := F) m ρ).duties (oC i c) 0 \ ∅) (fun u => (rd (F := F) m ρ).payload (oC i c) 0 u) = sent m ρ c i := by
  rw [Finset.sdiff_empty, duties_o m ρ c, bigSep_singleton, payload_o m ρ c hi]

theorem later_bar : ∀ r, 1 ≤ r → (rd (F := F) m ρ).duties (barC c) r = ∅ := fun r hr => by
  rw [duties_tc, use_bar, dutiesU, if_neg (by omega)]
theorem later_crd (d : Bool) : ∀ r, 1 ≤ r → (rd (F := F) m ρ).duties (crdC d c) r = ∅ := fun r hr => by
  rw [duties_tc, use_crd, dutiesU, if_neg (by omega)]
theorem later_snd (d : Bool) {h s : ℕ} (hh : 7 ≤ h) (hs : s < 4) : ∀ r, h / 4 ≤ r → (rd (F := F) m ρ).duties (sndC d h s c) r = ∅ := fun r hr => by
  rw [duties_tc, use_snd d h hs, dutiesU, if_neg (by omega)]
theorem later_rcv (d : Bool) {h s : ℕ} (hh : 7 ≤ h) (hs : s < 4) : ∀ r, h / 4 ≤ r → (rd (F := F) m ρ).duties (rcvC d h s c) r = ∅ := fun r hr => by
  rw [duties_tc, use_rcv d h hs, dutiesU, if_neg (by omega)]
theorem later_w (k : ℕ) : ∀ r, 4 ≤ r → (rd (F := F) m ρ).duties (wC k c) r = ∅ := fun r hr => by
  rw [duties_tc, use_w, dutiesU, if_neg (by omega)]
theorem later_o (i : ℕ) : ∀ r, 1 ≤ r → (rd (F := F) m ρ).duties (oC i c) r = ∅ := fun r hr => by
  rw [duties_tc, use_o, dutiesU, if_neg (by omega)]

end Facts

/-! ### The levels -/

def L (g : GSem nD τ sig) : Finset ℕ := if g.1.2 = .tc then Finset.range 4 else ∅

def lvU : Use → ℕ → ℕ
  | .bar, _ => 1
  | .rcv _ i, u => 2 * (4 * u + i / 4) + 2
  | .crd _, u => 2 * u + 3
  | _, _ => 0

def lv (g : GSem nD τ sig) (u : ℕ) : ℕ := lvU (use g.2) u

theorem L_of_ne (g : GSem nD τ sig) (h : g.1.2 ≠ .tc) : L g = ∅ := if_neg h
theorem L_tc (c : Dev nD) (sm : SemLoc sig) : L ((c : Thread nD τ), sm) = Finset.range 4 := if_pos rfl

theorem lv_bar (c : Dev nD) (u : ℕ) : lv (barC c) u = 1 := by unfold lv; dsimp only; rw [use_bar]; rfl
theorem lv_crd (d : Bool) (c : Dev nD) (u : ℕ) : lv (crdC d c) u = 2 * u + 3 := by unfold lv; dsimp only; rw [use_crd]; rfl
theorem lv_rcv (d : Bool) (c : Dev nD) (h : ℕ) {s : ℕ} (hs : s < 4) : lv (rcvC d h s c) (h / 4) = 2 * h + 2 := by
  unfold lv; dsimp only; rw [use_rcv d h hs, lvU, show 4 * (h / 4) + (4 * (h % 4) + s) / 4 = h by omega]
theorem lv_snd (d : Bool) (c : Dev nD) (h s u : ℕ) : lv (sndC d h s c) u = 0 := by unfold lv; dsimp only; rw [use_snd']; rfl
theorem lv_w (c : Dev nD) (k u : ℕ) : lv (wC k c) u = 0 := by unfold lv; dsimp only; rw [use_w]; rfl
theorem lv_o (c : Dev nD) (k u : ℕ) : lv (oC k c) u = 0 := by unfold lv; dsimp only; rw [use_o]; rfl

/-! ### What a device owes -/

/-- The direction of the `i`-th of a run of pairs. -/
abbrev dirN (i : ℕ) : Bool := decide (i % 2 = 0)

/-- The arrival that the `i`-th send of device `c` announces. -/
def sendT (c : Dev nD) (i : ℕ) : CellTallies nD τ sig ℕ :=
  tallyAt (rcvC (dirN i) (i / 8) (i % 8 / 2) (tgt (dirN i) c)) (i / 8 / 4) (NS (dirN i))
/-- Its `i`-th credit. -/
def credT (c : Dev nD) (i : ℕ) : CellTallies nD τ sig ℕ := tallyAt (crdC (dirN i) (tgt (!dirN i) c)) (i / 2) 1

/-- What is owed when `n` sends and `k` credits are done. -/
def owed (c : Dev nD) (n k : ℕ) : CellTallies nD τ sig ℕ := ∑ i ∈ Finset.Ico n 56, sendT c i + ∑ i ∈ Finset.Ico k 8, credT c i

/-- What is owed at the start. -/
def owed₀ (c : Dev nD) : CellTallies nD τ sig ℕ := owed c 0 0 + tallyAt (barC (tgt true c)) 0 1 + tallyAt (barC (tgt false c)) 0 1

theorem Ico_peel {a b : ℕ} (h : a < b) : Finset.Ico a b = insert a (Finset.Ico (a + 1) b) := by
  ext x; rw [Finset.mem_insert, Finset.mem_Ico, Finset.mem_Ico]; omega
theorem Ico_peel_notMem (a b : ℕ) : a ∉ Finset.Ico (a + 1) b := fun h => by have := Finset.mem_Ico.mp h; omega
theorem Ico_grow {a b : ℕ} (h : a ≤ b) : Finset.Ico a (b + 1) = insert b (Finset.Ico a b) := by
  ext x; rw [Finset.mem_insert, Finset.mem_Ico, Finset.mem_Ico]; omega
theorem Ico_grow_notMem (a b : ℕ) : b ∉ Finset.Ico a b := fun h => by have := Finset.mem_Ico.mp h; omega

theorem owed_send (c : Dev nD) (d : Bool) {h s : ℕ} (hh : h < 7) (hs : s < 4) (k : ℕ) :
    owed c (8 * h + 2 * s + (if d then 0 else 1)) k
      = owed c (8 * h + 2 * s + (if d then 0 else 1) + 1) k + tallyAt (rcvC d h s (tgt d c)) (h / 4) (NS d) := by
  have hlt : 8 * h + 2 * s + (if d then 0 else 1) < 56 := by split <;> omega
  have e : sendT c (8 * h + 2 * s + (if d then 0 else 1)) = tallyAt (rcvC d h s (tgt d c)) (h / 4) (NS d) := by
    have e1 : (8 * h + 2 * s + (if d then 0 else 1)) / 8 = h := by split <;> omega
    have e2 : (8 * h + 2 * s + (if d then 0 else 1)) % 8 / 2 = s := by split <;> omega
    have e3 : dirN (8 * h + 2 * s + (if d then 0 else 1)) = d := by
      cases d <;> simp only [dirN] <;> simp <;> omega
    unfold sendT; rw [e1, e2, e3]
  unfold owed
  rw [Ico_peel hlt, Finset.sum_insert (Ico_peel_notMem _ _), e, add_assoc, add_comm]

theorem owed_credit (c : Dev nD) (d : Bool) (n : ℕ) {k : ℕ} (hk : k < 4) :
    owed c n (2 * k + (if d then 0 else 1)) = owed c n (2 * k + (if d then 0 else 1) + 1) + tallyAt (crdC d (tgt (!d) c)) k 1 := by
  have hlt : 2 * k + (if d then 0 else 1) < 8 := by split <;> omega
  have e : credT c (2 * k + (if d then 0 else 1)) = tallyAt (crdC d (tgt (!d) c)) k 1 := by
    have e1 : (2 * k + (if d then 0 else 1)) / 2 = k := by split <;> omega
    have e3 : dirN (2 * k + (if d then 0 else 1)) = d := by
      cases d <;> simp only [dirN] <;> simp <;> omega
    unfold credT; rw [e1, e3]
  unfold owed
  rw [Ico_peel hlt, Finset.sum_insert (Ico_peel_notMem _ _), e, add_comm (tallyAt _ _ _)]
  exact (add_assoc _ _ _).symm

theorem owed_done (c : Dev nD) {n k : ℕ} (hn : 56 ≤ n) (hk : 8 ≤ k) : owed c n k = 0 := by
  unfold owed; rw [Finset.Ico_eq_empty (by omega), Finset.Ico_eq_empty (by omega), Finset.sum_empty, Finset.sum_empty, add_zero]

theorem owed_past (c : Dev nD) {n n' : ℕ} (k : ℕ) (hn : 56 ≤ n) (hn' : 56 ≤ n') : owed c n k = owed c n' k := by
  unfold owed; rw [Finset.Ico_eq_empty (a := n) (by omega), Finset.Ico_eq_empty (a := n') (by omega)]

theorem sum_pos {T : Finset ℕ} {f : ℕ → CellTallies nD τ sig ℕ} {g : GSem nD τ sig} {u : ℕ} (h : 0 < (∑ i ∈ T, f i) g u) : ∃ i ∈ T, 0 < f i g u := by
  rw [Finset.sum_apply, Finsupp.finset_sum_apply] at h
  by_contra hn
  push Not at hn
  exact absurd h (by rw [Finset.sum_eq_zero fun i hi => Nat.le_zero.mp (hn i hi)]; exact Nat.lt_irrefl 0)

theorem tally_pos {g g' : GSem nD τ sig} {u u' n : ℕ} (h : 0 < tallyAt g' u' n g u) : g = g' ∧ u = u' := by
  rw [tallyAt_apply] at h
  by_contra hn
  rw [if_neg hn] at h; exact Nat.lt_irrefl 0 h

theorem owed_pos {c : Dev nD} {n k : ℕ} {g : GSem nD τ sig} {u : ℕ} (h : 0 < owed c n k g u) :
    (∃ d h s e, n / 8 ≤ h ∧ h < 7 ∧ s < 4 ∧ g = rcvC d h s e ∧ u = h / 4) ∨ (∃ d j e, k / 2 ≤ j ∧ j < 4 ∧ g = crdC d e ∧ u = j) := by
  unfold owed at h
  rw [Pi.add_apply, Finsupp.add_apply] at h
  rcases Nat.pos_of_ne_zero (fun h0 => by omega : (∑ i ∈ Finset.Ico n 56, sendT c i) g u + (∑ i ∈ Finset.Ico k 8, credT c i) g u ≠ 0) |> fun h' =>
    (show 0 < (∑ i ∈ Finset.Ico n 56, sendT c i) g u ∨ 0 < (∑ i ∈ Finset.Ico k 8, credT c i) g u by omega) with h | h
  · obtain ⟨i, hi, hp⟩ := sum_pos h
    have hi' := Finset.mem_Ico.mp hi
    obtain ⟨hg, hu⟩ := tally_pos hp
    exact .inl ⟨dirN i, i / 8, i % 8 / 2, _, by omega, by omega, by omega, hg, hu⟩
  · obtain ⟨i, hi, hp⟩ := sum_pos h
    have hi' := Finset.mem_Ico.mp hi
    obtain ⟨hg, hu⟩ := tally_pos hp
    exact .inr ⟨dirN i, i / 2, _, by omega, by omega, hg, hu⟩

/-- A wait may go on below everything that is owed. -/
theorem may_wait (c : Dev nD) (sm : SemLoc sig) {u : ℕ} (hu : u < 4) (n k : ℕ) (hn : lv ((c : Thread nD τ), sm) u < 2 * (n / 8) + 2)
    (hk : lv ((c : Thread nD τ), sm) u < 2 * (k / 2) + 3) :
    (levAts L lv : sProp (𝕄 F)) ⊢ MayWait (c : Thread nD τ) sm u (owed c n k) := by
  refine MayOwe.of_cut (L := L) (lev := lv) (lv ((c : Thread nD τ), sm) u)
    (fun p hp => by rw [Finset.mem_singleton.mp hp, L_tc]; exact Finset.mem_range.mpr hu)
    (fun g v hg => by
      rcases owed_pos hg with ⟨d, h, s, e, h1, h2, h3, rfl, rfl⟩ | ⟨d, j, e, h1, h2, rfl, rfl⟩
      · rw [L_tc]; exact Finset.mem_range.mpr (by omega)
      · rw [L_tc]; exact Finset.mem_range.mpr h2)
    (fun p hp => by rw [Finset.mem_singleton.mp hp])
    (fun g v hg => ?_)
  rcases owed_pos hg with ⟨d, h, s, e, h1, h2, h3, rfl, rfl⟩ | ⟨d, j, e, h1, h2, rfl, rfl⟩
  · rw [lv_rcv d e h h3]; omega
  · rw [lv_crd]; omega

end Cert.Proof
-- ==== Proof.Tile.lean ====
/-
  Loads, stores and re-indexing of tiles that are owned by themselves, and how programs are run in sequence.
-/
module

public import proofs.«01_k».proof.Proof.Proto

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-- No loop variant is needed. -/
abbrev 𝒱₀ : Variants := Variants.none

/-- The weakest precondition of a part of device `c`'s body. -/
abbrev wpT {α : Type} (c : Dev nD) (p : Prog (PE F) α) (Q : α → sProp (𝕄 F)) : sProp (𝕄 F) :=
  wp frame (wpE (defs₀ (F := F)) 𝒱₀ (c : Thread nD τ) none) Set.univ p Q

variable (c : Dev nD)

theorem run_bind {α β : Type} (p : Prog (PE F) α) (k : α → Prog (PE F) β) (Q : β → sProp (𝕄 F)) :
    wpT c p (fun x => wpT c (k x) Q) ⊢ wpT c (p >>= k) Q := by
  unfold wpT; rw [wp_bind]

theorem run_pure {α : Type} (a : α) (Q : α → sProp (𝕄 F)) : Q a ⊢ wpT c (pure a : Prog (PE F) α) Q := by
  show _ ⊢ wp frame (wpE (defs₀ (F := F)) 𝒱₀ (c : Thread nD τ) none) Set.univ (.ret a) Q
  rw [wp_ret]; iintro H; imodintro; iexact H

/-- A sequence is run step by step. -/
theorem run_seqN (p : ℕ → Prog (PE F) PUnit) (I : ℕ → sProp (𝕄 F)) : ∀ (n : ℕ)
    (step : ∀ i, i < n → ∀ K : PUnit → sProp (𝕄 F), I i ⊢ iprop((I (i + 1) -∗ K ⟨⟩) -∗ wpT c (p i) K)) (K : PUnit → sProp (𝕄 F)),
    I 0 ⊢ iprop((I n -∗ K ⟨⟩) -∗ wpT c (seqN p n) K)
  | 0, _, K => by
    iintro H HK; unfold seqN; iapply (run_pure c ⟨⟩ K); iapply HK; iexact H
  | n + 1, step, K => by
    iintro H HK
    unfold seqN
    iapply (run_bind c (seqN p n) (fun _ => p n) K)
    iapply (run_seqN p I n (fun i hi => step i (Nat.lt_succ_of_lt hi)) (fun _ => wpT c (p n) K)) $$ H
    iintro H
    iapply (step n (Nat.lt_succ_self n) K) $$ H
    iexact HK

/-- A load of a tile. -/
theorem run_load {cs : CoreSpace} {s : Shape} {e : EltTy} (M : Memref sig .tc cs s e) (r : Rect s) (hr : ∀ a, r.stride a = 1) (hl : M.view.LoadsAt r)
    (q : PosShare TreeShare) (X : r.shape.Idx → Elt F e) (Q : (r.shape.Idx → Elt F e) → sProp (𝕄 F)) :
    (ownsTc c (M.slice r hr) q X : sProp (𝕄 F))
      ⊢ iprop((ownsTc c (M.slice r hr) q X -∗ Q X) -∗ wpT c (Prog.lift (.load M r.toLoadRect hl) : Prog (PE F) _) Q) := by
  unfold ownsTc owns
  iintro ⟨%f, %hf, H⟩ HK
  iapply (wp_load_rect (defs := defs₀ (F := F)) 𝒱₀ (c : Thread nD τ) none Set.univ (m := M) (r := r) (Finset.Subset.refl _)) $$ H
  iintro H
  rw [wp_ret]; imodintro
  have e' : (M.access r).read (Elt F) f = X := hf
  rw [e']
  iapply HK
  iexists f
  isplitr
  · ipureintro; exact hf
  iexact H

/-- A store of a whole tile. -/
theorem run_store {cs : CoreSpace} {s : Shape} {e : EltTy} (M : Memref sig .tc cs s e) (r : Rect s) (hr : ∀ a, r.stride a = 1)
    (hx : (M.access r).Stores Finset.univ) (hm : (Finset.univ : Finset r.shape.Idx) = Finset.univ ∨ ∀ a, r.stride a = 1)
    (X w : r.shape.Idx → Elt F e) (Q : PUnit → sProp (𝕄 F)) :
    (ownsTc c (M.slice r hr) fs X : sProp (𝕄 F))
      ⊢ iprop((ownsTc c (M.slice r hr) fs w -∗ Q ⟨⟩) -∗ wpT c (Prog.lift (.store M r w Finset.univ hx hm) : Prog (PE F) _) Q) := by
  unfold ownsTc owns
  iintro ⟨%f, -, H⟩ HK
  iapply (wp_store (defs := defs₀ (F := F)) 𝒱₀ (c : Thread nD τ) none Set.univ (m := M) (r := r) (Mk := Finset.univ)
    (S := (M.access r).set) (View.setOn_subset_set _ _)) $$ H
  iintro H
  rw [wp_ret]; imodintro
  iapply HK
  iexists ((M.access r).write (Elt F) f w Finset.univ)
  isplitr
  · ipureintro; exact View.read_write_univ f w
  iexact H

/-- A tile without its leading axes is the same tile. -/
theorem owns_squeeze {sp : Space} {s s' : Shape} {e : EltTy} (M : Memref sig .tc sp s e) (h : s.Squeezes s') (q : PosShare TreeShare)
    (X : s.Idx → Elt F e) :
    (ownsTc c (M.squeeze s' h) q (sq h.numel_eq X) : sProp (𝕄 F)) = ownsTc c M q X := by
  have hs : (M.squeeze s' h).view.set = M.view.set := View.set_reshape _ _
  have hv : ∀ f : M.view.ty.Contents (Elt F), ((M.squeeze s' h).view.read (Elt F) f = sq h.numel_eq X) = (M.view.read (Elt F) f = X) := fun f =>
    propext ⟨fun e => funext fun i => by
      have := congrFun e ((Shape.reshapeEquiv h.numel_eq).symm i)
      rwa [show sq h.numel_eq X ((Shape.reshapeEquiv h.numel_eq).symm i) = X i from congrArg X (Equiv.apply_symm_apply _ i),
        show (M.squeeze s' h).view.read (Elt F) f ((Shape.reshapeEquiv h.numel_eq).symm i) = M.view.read (Elt F) f i from
          congrArg (M.view.read (Elt F) f) (Equiv.apply_symm_apply _ i)] at this,
     fun e => by subst e; rfl⟩
  unfold ownsTc owns
  show iprop(∃ f : M.view.ty.Contents (Elt F), ⌜(M.squeeze s' h).view.read (Elt F) f = sq h.numel_eq X⌝
      ∗ (M.view.loc (c : Thread nD τ) ↦[(M.squeeze s' h).view.set]{q} f)) = _
  simp only [hs, hv]

end Cert.Proof
-- ==== Proof.Steps.lean ====
/-
  The effects on the shared semaphores, one rule for each fragment of the body.
-/
module

public import proofs.«01_k».proof.Proof.Tile

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

variable (m : (ℓ : Loc nD τ sig) → Buf (Elt F) ℓ) (ρ : Dev nD → PrngReg)

/-! ### Big conjunctions over stretches -/

theorem bs_peel {a b : ℕ} (h : a < b) (Φ : ℕ → sProp (𝕄 F)) : bigSep (Finset.Ico a b) Φ = iprop(Φ a ∗ bigSep (Finset.Ico (a + 1) b) Φ) := by
  rw [Ico_peel h, bigSep_insert (Ico_peel_notMem _ _)]; rfl
theorem bs_grow {a b : ℕ} (h : a ≤ b) (Φ : ℕ → sProp (𝕄 F)) : bigSep (Finset.Ico a (b + 1)) Φ = iprop(Φ b ∗ bigSep (Finset.Ico a b) Φ) := by
  rw [Ico_grow h, bigSep_insert (Ico_grow_notMem _ _)]; rfl
/-- One of them taken, and put back. -/
theorem bs_take {I : Type} [DecidableEq I] {S : Finset I} {i : I} (h : i ∈ S) (Φ : I → sProp (𝕄 F)) : bigSep S Φ ⊢ iprop(Φ i ∗ (Φ i -∗ bigSep S Φ)) := by
  have e : bigSep S Φ = iprop(Φ i ∗ bigSep (S.erase i) Φ) := bigSep_erase h
  iintro H
  ihave H := (Entails.of_eq e) $$ H
  icases H with ⟨H1, H2⟩
  isplitl [H1]; · iexact H1
  iintro H1
  iapply (Entails.of_eq e.symm)
  isplitl [H1] <;> iassumption

/-! ### What every device knows -/

/-- The semaphores that the kernel uses. -/
def cellS : Finset (SemLoc sig) := Finset.univ.filter fun sm => use sm ≠ .other

theorem mem_cellS {sm : SemLoc sig} (h : use sm ≠ .other) : sm ∈ cellS := Finset.mem_filter.mpr ⟨Finset.mem_univ _, h⟩

/-- Every cell's invariant, and that its first round is reached. -/
def recs (κ : Dev nD × SemLoc sig → ℕ) : sProp (𝕄 F) :=
  bigSep (Finset.univ ×ˢ cellS) fun x => iprop(cellInv ER (rd m ρ) (κ x) ((x.1 : Thread nD τ), x.2) ∗ reached ER ((x.1 : Thread nD τ), x.2) 0)

/-- The slots that are given up and written again. -/
def keysF : Finset Key := Finset.univ ×ˢ Finset.univ ×ˢ Finset.range 4 ×ˢ Finset.range 4

/-- What giving up a slot hands over: the slot, and that its arrival cell is at the round of the next arrival. -/
def slotP (k : Key) : sProp (𝕄 F) :=
  iprop(slotAny k.1 k.2.1 k.2.2.1 k.2.2.2 ∗ reached ER (rcvC k.2.1 (k.2.2.1 + 3) k.2.2.2 k.1) ((k.2.2.1 + 3) / 4))

instance slotP_storable (k : Key) : BI.Storable (upEmb : UEmb _ (𝕄 F)) (slotP (F := F) k) := by unfold slotP; infer_instance

def slots (ιs : Key → ℕ) : sProp (𝕄 F) := bigSep keysF fun k => slotInv ES (ιs k) k (slotP k)

/-- What every device knows. -/
def Pers (κ : Dev nD × SemLoc sig → ℕ) (ιs : Key → ℕ) : sProp (𝕄 F) := iprop(recs m ρ κ ∗ slots ιs ∗ levAts L lv)

instance recs_persistent (κ : Dev nD × SemLoc sig → ℕ) : BI.Persistent (recs m ρ κ) := by unfold recs; infer_instance
instance slots_persistent (ιs : Key → ℕ) : BI.Persistent (slots (F := F) ιs) := by unfold slots; infer_instance
instance Pers_persistent (κ : Dev nD × SemLoc sig → ℕ) (ιs : Key → ℕ) : BI.Persistent (Pers m ρ κ ιs) := by unfold Pers; infer_instance

variable (κ : Dev nD × SemLoc sig → ℕ) (ιs : Key → ℕ)

theorem rec_of (c : Dev nD) (sm : SemLoc sig) (h : use sm ≠ .other) :
    Pers m ρ κ ιs ⊢ iprop(cellInv ER (rd m ρ) (κ (c, sm)) ((c : Thread nD τ), sm) ∗ reached ER ((c : Thread nD τ), sm) 0) := by
  unfold Pers
  iintro ⟨H, -, -⟩
  iapply (show recs m ρ κ ⊢ _ from bigSep_elim (I := Dev nD × SemLoc sig) (i := (c, sm)) (Finset.mem_product.mpr ⟨Finset.mem_univ c, mem_cellS h⟩)) $$ H

theorem inv_of (c : Dev nD) (sm : SemLoc sig) (h : use sm ≠ .other) :
    Pers m ρ κ ιs ⊢ cellInv ER (rd m ρ) (κ (c, sm)) ((c : Thread nD τ), sm) := by
  iintro H; ihave H' := (rec_of m ρ κ ιs c sm h) $$ H; icases H' with ⟨H, -⟩; iexact H
theorem reached_of (c : Dev nD) (sm : SemLoc sig) (h : use sm ≠ .other) :
    Pers m ρ κ ιs ⊢ reached ER ((c : Thread nD τ), sm) 0 := by
  iintro H; ihave H' := (rec_of m ρ κ ιs c sm h) $$ H; icases H' with ⟨-, H⟩; iexact H
theorem slot_of {k : Key} (h : k ∈ keysF) : Pers m ρ κ ιs ⊢ slotInv ES (ιs k) k (slotP k) := by
  unfold Pers
  iintro ⟨-, H, -⟩
  iapply (show slots ιs ⊢ _ from bigSep_elim (I := Key) (i := k) h) $$ H
theorem lev_of : Pers m ρ κ ιs ⊢ levAts L lv := by unfold Pers; iintro ⟨-, -, H⟩; iexact H

theorem mem_keysF (c : Dev nD) (d : Bool) {k s : ℕ} (hk : k < 4) (hs : s < 4) : ((c, d, k, s) : Key) ∈ keysF :=
  Finset.mem_product.mpr ⟨Finset.mem_univ _, Finset.mem_product.mpr ⟨Finset.mem_univ _, Finset.mem_product.mpr ⟨Finset.mem_range.mpr hk, Finset.mem_range.mpr hs⟩⟩⟩

theorem ne_bar : use (.reg barS) ≠ .other := by rw [use_bar]; exact fun h => by cases h
theorem ne_crd (d : Bool) : use (.reg (crdA d).sem) ≠ .other := by rw [use_crd]; exact fun h => by cases h
theorem ne_snd (d : Bool) (i : ℕ) : use (.dma (at16 (sndA d) i)) ≠ .other := by rw [use_snd']; exact fun h => by cases h
theorem ne_rcv (d : Bool) (i : ℕ) : use (.dma (at16 (rcvA d) i)) ≠ .other := by rw [use_rcv']; exact fun h => by cases h
theorem ne_w (i : ℕ) : use (.dma (wSem i)) ≠ .other := by rw [use_w]; exact fun h => by cases h
theorem ne_o (i : ℕ) : use (.dma (oSem i)) ≠ .other := by rw [use_o]; exact fun h => by cases h

/-- What device `c` owes, whatever it has waited for. -/
def ow (c : Dev nD) (O : CellTallies nD τ sig ℕ) : sProp (𝕄 F) := iprop(∃ W, owes (c : Thread nD τ) O W)

/-! ### The amounts -/

theorem amt_slot (d : Bool) (h s : ℕ) (q : DmaSem sig) : (slotM d h s).view.amount (.dma q) = NS d := by
  unfold NS; show View.dmaCredit _ = View.dmaCredit _; unfold View.dmaCredit; rfl
theorem amt_w (k : ℕ) (q : DmaSem sig) : (wsT k).view.amount (.dma q) = NW := by
  unfold NW; show View.dmaCredit _ = View.dmaCredit _; unfold View.dmaCredit; rfl
theorem amt_o (c : Dev nD) (i : ℕ) (q : DmaSem sig) : (oT c i).view.amount (.dma q) = NO := by
  unfold NO; show View.dmaCredit _ = View.dmaCredit _; unfold View.dmaCredit; rfl

/-! ### Transfers to a neighbour -/

/-- A chunk slot as a transfer sees it. -/
theorem slotAt_eq (c : Dev nD) (d : Bool) (r s : ℕ) (q : PosShare TreeShare) (X : FVec F S1x1x512x512 .bf16) :
    slotAt c d r s q X = (ownsTc c (slotM d r s) q (sq numel_chunk X) : sProp (𝕄 F)) := by
  unfold slotAt; exact (owns_squeeze c ((bufM d).slice (slotR r s) (fun _ => rfl)) squeezes_S1x1x512x512_S512x512 q X).symm

theorem send_step (c : Dev nD) (d : Bool) {h s : ℕ} (hh : h < 7) (hs : s < 4) (n k : ℕ) (hn : n = 8 * h + 2 * s + (if d then 0 else 1)) (K : PUnit → sProp (𝕄 F)) :
    iprop(Pers m ρ κ ιs ∗ slotAt c d h s fs.right (chunk m ρ d c h s) ∗ slotAny (tgt d c) d (h + 1) s ∗ ow c (owed c n k)
        ∗ dutyTok ER (sndC d h s c) (h / 4) 0 ∗ reached ER (sndC d h s c) (h / 4)
        ∗ dutyTok ER (rcvC d h s (tgt d c)) (h / 4) 0 ∗ reached ER (rcvC d h s (tgt d c)) (h / 4))
      ⊢ iprop((cred (tallyAt (sndC d h s c) 0 (NS d)) ∗ ow c (owed c (n + 1) k) -∗ K ⟨⟩) -∗ wpT c (send c d h s) K) := by
  subst hn
  have key : ∀ e : Dev nD, e = tgt d c → iprop(Pers m ρ κ ιs ∗ slotAt c d h s fs.right (chunk m ρ d c h s) ∗ slotAny (tgt d c) d (h + 1) s ∗ ow c (owed c (8 * h + 2 * s + (if d then 0 else 1)) k)
        ∗ dutyTok ER (sndC d h s c) (h / 4) 0 ∗ reached ER (sndC d h s c) (h / 4)
        ∗ dutyTok ER (rcvC d h s (tgt d c)) (h / 4) 0 ∗ reached ER (rcvC d h s (tgt d c)) (h / 4))
      ⊢ iprop((cred (tallyAt (sndC d h s c) 0 (NS d)) ∗ ow c (owed c (8 * h + 2 * s + (if d then 0 else 1) + 1) k) -∗ K ⟨⟩) -∗ wpT c (Prog.lift (.enqueueDma (slotM d h s) (.remote (Dev.tc e) (slotM d (h + 1) s) (.dma (at16 (sndA d) (4 * (h % 4) + s)))) (.dma (at16 (rcvA d) (4 * (h % 4) + s)))
    (slotM_words d h s) (slotM_words d (h + 1) s) ⟨⟨rfl, Or.inl rfl⟩, trivial⟩)) K) := by
    rintro e rfl
    unfold slotAny ow
    simp only [slotAt_eq]
    unfold ownsTc owns
    iintro ⟨#HP, ⟨%f, %hf, Hs⟩, ⟨%Y, %g, -, Hd⟩, ⟨%W, HO⟩, Ht1, #Hr1, Ht2, #Hr2⟩ HK
    iapply (Rounds.wp_send_pointsTo 𝒱₀ ER (rd m ρ) (c : Thread nD τ) none (κ₁ := κ (c, .dma (at16 (sndA d) (4 * (h % 4) + s))))
      (κ₂ := κ (tgt d c, .dma (at16 (rcvA d) (4 * (h % 4) + s)))) (r₁ := h / 4) (r₂ := h / 4) (d₁ := 0) (d₂ := 0) (fd := g)
      (by rw [duties_snd m ρ c d hh hs]; exact Finset.mem_singleton_self _) (by rw [duties_rcv m ρ (tgt d c) d hh hs]; exact Finset.mem_singleton_self _)
      (h / 4) 0 (NS d) (amt_slot d (h + 1) s _) (amount_snd m ρ c d h s _ _) (amount_rcv m ρ (tgt d c) d h s _ _)
      (owed c (8 * h + 2 * s + (if d then 0 else 1) + 1) k) (owed_send c d hh hs k) (W := W)
      (by
        rw [payload_snd m ρ c d hs]; unfold lent; rw [slotAt_eq]; unfold ownsTc owns
        iintro H; iexists f; isplitr
        · ipureintro; exact hf
        iexact H)
      (by
        rw [payload_rcv m ρ (tgt d c) d hs]; unfold arrived; rw [slotAt_eq, chunk_tgt]; unfold ownsTc owns
        iintro H; iexists _; isplitr
        · ipureintro; rw [← hf]; exact View.read_write_univ g _
        iexact H)) $$ [Hs Hd HO Ht1 Ht2]
    · isplitr; · iapply (inv_of m ρ κ ιs c _ (ne_snd d _)); iexact HP
      isplitr; · iapply (inv_of m ρ κ ιs (tgt d c) _ (ne_rcv d _)); iexact HP
      isplitl [Hs]; · iexact Hs
      isplitl [Hd]; · iexact Hd
      isplitl [HO]; · iexact HO
      isplitl [Ht1]; · iexact Ht1
      isplitr; · iexact Hr1
      isplitl [Ht2]; · iexact Ht2
      iexact Hr2
    iintro ⟨Hc, HO⟩
    rw [wp_ret]; imodintro
    iapply HK
    isplitl [Hc]; · iexact Hc
    iexists W; iexact HO
  exact key (tgtW c d) (tgtW_eq c d)

/-! ### Waits, local transfers and signals -/

/-- A wait for a whole round of a transfer's cell. -/
theorem wait_step (c : Dev nD) {sp sp' : Space} {s s' : Shape} {e e' : EltTy} (q : DmaSem sig) (src : Memref sig .tc sp' s' e') (dst : Memref sig .tc sp s e)
    (hsrc : src.view.WordExact) (hdst : dst.view.WordExact) (hu : use (.dma q) ≠ .other) {ι r N : ℕ} (hN : dst.view.amount (.dma q) = N)
    (he : (rd m ρ).expect ((c : Thread nD τ), .dma q) r = N) (hι : ι < 4) (n k : ℕ) (hn : lv ((c : Thread nD τ), .dma q) ι < 2 * (n / 8) + 2)
    (hk : lv ((c : Thread nD τ), .dma q) ι < 2 * (k / 2) + 3) {P : sProp (𝕄 F)}
    (hP : bigSep ((rd m ρ).duties ((c : Thread nD τ), .dma q) r \ ∅) (fun u => (rd m ρ).payload ((c : Thread nD τ), .dma q) r u) = P) (K : PUnit → sProp (𝕄 F)) :
    iprop(Pers m ρ κ ιs ∗ cred (tallyAt ((c : Thread nD τ), .dma q) ι N) ∗ ow c (owed c n k) ∗ atPos ER ((c : Thread nD τ), .dma q) r ∅ 0)
      ⊢ iprop((ow c (owed c n k) ∗ atPos ER ((c : Thread nD τ), .dma q) (r + 1) ∅ 0 ∗ reached ER ((c : Thread nD τ), .dma q) (r + 1) ∗ P -∗ K ⟨⟩)
          -∗ wpT c (Prog.lift (.waitDma2 q src dst hsrc hdst) : Prog (PE F) PUnit) K) := by
  unfold ow
  iintro ⟨#HP, Hc, ⟨%W, HO⟩, Hat⟩ HK
  subst hN
  iapply (Rounds.wp_wait_rest_token 𝒱₀ ER (rd m ρ) (c : Thread nD τ) none (κ := κ (c, .dma q))
      (wpE_waitDma2_eq 𝒱₀ (c : Thread nD τ) none Set.univ) (Set.mem_univ _) ι (O := owed c n k) (W := W) (R := r) (m := 0) (T := ∅)
      ((Nat.zero_add _).trans he.symm)) $$ [Hc HO Hat]
  · isplitr; · iapply (inv_of m ρ κ ιs c _ hu); iexact HP
    isplitl [Hc]; · iexact Hc
    isplitl [HO]; · iexact HO
    isplitr; · iapply (may_wait c (.dma q) hι n k hn hk); iapply (lev_of m ρ κ ιs); iexact HP
    iexact Hat
  iintro ⟨HO, Hat, Hr, Hpay⟩
  rw [wp_ret]; imodintro
  iapply HK
  isplitl [HO]; · iexists _; iexact HO
  isplitl [Hat]; · iexact Hat
  isplitl [Hr]; · iexact Hr
  iapply (Entails.of_eq hP) $$ Hpay

/-- A transfer within the device. -/
theorem copy_step (c : Dev nD) {sp sp' : Space} {s : Shape} {e : EltTy} (q : DmaSem sig) (src : Memref sig .tc sp s e) (dst : Memref sig .tc sp' s e)
    (hsrc : src.view.WordExact) (hdst : dst.view.WordExact) (hsem : (DmaTarget.here dst : DmaTarget nD τ sig (.tc : Proc τ) sp' s e).Typed sp (.dma q)) (hu : use (.dma q) ≠ .other) {r N : ℕ} (hN : dst.view.amount (.dma q) = N)
    (ha : (rd m ρ).amount ((c : Thread nD τ), .dma q) r 0 = N) (hd : 0 ∈ (rd m ρ).duties ((c : Thread nD τ), .dma q) r) (X Y : s.Idx → Elt F e)
    (hpay : iprop(ownsTc c dst fs X ∗ ownsTc c src fs X) ⊢ (rd m ρ).payload ((c : Thread nD τ), .dma q) r 0) (K : PUnit → sProp (𝕄 F)) :
    iprop(Pers m ρ κ ιs ∗ ownsTc c src fs X ∗ ownsTc c dst fs Y ∗ dutyTok ER ((c : Thread nD τ), .dma q) r 0 ∗ reached ER ((c : Thread nD τ), .dma q) r)
      ⊢ iprop((cred (tallyAt ((c : Thread nD τ), .dma q) 0 N) -∗ K ⟨⟩)
          -∗ wpT c (Prog.lift (.enqueueDma src (.here dst) (.dma q) hsrc hdst hsem) : Prog (PE F) PUnit) K) := by
  iintro ⟨#HP, Hs, Hd, Ht, #Hr⟩ HK
  unfold ownsTc owns
  icases Hs with ⟨%f, %hf, Hs⟩
  icases Hd with ⟨%g, -, Hd⟩
  iapply (Rounds.wp_copy_pointsTo 𝒱₀ ER (rd m ρ) (c : Thread nD τ) none (κ := κ (c, .dma q)) (r := r) (d := 0) (fd := g) (q := fs) (fs := f) hd 0 N hN ha
      (by
        refine (show _ ⊢ iprop(ownsTc c dst fs X ∗ ownsTc c src fs X) from ?_).trans hpay
        unfold ownsTc owns
        iintro ⟨H1, H2⟩
        isplitl [H1]
        · iexists _; isplitr
          · ipureintro; rw [← hf]; exact View.read_write_univ g _
          iexact H1
        · iexists f; isplitr
          · ipureintro; exact hf
          iexact H2)) $$ [Hs Hd Ht]
  · isplitr; · iapply (inv_of m ρ κ ιs c _ hu); iexact HP
    isplitl [Hs]; · iexact Hs
    isplitl [Hd]; · iexact Hd
    isplitl [Ht]; · iexact Ht
    iexact Hr
  iintro Hc
  rw [wp_ret]; imodintro
  iapply HK; iexact Hc

/-- A signal to a neighbour. -/
theorem signal_step (c e : Dev nD) (sm : Sem sig) (hu : use (.reg sm) ≠ .other) {r d : ℕ} (ι : ℕ) (ha : (rd m ρ).amount ((e : Thread nD τ), .reg sm) r d = 1)
    (hd : d ∈ (rd m ρ).duties ((e : Thread nD τ), .reg sm) r) (O : CellTallies nD τ sig ℕ) (K : PUnit → sProp (𝕄 F)) :
    iprop(Pers m ρ κ ιs ∗ ow c (O + tallyAt ((e : Thread nD τ), .reg sm) ι 1) ∗ dutyTok ER ((e : Thread nD τ), .reg sm) r d
        ∗ (rd m ρ).payload ((e : Thread nD τ), .reg sm) r d ∗ reached ER ((e : Thread nD τ), .reg sm) r)
      ⊢ iprop((ow c O -∗ K ⟨⟩) -∗ wpT c (semSignalWord e sm 1#32 : Prog (PE F) PUnit) K) := by
  unfold ow
  iintro ⟨#HP, ⟨%W, HO⟩, Ht, Hp, #Hr⟩ HK
  simp only [semSignalWord, Prog.lift]
  iapply (Rounds.wp_signal 𝒱₀ ER (rd m ρ) (c : Thread nD τ) none (dst := (e : Thread nD τ)) (κ := κ (e, .reg sm))
      (d := d) hd (ha.trans (by decide)) ι O rfl)
    $$ [HO Ht Hp]
  · isplitr; · iapply (inv_of m ρ κ ιs e _ hu); iexact HP
    isplitl [HO]; · iexact HO
    isplitl [Ht]; · iexact Ht
    isplitl [Hp]; · iexact Hp
    iexact Hr
  iintro HO
  rw [wp_ret]; imodintro
  iapply HK
  iexists W; iexact HO

/-! ### The barrier -/

/-- What a device brings to the barrier. -/
def barIn (c : Dev nD) : sProp (𝕄 F) :=
  iprop(cred (tallyAt (barC c) 0 2) ∗ atPos ER (barC c) 0 ∅ 0 ∗ (dutyTok ER (barC (tgt false c)) 0 (dn true) ∗ fresh true c)
    ∗ dutyTok ER (barC (tgt true c)) 0 (dn false) ∗ fresh false c)

theorem barrier_step (c : Dev nD) (K : PUnit → sProp (𝕄 F)) :
    iprop(Pers m ρ κ ιs ∗ barIn c ∗ ow c (owed₀ c))
      ⊢ iprop((ow c (owed c 0 0) ∗ atPos ER (barC c) 1 ∅ 0 ∗ fresh true (tgt true c) ∗ fresh false (tgt false c) -∗ K ⟨⟩) -∗ wpT c (barrier c : Prog (PE F) PUnit) K) := by
  unfold barrier barIn owed₀
  simp only [tgtW_eq]
  iintro ⟨#HP, ⟨Hc, Hat, ⟨Ht1, Hf1⟩, Ht2, Hf2⟩, HO⟩ HK
  iapply (run_bind c _ _ K)
  iapply (signal_step m ρ κ ιs c (tgt false c) barS ne_bar 0 (amount_bar m ρ (tgt false c) 0 (dn true))
    (by rw [duties_bar]; decide) (owed c 0 0 + tallyAt (barC (tgt true c)) 0 1) _) $$ [HO Ht1 Hf1]
  · isplitr; · iexact HP
    isplitl [HO]; · iexact HO
    isplitl [Ht1]; · iexact Ht1
    isplitl [Hf1]
    · iapply (Entails.of_eq (show fresh true c = _ by rw [payload_bar m ρ (tgt false c) true, show tgt true (tgt false c) = c from tgt_not' true c])) $$ Hf1
    iapply (reached_of m ρ κ ιs (tgt false c) _ ne_bar); iexact HP
  iintro HO
  iapply (run_bind c _ _ K)
  iapply (signal_step m ρ κ ιs c (tgt true c) barS ne_bar 0 (amount_bar m ρ (tgt true c) 0 (dn false))
    (by rw [duties_bar]; decide) (owed c 0 0) _) $$ [HO Ht2 Hf2]
  · isplitr; · iexact HP
    isplitl [HO]; · iexact HO
    isplitl [Ht2]; · iexact Ht2
    isplitl [Hf2]
    · iapply (Entails.of_eq (show fresh false c = _ by rw [payload_bar m ρ (tgt true c) false, show tgt false (tgt true c) = c from tgt_not' false c])) $$ Hf2
    iapply (reached_of m ρ κ ιs (tgt true c) _ ne_bar); iexact HP
  iintro HO
  unfold ow
  icases HO with ⟨%W, HO⟩
  simp only [semWaitWord, Prog.lift]
  iapply (Rounds.wp_wait_rest_token 𝒱₀ ER (rd m ρ) (c : Thread nD τ) none (κ := κ (c, .reg barS))
      (wpE_semWait_eq 𝒱₀ (c : Thread nD τ) none Set.univ) (Set.mem_univ _) 0 (O := owed c 0 0) (W := W) (R := 0) (m := 0) (T := ∅)
      (by rw [expect_bar]; decide)) $$ [Hc HO Hat]
  · isplitr; · iapply (inv_of m ρ κ ιs c _ ne_bar); iexact HP
    isplitl [Hc]; · iexact Hc
    isplitl [HO]; · iexact HO
    isplitr; · iapply (may_wait c (.reg barS) (by decide : 0 < 4) 0 0 (by rw [lv_bar]; decide) (by rw [lv_bar]; decide)); iapply (lev_of m ρ κ ιs); iexact HP
    iexact Hat
  iintro ⟨HO, Hat, -, Hpay⟩
  rw [wp_ret]; imodintro
  ihave Hp := (Entails.of_eq (rest_bar m ρ c)) $$ Hpay
  icases Hp with ⟨Hp1, Hp2⟩
  iapply HK
  isplitl [HO]; · iexists _; iexact HO
  isplitl [Hat]; · iexact Hat
  isplitl [Hp2]; · iexact Hp2
  iexact Hp1

/-! ### The credits -/

/-- The news of fewer slots follows from the news of more. -/
theorem news_le (d : Bool) (e : Dev nD) {n n' : ℕ} (h : n ≤ n') : news (F := F) d e n' ⊢ news d e n := by
  unfold news; exact bigSep_mono fun s _ => bigSep_subset (Finset.range_subset_range.mpr h)

/-- Direction `d`'s credits of device `c` when `n` are waited for. -/
def credW (c : Dev nD) (d : Bool) (n : ℕ) : sProp (𝕄 F) :=
  if n < 4 then iprop(∃ S : Finset ℕ, ⌜S ⊆ Finset.range 4 ∧ n ≤ S.card⌝ ∗ atPos ER (crdC d c) 0 S n ∗ (bigSep S fun j => news d (tgt d c) (j + 1))
      ∗ bigSep (Finset.Ico n 4) fun j => cred (tallyAt (crdC d c) j 1))
  else atPos ER (crdC d c) 1 ∅ 0

theorem credW_lt (c : Dev nD) (d : Bool) {n : ℕ} (h : n < 4) : credW (F := F) c d n
    = iprop(∃ S : Finset ℕ, ⌜S ⊆ Finset.range 4 ∧ n ≤ S.card⌝ ∗ atPos ER (crdC d c) 0 S n ∗ (bigSep S fun j => news d (tgt d c) (j + 1))
      ∗ bigSep (Finset.Ico n 4) fun j => cred (tallyAt (crdC d c) j 1)) := if_pos h
theorem credW_four (c : Dev nD) (d : Bool) : credW (F := F) c d 4 = atPos ER (crdC d c) 1 ∅ 0 := if_neg (by decide)

theorem credit_wait (c : Dev nD) (d : Bool) {n : ℕ} (hn : n < 4) (N k : ℕ) (h1 : 2 * n + 3 < 2 * (N / 8) + 2) (h2 : n < k / 2) (K : PUnit → sProp (𝕄 F)) :
    iprop(Pers m ρ κ ιs ∗ credW c d n ∗ ow c (owed c N k))
      ⊢ iprop((ow c (owed c N k) ∗ credW c d (n + 1) ∗ news d (tgt d c) (n + 1) -∗ K ⟨⟩) -∗ wpT c (semWaitWord (crdA d).sem 1#32 : Prog (PE F) PUnit) K) := by
  rw [credW_lt c d hn, bs_peel hn]
  unfold ow
  simp only [semWaitWord, Prog.lift]
  iintro ⟨#HP, ⟨%S, %hS, Hat, Hnews, Hcr⟩, ⟨%W, HO⟩⟩ HK
  icases Hcr with ⟨Hc, Hcr⟩
  by_cases h3 : n = 3
  · subst h3
    rw [credW_four]
    iapply (Rounds.wp_wait_rest_token 𝒱₀ ER (rd m ρ) (c : Thread nD τ) none (κ := κ (c, .reg (crdA d).sem))
        (wpE_semWait_eq 𝒱₀ (c : Thread nD τ) none Set.univ) (Set.mem_univ _) 3 (O := owed c N k) (W := W) (R := 0) (m := 3) (T := S)
        (by rw [expect_crd]; decide)) $$ [Hc HO Hat]
    · isplitr; · iapply (inv_of m ρ κ ιs c _ (ne_crd d)); iexact HP
      isplitl [Hc]; · iexact Hc
      isplitl [HO]; · iexact HO
      isplitr
      · iapply (may_wait c (.reg (crdA d).sem) (by decide : 3 < 4) N k (by rw [lv_crd]; omega) (by rw [lv_crd]; omega)); iapply (lev_of m ρ κ ιs); iexact HP
      iexact Hat
    iintro ⟨HO, Hat, -, Hpay⟩
    rw [wp_ret]; imodintro
    iapply HK
    isplitl [HO]; · iexists _; iexact HO
    isplitl [Hat]; · iexact Hat
    have e : bigSep ((rd (F := F) m ρ).duties (crdC d c) 0 \ S) (fun u => (rd (F := F) m ρ).payload (crdC d c) 0 u)
        = bigSep (Finset.range 4 \ S) fun j => news d (tgt d c) (j + 1) := by
      rw [duties_crd]; exact bigSep_congr fun u _ => payload_crd m ρ c d u
    ihave Hp := (Entails.of_eq e) $$ Hpay
    iapply (show iprop((bigSep S fun j => news (F := F) d (tgt d c) (j + 1)) ∗ bigSep (Finset.range 4 \ S) fun j => news d (tgt d c) (j + 1)) ⊢ news d (tgt d c) 4 from
      (Entails.of_eq (bigSep_sdiff_split hS.1).symm).trans (bigSep_elim (i := 3) (by decide)))
    isplitl [Hnews] <;> iassumption
  · rw [credW_lt c d (show n + 1 < 4 by omega)]
    iapply (Rounds.wp_wait 𝒱₀ ER (rd m ρ) (c : Thread nD τ) none (κ := κ (c, .reg (crdA d).sem))
        (wpE_semWait_eq 𝒱₀ (c : Thread nD τ) none Set.univ) (Set.mem_univ _) {(SemLoc.reg (crdA d).sem, n)} (cr := Finsupp.single n 1) (O := owed c N k) (W := W) (R := 0) (m := n) (T := S)
        (by rw [Util.total_single]; decide) (image_single_subset _ n 1)) $$ [Hc HO Hat]
    · isplitr; · iapply (inv_of m ρ κ ιs c _ (ne_crd d)); iexact HP
      isplitl [Hc]; · iexact Hc
      isplitl [HO]; · iexact HO
      isplitr
      · iapply (may_wait c (.reg (crdA d).sem) (by omega : n < 4) N k (by rw [lv_crd]; omega) (by rw [lv_crd]; omega)); iapply (lev_of m ρ κ ιs); iexact HP
      iexact Hat
    iintro %T ⟨%hT, HO, Hat, Hpay⟩
    rw [wp_ret]; imodintro
    obtain ⟨hT1, hT2, hT3⟩ := hT
    rw [duties_crd] at hT2 hT3
    rw [expect_crd] at hT3
    have hc : (Finset.range 4 \ T).card = 4 - T.card := by rw [Finset.card_sdiff_of_subset hT2, Finset.card_range]
    have hle : T.card ≤ 4 := (Finset.card_le_card hT2).trans (by rw [Finset.card_range])
    have hT3' : n + 1 + (4 - T.card) ≤ 4 := by rw [← hc]; exact hT3
    have hex : ∃ j ∈ T, n ≤ j := by
      by_contra hno
      push Not at hno
      have := Finset.card_le_card (fun j hj => Finset.mem_range.mpr (hno j hj) : T ⊆ Finset.range n)
      rw [Finset.card_range] at this; omega
    obtain ⟨j, hj, hnj⟩ := hex
    have e : bigSep (T \ S) (fun u => (rd (F := F) m ρ).payload (crdC d c) 0 u)
        = bigSep (T \ S) fun j => news d (tgt d c) (j + 1) := bigSep_congr fun u _ => payload_crd m ρ c d u
    ihave Hp := (Entails.of_eq e) $$ Hpay
    ihave #Hall := (show iprop((bigSep S fun j => news (F := F) d (tgt d c) (j + 1)) ∗ bigSep (T \ S) fun j => news d (tgt d c) (j + 1))
        ⊢ bigSep T fun j => news d (tgt d c) (j + 1) from Entails.of_eq (bigSep_sdiff_split hT1).symm) $$ [Hnews Hp]
    · isplitl [Hnews] <;> iassumption
    iapply HK
    isplitl [HO]; · iexists _; iexact HO
    isplitl [Hat Hcr]
    · iexists T
      isplitr; · ipureintro; exact ⟨hT2, by omega⟩
      isplitl [Hat]; · iexact Hat
      isplitr; · iexact Hall
      iexact Hcr
    iapply (show (bigSep T fun j => news (F := F) d (tgt d c) (j + 1)) ⊢ news d (tgt d c) (n + 1) from
      (bigSep_elim hj).trans (news_le d (tgt d c) (show n + 1 ≤ j + 1 by omega))) $$ Hall

end Cert.Proof
-- ==== Proof.Lane.lean ====
/-
  A lane: one direction and one sub-block of the ring, as one device holds it.
-/
module

public import proofs.«01_k».proof.Proof.Steps
public import Idealize.ShloMosaic.Lib.MemrefSat

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

variable (m : (ℓ : Loc nD τ sig) → Buf (Elt F) ℓ) (ρ : Dev nD → PrngReg) (κ : Dev nD × SemLoc sig → ℕ) (ιs : Key → ℕ)

theorem run_fupd (c : Dev nD) {α : Type} (p : Prog (PE F) α) (Q : α → sProp (𝕄 F)) : wpT c p (fun x => iprop(|={Set.univ}=> Q x)) ⊢ wpT c p Q := by
  exact wp_fupd _ _ _ _ _

theorem rcvC_add (d : Bool) (h s : ℕ) (c : Dev nD) : rcvC d (h + 4) s c = rcvC d h s c := by unfold rcvC; rw [Nat.add_mod_right]
theorem sndC_add (d : Bool) (h s : ℕ) (c : Dev nD) : sndC d (h + 4) s c = sndC d h s c := by unfold sndC; rw [Nat.add_mod_right]

section Lane
variable (c : Dev nD) (d : Bool) (s : ℕ)

/-- What the send of hop `h` needs besides its chunk. -/
def toSend (h : ℕ) : sProp (𝕄 F) :=
  iprop(dutyTok ER (sndC d h s c) (h / 4) 0 ∗ dutyTok ER (rcvC d h s (tgt d c)) (h / 4) 0
    ∗ if h < 3 then slotAny (tgt d c) d (h + 1) s else writeTok ES ((tgt d c, d, h - 3, s) : Key) 1)
/-- The credit of an arrival. -/
def awaited (h : ℕ) : sProp (𝕄 F) := cred (tallyAt (rcvC d h s c) (h / 4) (NS d))
def atR (h : ℕ) : sProp (𝕄 F) := atPos ER (rcvC d h s c) (h / 4) ∅ 0
def atS (h : ℕ) : sProp (𝕄 F) := atPos ER (sndC d h s c) (h / 4) ∅ 0
def reR (h : ℕ) : sProp (𝕄 F) := reached ER (rcvC d h s c) (h / 4)
def reS (h : ℕ) : sProp (𝕄 F) := reached ER (sndC d h s c) (h / 4)
instance reR_persistent (h : ℕ) : BI.Persistent (reR (F := F) c d s h) := by unfold reR; infer_instance
instance reS_persistent (h : ℕ) : BI.Persistent (reS (F := F) c d s h) := by unfold reS; infer_instance
/-- A chunk on its way. -/
def sending (h : ℕ) : sProp (𝕄 F) := iprop(cred (tallyAt (sndC d h s c) 0 (NS d)) ∗ slotAt c d h s fs.left (chunk m ρ d c h s))
/-- A chunk at rest. -/
def held (j : ℕ) : sProp (𝕄 F) := slotAt c d j s fs (chunk m ρ d c j s)
def given (j : ℕ) : sProp (𝕄 F) := released ES ((c, d, j, s) : Key) 1
instance given_persistent (h : ℕ) : BI.Persistent (given (F := F) c d s h) := by unfold given; infer_instance
def giver (j : ℕ) : sProp (𝕄 F) := readerAt ES ((c, d, j, s) : Key) 0

/-- The lane after `a` sends begun, `b` arrivals taken and `e` sends ended. -/
def Lane (a b e : ℕ) : sProp (𝕄 F) :=
  iprop(bigSep (Finset.Ico a 7) (toSend c d s) ∗ bigSep (Finset.Ico b 7) (awaited c d s)
    ∗ (bigSep (Finset.Ico b (b + 4)) (atR c d s) ∗ bigSep (Finset.Ico b (b + 4)) (reR c d s))
    ∗ (bigSep (Finset.Ico e (e + 4)) (atS c d s) ∗ bigSep (Finset.Ico e (e + 4)) (reS c d s))
    ∗ bigSep (Finset.Ico e a) (sending m ρ c d s) ∗ bigSep (Finset.Ico a (b + 1)) (held m ρ c d s)
    ∗ bigSep (Finset.Ico 4 e) (held m ρ c d s) ∗ bigSep (Finset.Ico 0 (min e 4)) (given c d s) ∗ bigSep (Finset.Ico e 4) (giver c d s))

theorem lane_recv (hs : s < 4) {a b e : ℕ} (hb : b < 7) (hab : a ≤ b + 1) (n k : ℕ) (hn : b < n / 8) (hk : 2 * b + 2 < 2 * (k / 2) + 3) (K : PUnit → sProp (𝕄 F)) :
    iprop(Pers m ρ κ ιs ∗ Lane m ρ c d s a b e ∗ ow c (owed c n k))
      ⊢ iprop((ow c (owed c n k) ∗ Lane m ρ c d s a (b + 1) e -∗ K ⟨⟩) -∗ wpT c (waitRecv d b s : Prog (PE F) PUnit) K) := by
  unfold Lane
  rw [bs_peel hb, bs_peel (show b < b + 4 by omega), bs_peel (show b < b + 4 by omega),
    show b + 1 + 4 = b + 4 + 1 by omega, bs_grow (show b + 1 ≤ b + 4 by omega), bs_grow (show b + 1 ≤ b + 4 by omega), bs_grow (show a ≤ b + 1 by omega)]
  unfold awaited atR reR waitRecv
  iintro ⟨#HP, ⟨Hts, ⟨Hc, Hcs⟩, ⟨⟨Hat, Hats⟩, -, #Hres⟩, HS, Hsend, Hheld, Hr⟩, HO⟩ HK
  iapply (wait_step m ρ κ ιs c _ _ _ _ _ (ne_rcv d _) (amt_slot d (b + 1) s _) (expect_rcv m ρ c d hb hs) (by omega : b / 4 < 4) n k
    (by rw [lv_rcv d c b hs]; omega) (by rw [lv_rcv d c b hs]; omega) (rest_rcv m ρ c d hb hs) K) $$ [Hc HO Hat]
  · isplitr; · iexact HP
    isplitl [Hc]; · iexact Hc
    isplitl [HO]; · iexact HO
    iexact Hat
  iintro ⟨HO, Hat, #Hre, Hp⟩
  iapply HK
  isplitl [HO]; · iexact HO
  isplitl [Hts]; · iexact Hts
  isplitl [Hcs]; · iexact Hcs
  isplitl [Hat Hats]
  · rw [rcvC_add, show (b + 4) / 4 = b / 4 + 1 by omega]
    isplitl [Hat Hats]
    · isplitl [Hat] <;> iassumption
    isplitr <;> iassumption
  isplitl [HS]; · iexact HS
  isplitl [Hsend]; · iexact Hsend
  isplitl [Hheld Hp]
  · isplitl [Hp]
    · unfold held arrived; iexact Hp
    iexact Hheld
  iexact Hr

theorem lane_send (hs : s < 4) {a b e : ℕ} (ha : a < 7) (hea : e ≤ a) (hae : a < e + 4) (hab : a ≤ b) (n k : ℕ) (hn : n = 8 * a + 2 * s + (if d then 0 else 1)) (K : PUnit → sProp (𝕄 F)) :
    iprop(Pers m ρ κ ιs ∗ news d (tgt d c) (a - 2) ∗ Lane m ρ c d s a b e ∗ ow c (owed c n k))
      ⊢ iprop((ow c (owed c (n + 1) k) ∗ Lane m ρ c d s (a + 1) b e -∗ K ⟨⟩) -∗ wpT c (send c d a s : Prog (PE F) PUnit) K) := by
  unfold Lane
  rw [bs_peel ha, bs_peel (show a < b + 1 by omega), bs_grow hea]
  unfold toSend held sending
  iintro ⟨#HP, #Hnews, ⟨⟨⟨Ht1, Ht2, Hdst⟩, Hts⟩, Hcs, HR, ⟨Hats, #HreS⟩, Hsend, ⟨Hh, Hheld⟩, Hr⟩, HO⟩ HK
  ihave Hd := (show iprop(Pers m ρ κ ιs ∗ news d (tgt d c) (a - 2) ∗ if a < 3 then slotAny (tgt d c) d (a + 1) s else writeTok ES ((tgt d c, d, a - 3, s) : Key) 1)
      ⊢ (|={Set.univ}=> iprop(slotAny (tgt d c) d (a + 1) s ∗ reached ER (rcvC d a s (tgt d c)) (a / 4)) : sProp (𝕄 F)) from by
    by_cases h3 : a < 3
    · rw [if_pos h3, show a / 4 = 0 by omega]
      iintro ⟨#HP, -, H⟩
      imodintro
      isplitl [H]; · iexact H
      iapply (reached_of m ρ κ ιs (tgt d c) _ (ne_rcv d _)); iexact HP
    · rw [if_neg h3]
      iintro ⟨#HP, Hn, H⟩
      imod (slot_take (E := ES) (ι := ιs (tgt d c, d, a - 3, s)) (k := ((tgt d c, d, a - 3, s) : Key)) (S := slotP (tgt d c, d, a - 3, s)) (Set.mem_univ _) 1) $$ [Hn H] with Hp
      · isplitr; · iapply (slot_of m ρ κ ιs (mem_keysF (tgt d c) d (by omega : a - 3 < 4) hs)); iexact HP
        isplitl [Hn]
        · unfold news
          iapply (show (bigSep (Finset.range 4) fun s => bigSep (Finset.range (a - 2)) fun j => released ES ((tgt d c, d, j, s) : Key) 1) ⊢ (released ES ((tgt d c, d, a - 3, s) : Key) 1 : sProp (𝕄 F)) from
            (bigSep_elim (Finset.mem_range.mpr hs)).trans (bigSep_elim (Finset.mem_range.mpr (by omega : a - 3 < a - 2)))) $$ Hn
        iexact H
      imodintro
      unfold slotP
      dsimp only
      rw [show a - 3 + 3 = a by omega]
      icases Hp with ⟨H1, H2⟩
      isplitl [H1]
      · unfold slotAny
        icases H1 with ⟨%X, H1⟩
        iexists X
        iapply (Entails.of_eq (slotAt_mod (tgt d c) d (r := a - 3) (r' := a + 1) s fs X (by omega))) $$ H1
      iexact H2) $$ [Hdst]
  · isplitr; · iexact HP
    isplitr; · iexact Hnews
    iexact Hdst
  imod Hd with ⟨Hd, #HreR⟩
  ihave Hh := (show slotAt c d a s fs (chunk m ρ d c a s) ⊢ iprop(slotAt c d a s fs.left (chunk m ρ d c a s) ∗ slotAt c d a s fs.right (chunk m ρ d c a s)) from by
    unfold slotAt; exact (owns_halves _ _ _ _).1) $$ Hh
  icases Hh with ⟨Hl, Hrt⟩
  iapply (send_step m ρ κ ιs c d ha hs n k hn K) $$ [Hrt Hd HO Ht1 Ht2]
  · isplitr; · iexact HP
    isplitl [Hrt]; · iexact Hrt
    isplitl [Hd]; · iexact Hd
    isplitl [HO]; · iexact HO
    isplitl [Ht1]; · iexact Ht1
    isplitr
    · iapply (show bigSep (Finset.Ico e (e + 4)) (reS (F := F) c d s) ⊢ reached ER (sndC d a s c) (a / 4) from bigSep_elim (Finset.mem_Ico.mpr ⟨hea, hae⟩)) $$ HreS
    isplitl [Ht2]; · iexact Ht2
    iexact HreR
  iintro ⟨Hc, HO⟩
  iapply HK
  isplitl [HO]; · iexact HO
  isplitl [Hts]; · iexact Hts
  isplitl [Hcs]; · iexact Hcs
  isplitl [HR]; · iexact HR
  isplitl [Hats]
  · isplitl [Hats] <;> iassumption
  isplitl [Hsend Hc Hl]
  · isplitl [Hc Hl]
    · isplitl [Hc] <;> iassumption
    iexact Hsend
  isplitl [Hheld]; · iexact Hheld
  iexact Hr

theorem slotP_false (k : Key) : iprop(slotP (F := F) k ∗ slotP k) ⊢ (False : sProp (𝕄 F)) := by
  unfold slotP slotAny slotAt ownsTc owns
  iintro ⟨⟨⟨%X, %f, -, Hf⟩, -⟩, ⟨%Y, %g, -, Hg⟩, -⟩
  obtain ⟨i, hi⟩ : ((bufM k.2.1).slice (slotR k.2.2.1 k.2.2.2) (fun _ => rfl)).view.set.Nonempty := View.set_nonempty h_S1x1x512x512
  iapply (show iprop((((bufM k.2.1).slice (slotR k.2.2.1 k.2.2.2) (fun _ => rfl)).view.loc (k.1 : Thread nD τ) ↦[((bufM k.2.1).slice (slotR k.2.2.1 k.2.2.2) (fun _ => rfl)).view.set]{fs} f)
      ∗ (((bufM k.2.1).slice (slotR k.2.2.1 k.2.2.2) (fun _ => rfl)).view.loc (k.1 : Thread nD τ) ↦[((bufM k.2.1).slice (slotR k.2.2.1 k.2.2.2) (fun _ => rfl)).view.set]{fs} g)) ⊢ (False : sProp (𝕄 F)) from
    pointsTo_overlap_false hi hi)
  isplitl [Hf] <;> iassumption

theorem lane_drain (hs : s < 4) {a b e : ℕ} (he : e < 7) (hea : e < a) (heb : e + 1 = b) (n k : ℕ) (K : PUnit → sProp (𝕄 F)) :
    iprop(Pers m ρ κ ιs ∗ Lane m ρ c d s a b e ∗ ow c (owed c n k))
      ⊢ iprop((ow c (owed c n k) ∗ Lane m ρ c d s a b (e + 1) -∗ K ⟨⟩) -∗ wpT c (waitSend d e s : Prog (PE F) PUnit) K) := by
  unfold Lane
  rw [bs_peel hea, bs_peel (show e < e + 4 by omega), bs_peel (show e < e + 4 by omega),
    show e + 1 + 4 = e + 4 + 1 by omega, bs_grow (show e + 1 ≤ e + 4 by omega), bs_grow (show e + 1 ≤ e + 4 by omega)]
  unfold atS reS sending waitSend
  iintro ⟨#HP, ⟨Hts, Hcs, ⟨HaR, #HreR⟩, ⟨⟨Hat, Hats⟩, -, #Hres⟩, ⟨⟨Hc, Hl⟩, Hsend⟩, Hheld, Hkept, #Hgiven, Hgive⟩, HO⟩ HK
  iapply (run_fupd c _ K)
  iapply (wait_step m ρ κ ιs c _ _ _ _ _ (ne_snd d _) (amt_slot d e s _) (expect_snd m ρ c d he hs) (by omega : 0 < 4) n k
    (by rw [lv_snd]; omega) (by rw [lv_snd]; omega) (rest_snd m ρ c d he hs) _) $$ [Hc HO Hat]
  · isplitr; · iexact HP
    isplitl [Hc]; · iexact Hc
    isplitl [HO]; · iexact HO
    iexact Hat
  iintro ⟨HO, Hat, #Hre, Hp⟩
  ihave Hh := (show iprop(slotAt c d e s fs.left (chunk m ρ d c e s) ∗ lent m ρ c d e s) ⊢ held m ρ c d s e from by
    unfold lent slotAt held; exact (owns_halves _ _ _ _).2) $$ [Hl Hp]
  · isplitl [Hl] <;> iassumption
  ihave Hend := (show iprop(Pers m ρ κ ιs ∗ held m ρ c d s e ∗ bigSep (Finset.Ico b (b + 4)) (reR c d s) ∗ bigSep (Finset.Ico 4 e) (held m ρ c d s) ∗ bigSep (Finset.Ico 0 (min e 4)) (given c d s) ∗ bigSep (Finset.Ico e 4) (giver c d s))
      ⊢ (|={Set.univ}=> iprop(bigSep (Finset.Ico 4 (e + 1)) (held m ρ c d s) ∗ bigSep (Finset.Ico 0 (min (e + 1) 4)) (given c d s) ∗ bigSep (Finset.Ico (e + 1) 4) (giver c d s)) : sProp (𝕄 F)) from by
    by_cases h4 : e < 4
    · rw [bs_peel h4, show min (e + 1) 4 = e + 1 by omega, show min e 4 = e by omega, bs_grow (Nat.zero_le e), Finset.Ico_eq_empty (show ¬ 4 < e + 1 by omega)]
      unfold giver given
      iintro ⟨#HP, Hh, #HreR, -, #Hgiven, Hg, Hgive⟩
      imod (slot_release (E := ES) (ι := ιs (c, d, e, s)) (k := ((c, d, e, s) : Key)) (S := slotP (c, d, e, s)) (Set.mem_univ _) (slotP_false _) 0) $$ [Hg Hh] with ⟨-, #Hrel⟩
      · isplitr; · iapply (slot_of m ρ κ ιs (mem_keysF c d h4 hs)); iexact HP
        isplitl [Hg]; · iexact Hg
        unfold slotP slotAny held
        isplitl [Hh]; · iexists _; iexact Hh
        dsimp only
        iapply (show bigSep (Finset.Ico b (b + 4)) (reR (F := F) c d s) ⊢ reached ER (rcvC d (e + 3) s c) ((e + 3) / 4) from bigSep_elim (Finset.mem_Ico.mpr ⟨by omega, by omega⟩)) $$ HreR
      imodintro
      rw [bigSep_empty]
      isplitr; · iempintro
      isplitr
      · isplitr <;> iassumption
      iexact Hgive
    · rw [show min (e + 1) 4 = min e 4 by omega, bs_grow (show 4 ≤ e by omega), Finset.Ico_eq_empty (show ¬ e < 4 by omega), Finset.Ico_eq_empty (show ¬ e + 1 < 4 by omega)]
      iintro ⟨-, Hh, -, Hk, Hg, Hr⟩
      imodintro
      isplitl [Hh Hk]
      · isplitl [Hh] <;> iassumption
      isplitl [Hg] <;> iassumption) $$ [Hh Hkept Hgive]
  · isplitr; · iexact HP
    isplitl [Hh]; · iexact Hh
    isplitr; · iexact HreR
    isplitl [Hkept]; · iexact Hkept
    isplitr; · iexact Hgiven
    iexact Hgive
  imod Hend
  imodintro
  iapply HK
  isplitl [HO]; · iexact HO
  isplitl [Hts]; · iexact Hts
  isplitl [Hcs]; · iexact Hcs
  isplitl [HaR]
  · isplitl [HaR] <;> iassumption
  isplitl [Hat Hats]
  · rw [sndC_add, show (e + 4) / 4 = e / 4 + 1 by omega]
    isplitl [Hat Hats]
    · isplitl [Hat] <;> iassumption
    isplitr <;> iassumption
  isplitl [Hsend]; · iexact Hsend
  isplitl [Hheld]; · iexact Hheld
  iexact Hend

/-- A chunk read where it lies. -/
theorem lane_read {a b e j : ℕ} (hej : e ≤ j) (hj : j < a ∨ j ≤ b) :
    Lane m ρ c d s a b e ⊢ iprop(∃ q, slotAt c d j s q (chunk m ρ d c j s) ∗ (slotAt c d j s q (chunk m ρ d c j s) -∗ Lane m ρ c d s a b e)) := by
  unfold Lane
  iintro ⟨H1, H2, H3, H4, Hs, Hh, H5⟩
  by_cases h : j < a
  · ihave Hs' := (bs_take (Finset.mem_Ico.mpr ⟨hej, h⟩) (sending m ρ c d s)) $$ Hs
    icases Hs' with ⟨Hj, Hb⟩
    unfold sending
    icases Hj with ⟨Hc, Hj⟩
    iexists _
    isplitl [Hj]; · iexact Hj
    iintro Hj
    isplitl [H1]; · iexact H1
    isplitl [H2]; · iexact H2
    isplitl [H3]; · iexact H3
    isplitl [H4]; · iexact H4
    isplitl [Hb Hc Hj]
    · iapply Hb; isplitl [Hc] <;> iassumption
    isplitl [Hh] <;> iassumption
  · ihave Hs' := (bs_take (Finset.mem_Ico.mpr ⟨by omega, by omega⟩ : j ∈ Finset.Ico a (b + 1)) (held m ρ c d s)) $$ Hh
    icases Hs' with ⟨Hj, Hb⟩
    unfold held
    iexists _
    isplitl [Hj]; · iexact Hj
    iintro Hj
    isplitl [H1]; · iexact H1
    isplitl [H2]; · iexact H2
    isplitl [H3]; · iexact H3
    isplitl [H4]; · iexact H4
    isplitl [Hs]; · iexact Hs
    isplitl [Hb Hj]
    · iapply Hb; iexact Hj
    iexact H5

/-- A lane tells which of its slots are given up. -/
theorem lane_given (a b e : ℕ) : Lane m ρ c d s a b e ⊢ iprop(Lane m ρ c d s a b e ∗ bigSep (Finset.Ico 0 (min e 4)) (given c d s)) := by
  unfold Lane
  iintro ⟨H1, H2, H3, H4, H5, H6, H7, #H8, H9⟩
  isplitl
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitr <;> iassumption
  iexact H8

end Lane

end Cert.Proof
-- ==== Proof.Comp.lean ====
/-
  The fragments of the body that stay on the device: packing, the weights, the products, the half sums and the slabs.
-/
module

public import proofs.«01_k».proof.Proof.Lane

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

variable (m : (ℓ : Loc nD τ sig) → Buf (Elt F) ℓ) (ρ : Dev nD → PrngReg) (κ : Dev nD × SemLoc sig → ℕ) (ιs : Key → ℕ)
variable (c : Dev nD)

/-- A load of a rectangle of a memref owned whole. -/
theorem run_load_whole {cs : CoreSpace} {s : Shape} {e : EltTy} (M : Memref sig .tc cs s e) (r : Rect s) (hl : M.view.LoadsAt r)
    (q : PosShare TreeShare) (X : s.Idx → Elt F e) (Q : (r.shape.Idx → Elt F e) → sProp (𝕄 F)) :
    (ownsTc c M q X : sProp (𝕄 F))
      ⊢ iprop((ownsTc c M q X -∗ Q (fun i => X (r.emb i))) -∗ wpT c (Prog.lift (.load M r.toLoadRect hl) : Prog (PE F) _) Q) := by
  unfold ownsTc owns
  iintro ⟨%f, %hf, H⟩ HK
  iapply (wp_load_rect (defs := defs₀ (F := F)) 𝒱₀ (c : Thread nD τ) none Set.univ (m := M) (r := r) (View.set_slice_subset _ _)) $$ H
  iintro H
  rw [wp_ret]; imodintro
  have e' : (M.access r).read (Elt F) f = fun i => X (r.emb i) := by subst hf; rfl
  rw [e']
  iapply HK
  iexists f
  isplitr
  · ipureintro; exact hf
  iexact H

/-! ### Packing -/

/-- The activations in vector memory. -/
def xAt : sProp (𝕄 F) := ownsTc c xM fs (xv m ρ c)

theorem pack1_step (d : Bool) (s : ℕ) (K : PUnit → sProp (𝕄 F)) :
    iprop(xAt m ρ c ∗ slotAny c d 0 s) ⊢ iprop((xAt m ρ c ∗ held m ρ c d s 0 -∗ K ⟨⟩) -∗ wpT c (pack1 d (blk d s) s : Prog (PE F) PUnit) K) := by
  unfold pack1 xAt slotAny held slotAt
  iintro ⟨Hx, %X, Hs⟩ HK
  iapply (run_bind c _ _ K)
  iapply (run_load_whole c xM (xcolR (blk d s)) _ fs (xv m ρ c) _) $$ Hx
  iintro Hx
  iapply (run_bind c _ _ K)
  iapply (run_load c (bufM d) (slotR 0 s) (fun _ => rfl) _ fs X _) $$ Hs
  iintro Hs
  iapply (run_store c (bufM d) (slotR 0 s) (fun _ => rfl) _ _ X _ K) $$ Hs
  iintro Hs
  iapply HK
  isplitl [Hx]; · iexact Hx
  iexact Hs

theorem pack_step (s : ℕ) (K : PUnit → sProp (𝕄 F)) :
    iprop(xAt m ρ c ∗ slotAny c true 0 s ∗ slotAny c false 0 s)
      ⊢ iprop((xAt m ρ c ∗ held m ρ c true s 0 ∗ held m ρ c false s 0 -∗ K ⟨⟩) -∗ wpT c (pack s : Prog (PE F) PUnit) K) := by
  unfold pack
  iintro ⟨Hx, H1, H2⟩ HK
  iapply (run_bind c _ _ K)
  iapply (pack1_step m ρ c true s _) $$ [Hx H1]
  · isplitl [Hx] <;> iassumption
  iintro ⟨Hx, H1⟩
  iapply (pack1_step m ρ c false s K) $$ [Hx H2]
  · isplitl [Hx] <;> iassumption
  iintro ⟨Hx, H2⟩
  iapply HK
  isplitl [Hx]; · iexact Hx
  isplitl [H1] <;> iassumption

/-! ### The weights -/

theorem wstAt_eq (k : ℕ) (X : FVec F S1x512x1024 .f32) : wstAt c k X = (ownsTc c (wsT k) fs (sq numel_tile X) : sProp (𝕄 F)) := by
  unfold wstAt; exact (owns_squeeze c (wsM.slice (twoR k) (fun _ => rfl)) squeezes_S1x512x1024_S512x1024 fs X).symm
theorem wstAt_mod {k k' : ℕ} (X : FVec F S1x512x1024 .f32) (h : k % 2 = k' % 2) : (wstAt c k X : sProp (𝕄 F)) = wstAt c k' X := by
  have key : ∀ (a b : ℕ) (ha) (hb), a = b →
      (ownsTc c (wsM.slice (Rect.unit (s := S2x512x1024) ![a, 0, 0] S1x512x1024.size ha) (fun _ => rfl)) fs X : sProp (𝕄 F))
        = ownsTc c (wsM.slice (Rect.unit (s := S2x512x1024) ![b, 0, 0] S1x512x1024.size hb) (fun _ => rfl)) fs X := by
    rintro a _ _ _ rfl; rfl
  exact key _ _ (two_inb k) (two_inb k') h

def wCr (k : ℕ) : sProp (𝕄 F) := if k < 8 then cred (tallyAt (wC k c) 0 NW) else iprop(∃ X, wstAt c k X)
/-- What fetching tile `k` needs. -/
def wTodo (k : ℕ) : sProp (𝕄 F) := iprop(wrowAt c k (wrow m c k) ∗ dutyTok ER (wC k c) (k / 2) 0)
def atW (k : ℕ) : sProp (𝕄 F) := atPos ER (wC k c) (k / 2) ∅ 0
def reW (k : ℕ) : sProp (𝕄 F) := reached ER (wC k c) (k / 2)
instance reW_persistent (k : ℕ) : BI.Persistent (reW (F := F) c k) := by unfold reW; infer_instance
def wrowD (k : ℕ) : sProp (𝕄 F) := wrowAt c k (wrow m c k)
def wbD (k : ℕ) : sProp (𝕄 F) := wbAt c k (wb m c k)
def wbAny (k : ℕ) : sProp (𝕄 F) := iprop(∃ X, wbAt c k X)
def wstAny (k : ℕ) : sProp (𝕄 F) := iprop(∃ X, wstAt c k X)

/-- The weights when tile `k` is being fetched and those before it are rounded. -/
def wSt (k : ℕ) : sProp (𝕄 F) :=
  iprop(wCr c k ∗ bigSep (Finset.Ico (k + 1) 8) (wTodo m c) ∗ bigSep (Finset.Ico 0 k) (wrowD m c) ∗ wstAny c (k + 1)
    ∗ bigSep (Finset.Ico k (k + 2)) (atW c) ∗ bigSep (Finset.Ico k (k + 2)) (reW c) ∗ bigSep (Finset.Ico 0 k) (wbD m c) ∗ bigSep (Finset.Ico k 8) (wbAny c))

theorem wC_add (k : ℕ) : wC (k + 2) c = wC k c := by
  show ((c : Thread nD τ), SemLoc.dma (wSem (k + 2))) = (_, _); rw [wSem_congr (Nat.add_mod_right k 2)]

theorem wStart_step {k : ℕ} (hk : k < 8) (K : PUnit → sProp (𝕄 F)) :
    iprop(Pers m ρ κ ιs ∗ wTodo m c k ∗ reW c k ∗ wstAny c k)
      ⊢ iprop((cred (tallyAt (wC k c) 0 NW) -∗ K ⟨⟩) -∗ wpT c (wStart k : Prog (PE F) PUnit) K) := by
  unfold wTodo reW wstAny wStart wrowAt
  iintro ⟨#HP, ⟨Hw, Ht⟩, #Hr, %X, Hs⟩ HK
  iapply (copy_step m ρ κ ιs c (wSem k) (wT k) (wsT k) _ _ _ (ne_w k) (amt_w k _) (amount_w m ρ c k _ _)
    (by rw [duties_w m ρ c hk]; exact Finset.mem_singleton_self _) (wrow m c k) (sq numel_tile X)
    (by
      rw [payload_w]; unfold fetched; rw [wstAt_eq]; unfold wst
      rw [sq_usq]; exact BI.Entails.refl _) K) $$ [Hw Ht Hs]
  · isplitr; · iexact HP
    isplitl [Hw]; · iexact Hw
    isplitl [Hs]; · iapply (Entails.of_eq (wstAt_eq c k X)) $$ Hs
    isplitl [Ht]; · iexact Ht
    iexact Hr
  iintro Hc
  iapply HK; iexact Hc

/-- Starting the next tile's copy, if there is one. -/
def wNext (k : ℕ) : Prog (PE F) PUnit := if k < 7 then wStart (k + 1) else pure ⟨⟩
/-- Rounding tile `k`. -/
def wRound (k : ℕ) : Prog (PE F) PUnit := do
  let v : Vec F S1x512x1024 .f32 ← Prog.lift (.load wsM (twoR k).toLoadRect (View.loadsAt_vmem h_S1x512x1024))
  let _ : Vec F S512x1024 .bf16 ← Prog.lift (.load wbM (wrowR k).toLoadRect (View.loadsAt_vmem h_S512x1024))
  Prog.lift (.store wbM (wrowR k) (wbV v) Finset.univ (View.stores_vmem h_S512x1024 ((Memref.isWhole_whole _).storeExact_slice rfl _ (wrow_packed k)) (fun _ => rfl)) (.inl rfl))

theorem wTile_eq (k : ℕ) : (wTile k : Prog (PE F) PUnit)
    = (Prog.lift (.waitDma2 (wSem k) (wT k) (wsT k) (View.wordExact_bits rfl) ((View.wordExact_bits rfl).reshape _ _)) : Prog (PE F) PUnit) >>= fun _ => wNext k >>= fun _ => wRound k := by
  unfold wTile wNext wRound
  split <;> rfl

theorem wNext_step (k : ℕ) (hk : k < 8) (K : PUnit → sProp (𝕄 F)) :
    iprop(Pers m ρ κ ιs ∗ bigSep (Finset.Ico (k + 1) 8) (wTodo m c) ∗ wstAny c (k + 1) ∗ bigSep (Finset.Ico (k + 1) (k + 2)) (reW c))
      ⊢ iprop((wCr c (k + 1) ∗ bigSep (Finset.Ico (k + 1 + 1) 8) (wTodo m c) -∗ K ⟨⟩) -∗ wpT c (wNext k) K) := by
  unfold wNext
  by_cases h7 : k < 7
  · rw [if_pos h7, bs_peel (show k + 1 < 8 by omega), show wCr (F := F) c (k + 1) = cred (tallyAt (wC (k + 1) c) 0 NW) from if_pos (by omega)]
    iintro ⟨#HP, ⟨Hd, Htodo⟩, Hst, Hre⟩ HK
    iapply (wStart_step m ρ κ ιs c (show k + 1 < 8 by omega) _) $$ [Hd Hst Hre]
    · isplitr; · iexact HP
      isplitl [Hd]; · iexact Hd
      isplitl [Hre]
      · iapply (show bigSep (Finset.Ico (k + 1) (k + 2)) (reW (F := F) c) ⊢ reW c (k + 1) from bigSep_elim (Finset.mem_Ico.mpr ⟨by omega, by omega⟩)) $$ Hre
      iexact Hst
    iintro Hc
    iapply HK
    isplitl [Hc] <;> iassumption
  · rw [if_neg h7, show wCr (F := F) c (k + 1) = wstAny c (k + 1) from if_neg (by omega), Finset.Ico_eq_empty (show ¬ k + 1 < 8 by omega), Finset.Ico_eq_empty (show ¬ k + 1 + 1 < 8 by omega)]
    iintro ⟨-, He, Hst, -⟩ HK
    iapply (run_pure c ⟨⟩ _)
    iapply HK
    isplitl [Hst] <;> iassumption

theorem wTile_step {k : ℕ} (hk : k < 8) (n j : ℕ) (K : PUnit → sProp (𝕄 F)) :
    iprop(Pers m ρ κ ιs ∗ wSt m c k ∗ ow c (owed c n j))
      ⊢ iprop((wSt m c (k + 1) ∗ ow c (owed c n j) -∗ K ⟨⟩) -∗ wpT c (wTile k : Prog (PE F) PUnit) K) := by
  rw [wTile_eq]; unfold wSt wRound
  rw [bs_peel (show k < k + 2 by omega), bs_peel (show k < k + 2 by omega), show k + 1 + 2 = k + 2 + 1 by omega,
    bs_grow (show k + 1 ≤ k + 2 by omega), bs_grow (show k + 1 ≤ k + 2 by omega), bs_grow (Nat.zero_le k), bs_grow (Nat.zero_le k), bs_peel hk]
  rw [show wCr (F := F) c k = cred (tallyAt (wC k c) 0 NW) from if_pos hk]
  iintro ⟨#HP, ⟨Hc, Htodo, Hrows, Hst, ⟨Hat, Hats⟩, ⟨-, #Hres⟩, Hwb, ⟨Hany, Hanys⟩⟩, HO⟩ HK
  iapply (run_bind c _ _ K)
  iapply (wait_step m ρ κ ιs c _ _ _ _ _ (ne_w k) (amt_w k _) (expect_w m ρ c hk) (by omega : 0 < 4) n j
    (by rw [lv_w]; omega) (by rw [lv_w]; omega) (rest_w m ρ c hk) _) $$ [Hc HO Hat]
  · isplitr; · iexact HP
    isplitl [Hc]; · iexact Hc
    isplitl [HO]; · iexact HO
    unfold atW; iexact Hat
  iintro ⟨HO, Hat, #Hre, Hp⟩
  unfold fetched
  icases Hp with ⟨Hws, Hrow⟩
  iapply (run_bind c _ _ K)
  iapply (wNext_step m ρ κ ιs c k hk _) $$ [Htodo Hst]
  · isplitr; · iexact HP
    isplitl [Htodo]; · iexact Htodo
    isplitl [Hst]; · iexact Hst
    iexact Hres
  iintro ⟨Hcr, Htodo⟩
  unfold wbAny wstAt wbAt
  icases Hany with ⟨%X, Hany⟩
  iapply (run_bind c _ _ K)
  iapply (run_load c wsM (twoR k) (fun _ => rfl) _ fs (wst m c k) _) $$ Hws
  iintro Hws
  iapply (run_bind c _ _ K)
  iapply (run_load c wbM (wrowR k) (fun _ => rfl) _ fs X _) $$ Hany
  iintro Hany
  iapply (run_store c wbM (wrowR k) (fun _ => rfl) _ _ X _ K) $$ Hany
  iintro Hany
  iapply HK
  isplitr [HO]
  · isplitl [Hcr]; · iexact Hcr
    isplitl [Htodo]; · iexact Htodo
    isplitl [Hrow Hrows]
    · isplitl [Hrow]; · unfold wrowD; iexact Hrow
      iexact Hrows
    isplitl [Hws]
    · unfold wstAny; iexists _
      iapply (Entails.of_eq (wstAt_mod c (k := k) (k' := k + 1 + 1) (wst m c k) (by omega)))
      unfold wstAt; iexact Hws
    isplitl [Hat Hats]
    · isplitl [Hat]
      · unfold atW; rw [wC_add, show (k + 2) / 2 = k / 2 + 1 by omega]; iexact Hat
      iexact Hats
    isplitr
    · isplitr
      · unfold reW; rw [wC_add, show (k + 2) / 2 = k / 2 + 1 by omega]; iexact Hre
      iexact Hres
    isplitl [Hany Hwb]
    · isplitl [Hany]; · unfold wbD wbAt wb; iexact Hany
      iexact Hwb
    iexact Hanys
  iexact HO

/-! ### The products -/

/-- The weights rounded. -/
def Wb : sProp (𝕄 F) := bigSep (Finset.Ico 0 8) (wbD m c)

theorem blk_lt (d : Bool) {s : ℕ} (hs : s < 4) : blk d s < 8 := by unfold blk; split <;> omega

theorem mul_step (d : Bool) {s : ℕ} (hs : s < 4) {a b e j : ℕ} (hej : e ≤ j) (hj : j < a ∨ j ≤ b) (K : FVec F S512x1024 .f32 → sProp (𝕄 F)) :
    iprop(Lane m ρ c d s a b e ∗ Wb m c)
      ⊢ iprop((Lane m ρ c d s a b e ∗ Wb m c -∗ K (prod m ρ d c j s)) -∗ wpT c (mul1 d j s (blk d s) : Prog (PE F) _) K) := by
  unfold mul1
  iintro ⟨HL, HW⟩ HK
  ihave HL := (lane_read m ρ c d s hej hj) $$ HL
  icases HL with ⟨%q, Hs, HL⟩
  unfold Wb
  ihave HW := (bs_take (Finset.mem_Ico.mpr ⟨Nat.zero_le _, blk_lt d hs⟩) (wbD m c)) $$ HW
  icases HW with ⟨Hw, HW⟩
  unfold slotAt
  iapply (run_bind c _ _ K)
  iapply (run_load c (bufM d) (slotR j s) (fun _ => rfl) _ q (chunk m ρ d c j s) _) $$ Hs
  iintro Hs
  iapply (run_bind c _ _ K)
  iapply (run_load c wbM (wrowR (blk d s)) (fun _ => rfl) _ fs (wb m c (blk d s)) _) $$ [Hw]
  · unfold wbD wbAt; iexact Hw
  iintro Hw
  iapply (run_pure c _ K)
  unfold prod
  iapply HK
  isplitl [HL Hs]
  · iapply HL; iexact Hs
  iapply HW; unfold wbD wbAt; iexact Hw

/-! ### The half sums and the result tiles -/

theorem loadAcc_step (k : ℕ) (X : FVec F S1x512x1024 .f32) (K : Vec F S1x512x1024 .f32 → sProp (𝕄 F)) :
    accAt c k X ⊢ iprop((accAt c k X -∗ K X) -∗ wpT c (loadAcc k : Prog (PE F) _) K) := by
  unfold accAt loadAcc; exact run_load c acM (sixR k) (fun _ => rfl) _ fs X K

theorem storeAcc_step (k : ℕ) (X v : FVec F S1x512x1024 .f32) (K : PUnit → sProp (𝕄 F)) :
    accAt c k X ⊢ iprop((accAt c k v -∗ K ⟨⟩) -∗ wpT c (storeAcc k v : Prog (PE F) _) K) := by
  unfold storeAcc
  iintro H HK
  iapply (run_bind c _ _ K)
  iapply (loadAcc_step c k X _) $$ H
  iintro H
  unfold accAt
  iapply (run_store c acM (sixR k) (fun _ => rfl) _ _ X v K) $$ H
  iexact HK

theorem storeOst_step (k : ℕ) (X v : FVec F S1x512x1024 .f32) (K : PUnit → sProp (𝕄 F)) :
    ostAt c k X ⊢ iprop((ostAt c k v -∗ K ⟨⟩) -∗ wpT c (storeOst k v : Prog (PE F) _) K) := by
  unfold storeOst ostAt
  iintro H HK
  iapply (run_bind c _ _ K)
  iapply (run_load c osM (twoR k) (fun _ => rfl) _ fs X _) $$ H
  iintro H
  iapply (run_store c osM (twoR k) (fun _ => rfl) _ _ X v K) $$ H
  iexact HK

theorem src_ost0 (X : FVec F S1x512x1024 .f32) : (srcAt c 0 (sq numel_tile X) : sProp (𝕄 F)) = ostAt c 0 X := by
  unfold srcAt ostAt; exact owns_squeeze c (osM.slice (twoR 0) (fun _ => rfl)) squeezes_S1x512x1024_S512x1024 fs X
theorem src_ost1 (X : FVec F S1x512x1024 .f32) : (srcAt c 1 (sq numel_tile X) : sProp (𝕄 F)) = ostAt c 1 X := by
  unfold srcAt ostAt; exact owns_squeeze c (osM.slice (twoR 1) (fun _ => rfl)) squeezes_S1x512x1024_S512x1024 fs X
theorem src_acc {h : ℕ} (h3 : 3 < h) (h7 : h < 7) (X : FVec F S1x512x1024 .f32) :
    (srcAt c (2 * h - 6) (sq numel_tile X) : sProp (𝕄 F)) = accAt c (2 * (6 - h) + 1) X
      ∧ (srcAt c (2 * h - 5) (sq numel_tile X) : sProp (𝕄 F)) = accAt c (2 * (6 - h)) X := by
  have h1 : ∀ k, (ownsTc c (acT k) fs (sq numel_tile X) : sProp (𝕄 F)) = accAt c k X := fun k => by
    unfold accAt; exact owns_squeeze c (acM.slice (sixR k) (fun _ => rfl)) squeezes_S1x512x1024_S512x1024 fs X
  unfold srcAt
  obtain rfl | rfl | rfl : h = 4 ∨ h = 5 ∨ h = 6 := by omega
  · exact ⟨h1 5, h1 4⟩
  · exact ⟨h1 3, h1 2⟩
  · exact ⟨h1 1, h1 0⟩

/-- When slab `i` is sent. -/
def slabT (i : ℕ) : ℕ := if i = 0 then 0 else (i + 6) / 2
/-- What sending slab `i` needs. -/
def toPush (i : ℕ) : sProp (𝕄 F) := iprop(dutyTok ER (oC i c) 0 0 ∗ ∃ X, outAt c i X)
def pushed (i : ℕ) : sProp (𝕄 F) := cred (tallyAt (oC i c) 0 NO)

theorem push_step {i : ℕ} (hi : i < 8) (K : PUnit → sProp (𝕄 F)) :
    iprop(Pers m ρ κ ιs ∗ srcAt c i (outV m ρ c i) ∗ toPush c i) ⊢ iprop((pushed c i -∗ K ⟨⟩) -∗ wpT c (push c i : Prog (PE F) PUnit) K) := by
  unfold toPush pushed push srcAt outAt
  iintro ⟨#HP, Hs, Ht, %Y, Ho⟩ HK
  iapply (copy_step m ρ κ ιs c (oSem i) (srcT i) (oT c i) _ _ _ (ne_o i) (amt_o c i _) (amount_o m ρ c i _ _)
    (by rw [duties_o m ρ c]; exact Finset.mem_singleton_self _) (outV m ρ c i) Y
    (by
      rw [payload_o m ρ c hi]; unfold sent outAt srcAt
      iintro ⟨H1, H2⟩
      isplitl [H1]; · iexact H1
      iexists _; iexact H2) K) $$ [Hs Ht Ho]
  · isplitr; · iexact HP
    isplitl [Hs]; · iexact Hs
    isplitl [Ho]; · iexact Ho
    isplitl [Ht]; · iexact Ht
    iapply (reached_of m ρ κ ιs c _ (ne_o i)); iexact HP
  iexact HK

theorem waitPush_step {i : ℕ} (hi : i < 8) (n k : ℕ) (K : PUnit → sProp (𝕄 F)) :
    iprop(Pers m ρ κ ιs ∗ pushed c i ∗ atPos ER (oC i c) 0 ∅ 0 ∗ ow c (owed c n k))
      ⊢ iprop((sent m ρ c i ∗ atPos ER (oC i c) 1 ∅ 0 ∗ ow c (owed c n k) -∗ K ⟨⟩) -∗ wpT c (waitPush c i : Prog (PE F) PUnit) K) := by
  unfold pushed waitPush
  iintro ⟨#HP, Hc, Hat, HO⟩ HK
  iapply (wait_step m ρ κ ιs c _ _ _ _ _ (ne_o i) (amt_o c i _) (expect_o m ρ c i) (by omega : 0 < 4) n k
    (by rw [lv_o]; omega) (by rw [lv_o]; omega) (rest_o m ρ c hi) _) $$ [Hc HO Hat]
  · isplitr; · iexact HP
    isplitl [Hc]; · iexact Hc
    isplitl [HO]; · iexact HO
    iexact Hat
  iintro ⟨HO, Hat, -, Hp⟩
  iapply HK
  isplitl [Hp]; · iexact Hp
  isplitl [Hat]; · iexact Hat
  iexact HO

end Cert.Proof
-- ==== Proof.Hop.lean ====
/-
  One hop's arrivals and products.
-/
module

public import proofs.«01_k».proof.Proof.Comp

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

variable (m : (ℓ : Loc nD τ sig) → Buf (Elt F) ℓ) (ρ : Dev nD → PrngReg) (κ : Dev nD × SemLoc sig → ℕ) (ιs : Key → ℕ)
variable (c : Dev nD)

theorem bs_nil (a : ℕ) (Φ : ℕ → sProp (𝕄 F)) : bigSep (Finset.Ico a a) Φ = (iprop(emp) : sProp (𝕄 F)) := by rw [Finset.Ico_self]; exact bigSep_empty

/-- One member changed. -/
theorem bs_update {S : Finset ℕ} {i : ℕ} (hi : i ∈ S) (Φ Ψ : ℕ → sProp (𝕄 F)) (h : ∀ k ∈ S, k ≠ i → Φ k = Ψ k) :
    bigSep S Φ ⊢ iprop(Φ i ∗ (Ψ i -∗ bigSep S Ψ)) := by
  have e : bigSep S Φ = iprop(Φ i ∗ bigSep (S.erase i) Φ) := bigSep_erase hi
  have e' : bigSep S Ψ = iprop(Ψ i ∗ bigSep (S.erase i) Ψ) := bigSep_erase hi
  have e'' : bigSep (S.erase i) Φ = bigSep (S.erase i) Ψ := bigSep_congr fun k hk => h k (Finset.mem_of_mem_erase hk) (Finset.ne_of_mem_erase hk)
  rw [e, e', e'']
  iintro ⟨H1, H2⟩
  isplitl [H1]; · iexact H1
  iintro H
  isplitl [H] <;> iassumption

/-- Two members changed. -/
theorem bs_update2 {S : Finset ℕ} {i j : ℕ} (hi : i ∈ S) (hj : j ∈ S) (hij : i ≠ j) (Φ Ψ : ℕ → sProp (𝕄 F)) (h : ∀ k ∈ S, k ≠ i → k ≠ j → Φ k = Ψ k) :
    bigSep S Φ ⊢ iprop(Φ i ∗ Φ j ∗ (Ψ i -∗ Ψ j -∗ bigSep S Ψ)) := by
  have hj' : j ∈ S.erase i := Finset.mem_erase.mpr ⟨Ne.symm hij, hj⟩
  have e : ∀ Θ : ℕ → sProp (𝕄 F), bigSep S Θ = iprop(Θ i ∗ Θ j ∗ bigSep ((S.erase i).erase j) Θ) := fun Θ => by
    have e1 : bigSep S Θ = iprop(Θ i ∗ bigSep (S.erase i) Θ) := bigSep_erase hi
    have e2 : bigSep (S.erase i) Θ = iprop(Θ j ∗ bigSep ((S.erase i).erase j) Θ) := bigSep_erase hj'
    rw [e1, e2]
  have e'' : bigSep ((S.erase i).erase j) Φ = bigSep ((S.erase i).erase j) Ψ := bigSep_congr fun k hk =>
    h k (Finset.mem_of_mem_erase (Finset.mem_of_mem_erase hk)) (Finset.ne_of_mem_erase (Finset.mem_of_mem_erase hk)) (Finset.ne_of_mem_erase hk)
  rw [e Φ, e Ψ, e'']
  iintro ⟨H1, H2, H3⟩
  isplitl [H1]; · iexact H1
  isplitl [H2]; · iexact H2
  iintro Ha Hb
  isplitl [Ha]; · iexact Ha
  isplitl [Hb] <;> iassumption

/-- Both directions' lanes of sub-block `s`. -/
def LL (a b e s : ℕ) : sProp (𝕄 F) := iprop(Lane m ρ c true s a b e ∗ Lane m ρ c false s a b e)

/-- Both directions' credits. -/
def Crd (n : ℕ) : sProp (𝕄 F) := iprop(credW c true n ∗ credW c false n ∗ news true (tgt true c) n ∗ news false (tgt false c) n)

/-! ### Arrivals -/

def wCrd (h s : ℕ) : Prog (PE F) PUnit :=
  if s = 0 ∧ 2 ≤ h ∧ h < 6 then do
    semWaitWord (crdA true).sem 1#32
    semWaitWord (crdA false).sem 1#32
  else pure ⟨⟩
def wFwd (h s : ℕ) : Prog (PE F) PUnit := if h < 6 then sends c (h + 1) s else pure ⟨⟩

theorem arrive_eq (h s : ℕ) : (arrive c h s : Prog (PE F) PUnit)
    = waitRecv true h s >>= fun _ => waitRecv false h s >>= fun _ => wCrd h s >>= fun _ => wFwd c h s := by
  unfold arrive wCrd wFwd
  split <;> split <;> rfl

/-- Both sends of one sub-block. -/
theorem sends_step {s : ℕ} (hs : s < 4) {a b e : ℕ} (ha : a < 7) (hea : e ≤ a) (hae : a < e + 4) (hab : a ≤ b) (k : ℕ) (K : PUnit → sProp (𝕄 F)) :
    iprop(Pers m ρ κ ιs ∗ (news true (tgt true c) (a - 2) ∗ news false (tgt false c) (a - 2)) ∗ LL m ρ c a b e s ∗ ow c (owed c (8 * a + 2 * s) k))
      ⊢ iprop((ow c (owed c (8 * a + 2 * (s + 1)) k) ∗ LL m ρ c (a + 1) b e s -∗ K ⟨⟩) -∗ wpT c (sends c a s : Prog (PE F) PUnit) K) := by
  unfold LL sends
  iintro ⟨#HP, ⟨#Hn1, #Hn2⟩, ⟨H1, H2⟩, HO⟩ HK
  iapply (run_bind c _ _ K)
  iapply (lane_send m ρ κ ιs c true s hs ha hea hae hab (8 * a + 2 * s) k rfl _) $$ [H1 HO]
  · isplitr; · iexact HP
    isplitr; · iexact Hn1
    isplitl [H1] <;> iassumption
  iintro ⟨HO, H1⟩
  iapply (lane_send m ρ κ ιs c false s hs ha hea hae hab (8 * a + 2 * s + 1) k rfl K) $$ [H2 HO]
  · isplitr; · iexact HP
    isplitr; · iexact Hn2
    isplitl [H2] <;> iassumption
  iintro ⟨HO, H2⟩
  iapply HK
  isplitl [HO]; · iexact HO
  isplitl [H1] <;> iassumption

theorem wCrd_step {h : ℕ} (hh : h < 7) (i N : ℕ) (hN : 8 * (h + 1) ≤ N) (K : PUnit → sProp (𝕄 F)) :
    iprop(Pers m ρ κ ιs ∗ Crd c (if i = 0 then min (h - 2) 4 else min (h - 1) 4) ∗ ow c (owed c N (2 * h)))
      ⊢ iprop((Crd c (min (h - 1) 4) ∗ ow c (owed c N (2 * h)) -∗ K ⟨⟩) -∗ wpT c (wCrd h i : Prog (PE F) PUnit) K) := by
  unfold wCrd
  by_cases hi : i = 0 ∧ 2 ≤ h ∧ h < 6
  · rw [if_pos hi, if_pos hi.1, show min (h - 2) 4 = h - 2 by omega, show min (h - 1) 4 = h - 2 + 1 by omega]
    unfold Crd
    iintro ⟨#HP, ⟨H1, H2, -⟩, HO⟩ HK
    iapply (run_bind c _ _ K)
    iapply (credit_wait m ρ κ ιs c true (n := h - 2) (by omega) N (2 * h) (by omega) (by omega) _) $$ [H1 HO]
    · isplitr; · iexact HP
      isplitl [H1] <;> iassumption
    iintro ⟨HO, H1, Hn1⟩
    iapply (credit_wait m ρ κ ιs c false (n := h - 2) (by omega) N (2 * h) (by omega) (by omega) K) $$ [H2 HO]
    · isplitr; · iexact HP
      isplitl [H2] <;> iassumption
    iintro ⟨HO, H2, Hn2⟩
    iapply HK
    isplitr [HO]
    · isplitl [H1]; · iexact H1
      isplitl [H2]; · iexact H2
      isplitl [Hn1] <;> iassumption
    iexact HO
  · rw [if_neg hi, show (if i = 0 then min (h - 2) 4 else min (h - 1) 4) = min (h - 1) 4 by split <;> omega]
    iintro ⟨-, HC, HO⟩ HK
    iapply (run_pure c ⟨⟩ K)
    iapply HK
    isplitl [HC] <;> iassumption

theorem wFwd_step {h : ℕ} (hh : h < 7) {s : ℕ} (hs : s < 4) (K : PUnit → sProp (𝕄 F)) :
    iprop(Pers m ρ κ ιs ∗ Crd c (min (h - 1) 4) ∗ LL m ρ c (min (h + 1) 7) (h + 1) h s ∗ ow c (owed c (8 * (h + 1) + 2 * s) (2 * h)))
      ⊢ iprop((Crd c (min (h - 1) 4) ∗ LL m ρ c (min (h + 2) 7) (h + 1) h s ∗ ow c (owed c (8 * (h + 1) + 2 * (s + 1)) (2 * h)) -∗ K ⟨⟩)
        -∗ wpT c (wFwd c h s : Prog (PE F) PUnit) K) := by
  unfold wFwd
  by_cases h6 : h < 6
  · rw [if_pos h6, show min (h - 1) 4 = h + 1 - 2 by omega, show min (h + 1) 7 = h + 1 by omega, show min (h + 2) 7 = h + 1 + 1 by omega]
    unfold Crd
    iintro ⟨#HP, ⟨H1, H2, #Hn1, #Hn2⟩, HL, HO⟩ HK
    iapply (sends_step m ρ κ ιs c hs (a := h + 1) (b := h + 1) (e := h) (by omega) (by omega) (by omega) (by omega) (2 * h) K) $$ [HL HO]
    · isplitr; · iexact HP
      isplitr
      · isplitr; · iexact Hn1
        iexact Hn2
      isplitl [HL] <;> iassumption
    iintro ⟨HO, HL⟩
    iapply HK
    isplitl [H1 H2]
    · isplitl [H1]; · iexact H1
      isplitl [H2]; · iexact H2
      isplitr; · iexact Hn1
      iexact Hn2
    isplitl [HL] <;> iassumption
  · rw [if_neg h6, show min (h + 1) 7 = min (h + 2) 7 by omega, owed_past c (n := 8 * (h + 1) + 2 * s) (n' := 8 * (h + 1) + 2 * (s + 1)) (2 * h) (by omega) (by omega)]
    iintro ⟨-, HC, HL, HO⟩ HK
    iapply (run_pure c ⟨⟩ K)
    iapply HK
    isplitl [HC]; · iexact HC
    isplitl [HL] <;> iassumption

/-- The lanes in hop `h` when `i` sub-blocks have arrived. -/
def ArrSt (h i : ℕ) : sProp (𝕄 F) :=
  iprop(bigSep (Finset.Ico 0 i) (LL m ρ c (min (h + 2) 7) (h + 1) h) ∗ bigSep (Finset.Ico i 4) (LL m ρ c (min (h + 1) 7) h h)
    ∗ ow c (owed c (8 * (h + 1) + 2 * i) (2 * h)) ∗ Crd c (if i = 0 then min (h - 2) 4 else min (h - 1) 4))

theorem arrive_step {h : ℕ} (hh : h < 7) {i : ℕ} (hi : i < 4) (K : PUnit → sProp (𝕄 F)) :
    iprop(Pers m ρ κ ιs ∗ ArrSt m ρ c h i)
      ⊢ iprop((ArrSt m ρ c h (i + 1) -∗ K ⟨⟩) -∗ wpT c (arrive c h i : Prog (PE F) PUnit) K) := by
  unfold ArrSt
  rw [arrive_eq, bs_peel hi, bs_grow (Nat.zero_le i), if_neg (show ¬ i + 1 = 0 by omega)]
  iintro ⟨#HP, HD, ⟨HL, HT⟩, HO, HC⟩ HK
  unfold LL
  icases HL with ⟨H1, H2⟩
  iapply (run_bind c _ _ K)
  iapply (lane_recv m ρ κ ιs c true i hi hh (a := min (h + 1) 7) (e := h) (by omega) (8 * (h + 1) + 2 * i) (2 * h) (by omega) (by omega) _) $$ [H1 HO]
  · isplitr; · iexact HP
    isplitl [H1] <;> iassumption
  iintro ⟨HO, H1⟩
  iapply (run_bind c _ _ K)
  iapply (lane_recv m ρ κ ιs c false i hi hh (a := min (h + 1) 7) (e := h) (by omega) (8 * (h + 1) + 2 * i) (2 * h) (by omega) (by omega) _) $$ [H2 HO]
  · isplitr; · iexact HP
    isplitl [H2] <;> iassumption
  iintro ⟨HO, H2⟩
  iapply (run_bind c _ _ K)
  iapply (wCrd_step m ρ κ ιs c hh i (8 * (h + 1) + 2 * i) (by omega) _) $$ [HC HO]
  · isplitr; · iexact HP
    isplitl [HC] <;> iassumption
  iintro ⟨HC, HO⟩
  iapply (wFwd_step m ρ κ ιs c hh hi K) $$ [HC H1 H2 HO]
  · isplitr; · iexact HP
    isplitl [HC]; · iexact HC
    unfold LL
    isplitl [H1 H2]
    · isplitl [H1] <;> iassumption
    iexact HO
  iintro ⟨HC, HL, HO⟩
  iapply HK
  unfold LL
  isplitl [HL HD]
  · isplitl [HL] <;> iassumption
  isplitl [HT]; · iexact HT
  isplitl [HO] <;> iassumption

/-! ### Products -/

/-- The product of one direction's sub-block, read from one of the lanes. -/
theorem mulLL_step (d : Bool) {S : Finset ℕ} {s : ℕ} (hS : s ∈ S) (hs : s < 4) {a b e j : ℕ} (hej : e ≤ j) (hj : j < a ∨ j ≤ b) (K : FVec F S512x1024 .f32 → sProp (𝕄 F)) :
    iprop(bigSep S (LL m ρ c a b e) ∗ Wb m c)
      ⊢ iprop((bigSep S (LL m ρ c a b e) ∗ Wb m c -∗ K (prod m ρ d c j s)) -∗ wpT c (mul1 d j s (blk d s) : Prog (PE F) _) K) := by
  iintro ⟨HL, HW⟩ HK
  ihave HL := (bs_take hS (LL m ρ c a b e)) $$ HL
  icases HL with ⟨HL, HB⟩
  unfold LL
  icases HL with ⟨H1, H2⟩
  cases d
  · iapply (mul_step m ρ c false hs hej hj K) $$ [H2 HW]
    · isplitl [H2] <;> iassumption
    iintro ⟨H2, HW⟩
    iapply HK
    isplitr [HW]
    · iapply HB
      isplitl [H1] <;> iassumption
    iexact HW
  · iapply (mul_step m ρ c true hs hej hj K) $$ [H1 HW]
    · isplitl [H1] <;> iassumption
    iintro ⟨H1, HW⟩
    iapply HK
    isplitr [HW]
    · iapply HB
      isplitl [H1] <;> iassumption
    iexact HW

/-- The half sums of pair `q` before hop `h` ends. -/
def pairSt (h q : ℕ) : sProp (𝕄 F) :=
  if h ≤ q then iprop((∃ X, accAt c (2 * q) X) ∗ ∃ X, accAt c (2 * q + 1) X)
  else if h + q ≤ 6 then iprop(accAt c (2 * q) (up (half m ρ true c q)) ∗ accAt c (2 * q + 1) (up (half m ρ false c q)))
  else iprop(emp)
def Pairs (h : ℕ) : sProp (𝕄 F) := bigSep (Finset.Ico 0 3) (pairSt m ρ c h)

/-- The sum that direction `d` starts hop `h` with, -/
def start (d : Bool) (h : ℕ) : FVec F S512x1024 .f32 :=
  if 3 < h then addf (prod m ρ d c (h + 1) 0) (down (up (half m ρ (!d) c (6 - h)))) else prod m ρ d c (h + 1) 0
/-- and ends it with. -/
def total (d : Bool) (h : ℕ) : FVec F S512x1024 .f32 := chain m ρ d c (h + 1) (start m ρ c d h)

theorem start_true {h : ℕ} (h3 : 3 < h) : start m ρ c true h = addf (prod m ρ true c (h + 1) 0) (down (up (half m ρ false c (6 - h)))) := by
  unfold start; rw [if_pos h3]; rfl
theorem start_false {h : ℕ} (h3 : 3 < h) : start m ρ c false h = addf (prod m ρ false c (h + 1) 0) (down (up (half m ρ true c (6 - h)))) := by
  unfold start; rw [if_pos h3]; rfl

theorem sub0_step {h : ℕ} (hh : h < 7) (K : FVec F S512x1024 .f32 × FVec F S512x1024 .f32 → sProp (𝕄 F)) :
    iprop(Pers m ρ κ ιs ∗ ArrSt m ρ c h 0 ∗ Wb m c ∗ Pairs m ρ c h)
      ⊢ iprop((ArrSt m ρ c h 1 ∗ Wb m c ∗ Pairs m ρ c h -∗ K (start m ρ c true h, start m ρ c false h)) -∗ wpT c (sub0 c h : Prog (PE F) _) K) := by
  unfold sub0
  iintro ⟨#HP, HA, HW, HQ⟩ HK
  iapply (run_bind c _ _ K)
  iapply (arrive_step m ρ κ ιs c hh (i := 0) (by decide) _) $$ [HA]
  · isplitr; · iexact HP
    iexact HA
  iintro HA
  unfold ArrSt
  icases HA with ⟨HD, HT, HO, HC⟩
  iapply (run_bind c _ _ K)
  iapply (mulLL_step m ρ c true (S := Finset.Ico 0 (0 + 1)) (s := 0) (by decide) (by decide) (a := min (h + 2) 7) (b := h + 1) (e := h) (j := h + 1) (by omega) (Or.inr le_rfl) _) $$ [HD HW]
  · isplitl [HD] <;> iassumption
  iintro ⟨HD, HW⟩
  iapply (run_bind c _ _ K)
  iapply (mulLL_step m ρ c false (S := Finset.Ico 0 (0 + 1)) (s := 0) (by decide) (by decide) (a := min (h + 2) 7) (b := h + 1) (e := h) (j := h + 1) (by omega) (Or.inr le_rfl) _) $$ [HD HW]
  · isplitl [HD] <;> iassumption
  iintro ⟨HD, HW⟩
  by_cases h3 : 3 < h
  · rw [if_pos h3]
    unfold Pairs
    ihave HQ := (bs_take (Finset.mem_Ico.mpr ⟨Nat.zero_le _, show 6 - h < 3 by omega⟩) (pairSt m ρ c h)) $$ HQ
    icases HQ with ⟨HQ, HB⟩
    ihave HQ := (Entails.of_eq (show pairSt m ρ c h (6 - h) = iprop(accAt c (2 * (6 - h)) (up (half m ρ true c (6 - h))) ∗ accAt c (2 * (6 - h) + 1) (up (half m ρ false c (6 - h)))) from by
      unfold pairSt; rw [if_neg (by omega), if_pos (by omega)])) $$ HQ
    icases HQ with ⟨H1, H2⟩
    iapply (run_bind c _ _ K)
    iapply (loadAcc_step c _ _ _) $$ H2
    iintro H2
    iapply (run_bind c _ _ K)
    iapply (loadAcc_step c _ _ _) $$ H1
    iintro H1
    iapply (run_pure c _ K)
    rw [start_true m ρ c h3, start_false m ρ c h3]
    iapply HK
    isplitl [HD HT HO HC]
    · isplitl [HD]; · iexact HD
      isplitl [HT]; · iexact HT
      isplitl [HO] <;> iassumption
    isplitl [HW]; · iexact HW
    iapply HB
    unfold pairSt
    rw [if_neg (show ¬ h ≤ 6 - h by omega), if_pos (show h + (6 - h) ≤ 6 by omega)]
    isplitl [H1] <;> iassumption
  · rw [if_neg h3]
    iapply (run_pure c _ K)
    unfold start
    rw [if_neg h3, if_neg h3]
    iapply HK
    isplitl [HD HT HO HC]
    · isplitl [HD]; · iexact HD
      isplitl [HT]; · iexact HT
      isplitl [HO] <;> iassumption
    isplitl [HW] <;> iassumption

theorem subS_step {h : ℕ} (hh : h < 7) {s : ℕ} (hs : s < 4) (p : FVec F S512x1024 .f32 × FVec F S512x1024 .f32)
    (K : FVec F S512x1024 .f32 × FVec F S512x1024 .f32 → sProp (𝕄 F)) :
    iprop(Pers m ρ κ ιs ∗ ArrSt m ρ c h s ∗ Wb m c)
      ⊢ iprop((ArrSt m ρ c h (s + 1) ∗ Wb m c -∗ K (addf p.1 (prod m ρ true c (h + 1) s), addf p.2 (prod m ρ false c (h + 1) s))) -∗ wpT c (subS c h s p : Prog (PE F) _) K) := by
  unfold subS
  iintro ⟨#HP, HA, HW⟩ HK
  iapply (run_bind c _ _ K)
  iapply (arrive_step m ρ κ ιs c hh hs _) $$ [HA]
  · isplitr; · iexact HP
    iexact HA
  iintro HA
  unfold ArrSt
  icases HA with ⟨HD, HT, HO, HC⟩
  iapply (run_bind c _ _ K)
  iapply (mulLL_step m ρ c true (S := Finset.Ico 0 (s + 1)) (s := s) (Finset.mem_Ico.mpr ⟨Nat.zero_le _, Nat.lt_succ_self _⟩) hs (a := min (h + 2) 7) (b := h + 1) (e := h) (j := h + 1) (by omega) (Or.inr le_rfl) _) $$ [HD HW]
  · isplitl [HD] <;> iassumption
  iintro ⟨HD, HW⟩
  iapply (run_bind c _ _ K)
  iapply (mulLL_step m ρ c false (S := Finset.Ico 0 (s + 1)) (s := s) (Finset.mem_Ico.mpr ⟨Nat.zero_le _, Nat.lt_succ_self _⟩) hs (a := min (h + 2) 7) (b := h + 1) (e := h) (j := h + 1) (by omega) (Or.inr le_rfl) _) $$ [HD HW]
  · isplitl [HD] <;> iassumption
  iintro ⟨HD, HW⟩
  iapply (run_pure c _ K)
  iapply HK
  isplitr [HW]
  · isplitl [HD]; · iexact HD
    isplitl [HT]; · iexact HT
    isplitl [HO] <;> iassumption
  iexact HW

end Cert.Proof
-- ==== Proof.HopEnd.lean ====
/-
  The end of a hop, the whole hop, and the state between hops.
-/
module

public import proofs.«01_k».proof.Proof.Hop

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

variable (m : (ℓ : Loc nD τ sig) → Buf (Elt F) ℓ) (ρ : Dev nD → PrngReg) (κ : Dev nD × SemLoc sig → ℕ) (ιs : Key → ℕ)
variable (c : Dev nD)

/-! ### The results of a hop -/

def slabSt (h i : ℕ) : sProp (𝕄 F) := if h ≤ slabT i then toPush c i else pushed c i
/-- The slabs before hop `h` ends. -/
def Slabs (h : ℕ) : sProp (𝕄 F) := bigSep (Finset.Ico 0 8) (slabSt c h)
def Ost0 (h : ℕ) : sProp (𝕄 F) := if h = 0 then iprop(∃ X, ostAt c 0 X) else iprop(emp)
def Ost1 (h : ℕ) : sProp (𝕄 F) := if h ≤ 3 then iprop(∃ X, ostAt c 1 X) else iprop(emp)

theorem total_half {d : Bool} {h : ℕ} (h3 : ¬ 3 < h) : total m ρ c d h = half m ρ d c h := by
  unfold total start; rw [if_neg h3]; rfl
theorem total_full {d : Bool} {h : ℕ} (h3 : 3 < h) : total m ρ c d h = full m ρ d c h := by
  unfold total start; rw [if_pos h3]; rfl

theorem outV_one : outV m ρ c 1 = sq numel_tile (fin (addf (total m ρ c true 3) (total m ρ c false 3))) := by
  rw [total_half m ρ c (by decide), total_half m ρ c (by decide)]; rfl
theorem outV_true {h : ℕ} (h3 : 3 < h) (hh : h < 7) : outV m ρ c (2 * h - 6) = sq numel_tile (fin (total m ρ c true h)) := by
  rw [total_full m ρ c h3]
  obtain rfl | rfl | rfl : h = 4 ∨ h = 5 ∨ h = 6 := by omega
  all_goals rfl
theorem outV_false {h : ℕ} (h3 : 3 < h) (hh : h < 7) : outV m ρ c (2 * h - 5) = sq numel_tile (fin (total m ρ c false h)) := by
  rw [total_full m ρ c h3]
  obtain rfl | rfl | rfl : h = 4 ∨ h = 5 ∨ h = 6 := by omega
  all_goals rfl

theorem finish_step {h : ℕ} (hh : h < 7) (K : PUnit → sProp (𝕄 F)) :
    iprop(Pers m ρ κ ιs ∗ Pairs m ρ c h ∗ Ost1 c h ∗ Slabs c h)
      ⊢ iprop((Pairs m ρ c (h + 1) ∗ Ost1 c (h + 1) ∗ Slabs c (if h = 0 then 0 else h + 1) -∗ K ⟨⟩)
        -∗ wpT c (finish c h (total m ρ c true h, total m ρ c false h) : Prog (PE F) PUnit) K) := by
  unfold finish Pairs Slabs
  dsimp only
  by_cases h3 : h < 3
  · rw [if_pos h3, total_half m ρ c (by omega), total_half m ρ c (by omega),
      show Ost1 (F := F) c h = Ost1 c (h + 1) by unfold Ost1; rw [if_pos (by omega), if_pos (by omega)],
      show bigSep (Finset.Ico 0 8) (slabSt (F := F) c (if h = 0 then 0 else h + 1)) = bigSep (Finset.Ico 0 8) (slabSt c h) from bigSep_congr fun i hi => by
        unfold slabSt slabT
        by_cases h0 : h = 0
        · subst h0; rfl
        · rw [if_neg h0]
          by_cases hi0 : i = 0
          · rw [if_pos hi0, if_neg (by omega), if_neg (by omega)]
          · rw [if_neg hi0, if_pos (by omega), if_pos (by omega)]]
    iintro ⟨-, HQ, HO, HS⟩ HK
    ihave HQ := (bs_update (Finset.mem_Ico.mpr ⟨Nat.zero_le h, h3⟩) (pairSt m ρ c h) (pairSt m ρ c (h + 1)) (fun k hk hne => by
      have := (Finset.mem_Ico.mp hk).2
      unfold pairSt
      by_cases hk : h ≤ k
      · rw [if_pos hk, if_pos (by omega)]
      · rw [if_neg hk, if_pos (by omega), if_neg (by omega), if_pos (by omega)])) $$ HQ
    icases HQ with ⟨HQ, HB⟩
    ihave HQ := (Entails.of_eq (show pairSt m ρ c h h = iprop((∃ X, accAt c (2 * h) X) ∗ ∃ X, accAt c (2 * h + 1) X) from if_pos le_rfl)) $$ HQ
    icases HQ with ⟨⟨%X, H1⟩, %Y, H2⟩
    iapply (run_bind c _ _ K)
    iapply (storeAcc_step c _ X _ _) $$ H1
    iintro H1
    iapply (storeAcc_step c _ Y _ K) $$ H2
    iintro H2
    iapply HK
    isplitl [HB H1 H2]
    · iapply HB
      iapply (Entails.of_eq (show iprop(accAt c (2 * h) (up (half m ρ true c h)) ∗ accAt c (2 * h + 1) (up (half m ρ false c h))) = pairSt m ρ c (h + 1) h from by
        unfold pairSt; rw [if_neg (by omega), if_pos (by omega)]))
      isplitl [H1] <;> iassumption
    isplitl [HO] <;> iassumption
  rw [if_neg h3, if_neg (show ¬ h = 0 by omega)]
  by_cases h4 : h = 3
  · subst h4
    rw [if_pos rfl, show Ost1 (F := F) c 3 = iprop(∃ X, ostAt c 1 X) from if_pos (by decide), show Ost1 (F := F) c (3 + 1) = iprop(emp) from if_neg (by decide),
      show bigSep (Finset.Ico 0 3) (pairSt m ρ c (3 + 1)) = bigSep (Finset.Ico 0 3) (pairSt m ρ c 3) from bigSep_congr fun k hk => by
        have := (Finset.mem_Ico.mp hk).2
        unfold pairSt; rw [if_neg (by omega), if_pos (by omega), if_neg (by omega), if_pos (by omega)]]
    iintro ⟨#HP, HQ, ⟨%X, HO⟩, HS⟩ HK
    ihave HS := (bs_update (show 1 ∈ Finset.Ico 0 8 by decide) (slabSt c 3) (slabSt c (3 + 1)) (fun k hk hne => by
      unfold slabSt slabT
      by_cases h0 : k = 0
      · subst h0; rfl
      · rw [if_neg h0, if_pos (by omega), if_pos (by omega)])) $$ HS
    icases HS with ⟨HS, HB⟩
    iapply (run_bind c _ _ K)
    iapply (storeOst_step c 1 X _ _) $$ HO
    iintro HO
    iapply (push_step m ρ κ ιs c (i := 1) (by decide) K) $$ [HO HS]
    · isplitr; · iexact HP
      isplitl [HO]
      · iapply (Entails.of_eq (show ostAt c 1 _ = srcAt c 1 (outV m ρ c 1) from by rw [outV_one, src_ost1])) $$ HO
      iapply (Entails.of_eq (show slabSt c 3 1 = toPush c 1 from if_pos (by decide))) $$ HS
    iintro Hp
    iapply HK
    isplitl [HQ]; · iexact HQ
    isplitr
    · iempintro
    iapply HB
    iapply (Entails.of_eq (show pushed c 1 = slabSt c (3 + 1) 1 from (if_neg (by decide)).symm)) $$ Hp
  · rw [if_neg h4, show Ost1 (F := F) c h = iprop(emp) from if_neg (by omega), show Ost1 (F := F) c (h + 1) = iprop(emp) from if_neg (by omega)]
    iintro ⟨#HP, HQ, -, HS⟩ HK
    ihave HQ := (bs_update (Finset.mem_Ico.mpr ⟨Nat.zero_le _, show 6 - h < 3 by omega⟩) (pairSt m ρ c h) (pairSt m ρ c (h + 1)) (fun k hk hne => by
      have := (Finset.mem_Ico.mp hk).2
      unfold pairSt
      by_cases hk : h + k ≤ 6
      · rw [if_neg (by omega), if_pos hk, if_neg (by omega), if_pos (by omega)]
      · rw [if_neg (by omega), if_neg hk, if_neg (by omega), if_neg (by omega)])) $$ HQ
    icases HQ with ⟨HQ, HB⟩
    ihave HQ := (Entails.of_eq (show pairSt m ρ c h (6 - h) = iprop(accAt c (2 * (6 - h)) (up (half m ρ true c (6 - h))) ∗ accAt c (2 * (6 - h) + 1) (up (half m ρ false c (6 - h)))) from by
      unfold pairSt; rw [if_neg (by omega), if_pos (by omega)])) $$ HQ
    icases HQ with ⟨H1, H2⟩
    ihave HS := (bs_update2 (show 2 * h - 6 ∈ Finset.Ico 0 8 from Finset.mem_Ico.mpr ⟨Nat.zero_le _, by omega⟩) (show 2 * h - 5 ∈ Finset.Ico 0 8 from Finset.mem_Ico.mpr ⟨Nat.zero_le _, by omega⟩) (by omega)
      (slabSt c h) (slabSt c (h + 1)) (fun k hk hne hne' => by
      unfold slabSt slabT
      by_cases h0 : k = 0
      · subst h0; rw [if_pos rfl, if_neg (by omega), if_neg (by omega)]
      · rw [if_neg h0]
        by_cases hle : h ≤ (k + 6) / 2
        · rw [if_pos hle, if_pos (by omega)]
        · rw [if_neg hle, if_neg (by omega)])) $$ HS
    icases HS with ⟨HS1, HS2, HBS⟩
    iapply (run_bind c _ _ K)
    iapply (storeAcc_step c _ _ _ _) $$ H2
    iintro H2
    iapply (run_bind c _ _ K)
    iapply (push_step m ρ κ ιs c (i := 2 * h - 6) (by omega) _) $$ [H2 HS1]
    · isplitr; · iexact HP
      isplitl [H2]
      · iapply (Entails.of_eq (show accAt c (2 * (6 - h) + 1) _ = srcAt c (2 * h - 6) (outV m ρ c (2 * h - 6)) from by rw [outV_true m ρ c (by omega) hh, (src_acc c (by omega) hh _).1])) $$ H2
      iapply (Entails.of_eq (show slabSt c h (2 * h - 6) = toPush c (2 * h - 6) from if_pos (by unfold slabT; split <;> omega))) $$ HS1
    iintro HS1
    iapply (run_bind c _ _ K)
    iapply (storeAcc_step c _ _ _ _) $$ H1
    iintro H1
    iapply (push_step m ρ κ ιs c (i := 2 * h - 5) (by omega) K) $$ [H1 HS2]
    · isplitr; · iexact HP
      isplitl [H1]
      · iapply (Entails.of_eq (show accAt c (2 * (6 - h)) _ = srcAt c (2 * h - 5) (outV m ρ c (2 * h - 5)) from by rw [outV_false m ρ c (by omega) hh, (src_acc c (by omega) hh _).2])) $$ H1
      iapply (Entails.of_eq (show slabSt c h (2 * h - 5) = toPush c (2 * h - 5) from if_pos (by unfold slabT; split <;> omega))) $$ HS2
    iintro HS2
    iapply HK
    isplitl [HB]
    · iapply HB
      iapply (Entails.of_eq (show iprop(emp) = pairSt m ρ c (h + 1) (6 - h) from by
        unfold pairSt; rw [if_neg (by omega), if_neg (by omega)]))
      iempintro
    isplitr
    · iempintro
    iapply HBS $$ [HS1]
    · iapply (Entails.of_eq (show pushed c (2 * h - 6) = slabSt c (h + 1) (2 * h - 6) from (if_neg (by unfold slabT; split <;> omega)).symm)) $$ HS1
    · iapply (Entails.of_eq (show pushed c (2 * h - 5) = slabSt c (h + 1) (2 * h - 5) from (if_neg (by unfold slabT; split <;> omega)).symm)) $$ HS2

/-- The device's own rows. -/
theorem own_step {a b : ℕ} (ha : 0 < a) (K : PUnit → sProp (𝕄 F)) :
    iprop(Pers m ρ κ ιs ∗ bigSep (Finset.Ico 0 4) (LL m ρ c a b 0) ∗ Wb m c ∗ Ost0 c 0 ∗ Slabs c 0)
      ⊢ iprop((bigSep (Finset.Ico 0 4) (LL m ρ c a b 0) ∗ Wb m c ∗ Slabs c 1 -∗ K ⟨⟩) -∗ wpT c (own c : Prog (PE F) PUnit) K) := by
  have step : ∀ (d : Bool) (s : ℕ) (hs : s < 4) (K : FVec F S512x1024 .f32 → sProp (𝕄 F)),
      iprop(bigSep (Finset.Ico 0 4) (LL m ρ c a b 0) ∗ Wb m c)
        ⊢ iprop((bigSep (Finset.Ico 0 4) (LL m ρ c a b 0) ∗ Wb m c -∗ K (prod m ρ d c 0 s)) -∗ wpT c (mul1 d 0 s (blk d s) : Prog (PE F) _) K) := fun d s hs K =>
    mulLL_step m ρ c d (Finset.mem_Ico.mpr ⟨Nat.zero_le _, hs⟩) hs (Nat.zero_le 0) (Or.inl ha) K
  unfold own Ost0 Slabs
  rw [if_pos rfl]
  iintro ⟨#HP, HL, HW, ⟨%X, HO⟩, HS⟩ HK
  ihave HLW := (show iprop(bigSep (Finset.Ico 0 4) (LL m ρ c a b 0) ∗ Wb m c) ⊢ iprop(bigSep (Finset.Ico 0 4) (LL m ρ c a b 0) ∗ Wb m c) from BI.Entails.refl _) $$ [HL HW]
  · isplitl [HL] <;> iassumption
  iapply (run_bind c _ _ K); iapply (step true 0 (by decide) _) $$ HLW; iintro HLW
  iapply (run_bind c _ _ K); iapply (step true 1 (by decide) _) $$ HLW; iintro HLW
  iapply (run_bind c _ _ K); iapply (step true 2 (by decide) _) $$ HLW; iintro HLW
  iapply (run_bind c _ _ K); iapply (step true 3 (by decide) _) $$ HLW; iintro HLW
  iapply (run_bind c _ _ K); iapply (step false 0 (by decide) _) $$ HLW; iintro HLW
  iapply (run_bind c _ _ K); iapply (step false 1 (by decide) _) $$ HLW; iintro HLW
  iapply (run_bind c _ _ K); iapply (step false 2 (by decide) _) $$ HLW; iintro HLW
  iapply (run_bind c _ _ K); iapply (step false 3 (by decide) _) $$ HLW; iintro ⟨HL, HW⟩
  ihave HS := (bs_update (show 0 ∈ Finset.Ico 0 8 by decide) (slabSt c 0) (slabSt c 1) (fun k hk hne => by
    unfold slabSt slabT
    rw [if_neg hne, if_pos (by omega), if_pos (by omega)])) $$ HS
  icases HS with ⟨HS, HB⟩
  iapply (run_bind c _ _ K)
  iapply (storeOst_step c 0 X _ _) $$ HO
  iintro HO
  iapply (push_step m ρ κ ιs c (i := 0) (by decide) K) $$ [HO HS]
  · isplitr; · iexact HP
    isplitl [HO]
    · iapply (Entails.of_eq (show ostAt c 0 (fin (addf (addf (addf (addf (addf (addf (addf (prod m ρ true c 0 0) (prod m ρ true c 0 1)) (prod m ρ true c 0 2)) (prod m ρ true c 0 3))
        (prod m ρ false c 0 0)) (prod m ρ false c 0 1)) (prod m ρ false c 0 2)) (prod m ρ false c 0 3))) = srcAt c 0 (outV m ρ c 0) from (src_ost0 c _).symm)) $$ HO
    iapply (Entails.of_eq (show slabSt c 0 0 = toPush c 0 from if_pos (by decide))) $$ HS
  iintro Hp
  iapply HK
  isplitl [HL]; · iexact HL
  isplitl [HW]; · iexact HW
  iapply HB
  iapply (Entails.of_eq (show pushed c 0 = slabSt c 1 0 from (if_neg (by decide)).symm)) $$ Hp

/-! ### The sends that end -/

theorem drain_step {s : ℕ} (hs : s < 4) {a b e : ℕ} (he : e < 7) (hea : e < a) (heb : e + 1 = b) (n k : ℕ) (K : PUnit → sProp (𝕄 F)) :
    iprop(Pers m ρ κ ιs ∗ (bigSep (Finset.Ico 0 s) (LL m ρ c a b (e + 1)) ∗ bigSep (Finset.Ico s 4) (LL m ρ c a b e)) ∗ ow c (owed c n k))
      ⊢ iprop(((bigSep (Finset.Ico 0 (s + 1)) (LL m ρ c a b (e + 1)) ∗ bigSep (Finset.Ico (s + 1) 4) (LL m ρ c a b e)) ∗ ow c (owed c n k) -∗ K ⟨⟩)
        -∗ wpT c (drain e s : Prog (PE F) PUnit) K) := by
  rw [bs_peel hs, bs_grow (Nat.zero_le s)]
  unfold drain LL
  iintro ⟨#HP, ⟨HD, ⟨H1, H2⟩, HT⟩, HO⟩ HK
  iapply (run_bind c _ _ K)
  iapply (lane_drain m ρ κ ιs c true s hs he hea heb n k _) $$ [H1 HO]
  · isplitr; · iexact HP
    isplitl [H1] <;> iassumption
  iintro ⟨HO, H1⟩
  iapply (lane_drain m ρ κ ιs c false s hs he hea heb n k K) $$ [H2 HO]
  · isplitr; · iexact HP
    isplitl [H2] <;> iassumption
  iintro ⟨HO, H2⟩
  iapply HK
  isplitr [HO]
  · isplitl [HD H1 H2]
    · isplitl [H1 H2]
      · isplitl [H1] <;> iassumption
      iexact HD
    iexact HT
  iexact HO

/-! ### Credits -/

theorem bs_sep {I : Type} (S : Finset I) (Φ Ψ : I → sProp (𝕄 F)) : bigSep S (fun i => iprop(Φ i ∗ Ψ i)) = iprop(bigSep S Φ ∗ bigSep S Ψ) := bigSep_sep S Φ Ψ

theorem lanes_news (a b e : ℕ) : bigSep (Finset.Ico 0 4) (LL m ρ c a b e)
    ⊢ iprop(bigSep (Finset.Ico 0 4) (LL m ρ c a b e) ∗ news true c (min e 4) ∗ news false c (min e 4)) := by
  have e1 : ∀ d, news (F := F) d c (min e 4) = bigSep (Finset.Ico 0 4) fun s => bigSep (Finset.Ico 0 (min e 4)) (given c d s) := fun d => by
    unfold news given; rw [Finset.range_eq_Ico, Finset.range_eq_Ico]
  rw [e1, e1, ← bs_sep (Finset.Ico 0 4) (fun s => bigSep (Finset.Ico 0 (min e 4)) (given c true s)), ← bs_sep]
  refine bigSep_mono fun s _ => show LL m ρ c a b e s
    ⊢ iprop(LL m ρ c a b e s ∗ bigSep (Finset.Ico 0 (min e 4)) (given c true s) ∗ bigSep (Finset.Ico 0 (min e 4)) (given c false s)) from ?_
  unfold LL
  iintro ⟨H1, H2⟩
  ihave H1 := (lane_given m ρ c true s a b e) $$ H1
  ihave H2 := (lane_given m ρ c false s a b e) $$ H2
  icases H1 with ⟨H1, G1⟩
  icases H2 with ⟨H2, G2⟩
  isplitl [H1 H2]
  · isplitl [H1] <;> iassumption
  isplitl [G1] <;> iassumption

/-- The right to give credit `j` each way. -/
def crdTok (j : ℕ) : sProp (𝕄 F) := iprop(dutyTok ER (crdC true (tgt false c)) 0 j ∗ dutyTok ER (crdC false (tgt true c)) 0 j)

theorem credit_step {h : ℕ} (hh : h < 4) (n : ℕ) (K : PUnit → sProp (𝕄 F)) :
    iprop(Pers m ρ κ ιs ∗ crdTok c h ∗ (news true c (h + 1) ∗ news false c (h + 1)) ∗ ow c (owed c n (2 * h)))
      ⊢ iprop((ow c (owed c n (2 * (h + 1))) -∗ K ⟨⟩) -∗ wpT c (credit c : Prog (PE F) PUnit) K) := by
  unfold credit crdTok
  rw [tgtW_eq, tgtW_eq]
  iintro ⟨#HP, ⟨Ht1, Ht2⟩, ⟨Hn1, Hn2⟩, HO⟩ HK
  iapply (run_bind c _ _ K)
  iapply (signal_step m ρ κ ιs c (tgt false c) (crdA true).sem (ne_crd true) h (amount_crd m ρ (tgt false c) true 0 h)
    (by rw [duties_crd]; exact Finset.mem_range.mpr hh) (owed c n (2 * h + 1)) _) $$ [HO Ht1 Hn1]
  · isplitr; · iexact HP
    isplitl [HO]
    · iapply (Entails.of_eq (show ow c (owed c n (2 * h)) = _ from congrArg (ow c) (owed_credit c true n hh))) $$ HO
    isplitl [Ht1]; · iexact Ht1
    isplitl [Hn1]
    · iapply (Entails.of_eq (show news true c (h + 1) = _ by rw [payload_crd m ρ (tgt false c) true, show tgt true (tgt false c) = c from tgt_not' true c])) $$ Hn1
    iapply (reached_of m ρ κ ιs (tgt false c) _ (ne_crd true)); iexact HP
  iintro HO
  iapply (signal_step m ρ κ ιs c (tgt true c) (crdA false).sem (ne_crd false) h (amount_crd m ρ (tgt true c) false 0 h)
    (by rw [duties_crd]; exact Finset.mem_range.mpr hh) (owed c n (2 * (h + 1))) _) $$ [HO Ht2 Hn2]
  · isplitr; · iexact HP
    isplitl [HO]
    · iapply (Entails.of_eq (show ow c (owed c n (2 * h + 1)) = _ from congrArg (ow c) (owed_credit c false n hh))) $$ HO
    isplitl [Ht2]; · iexact Ht2
    isplitl [Hn2]
    · iapply (Entails.of_eq (show news false c (h + 1) = _ by rw [payload_crd m ρ (tgt true c) false, show tgt false (tgt true c) = c from tgt_not' false c])) $$ Hn2
    iapply (reached_of m ρ κ ιs (tgt true c) _ (ne_crd false)); iexact HP
  iexact HK

/-! ### The hop -/

/-- The device before hop `h`. -/
def HopSt (h : ℕ) : sProp (𝕄 F) :=
  iprop(bigSep (Finset.Ico 0 4) (LL m ρ c (min (h + 1) 7) h h) ∗ ow c (owed c (8 * (h + 1)) (2 * h)) ∗ Crd c (min (h - 2) 4)
    ∗ Wb m c ∗ Pairs m ρ c h ∗ (Ost0 c h ∗ Ost1 c h ∗ Slabs c h) ∗ bigSep (Finset.Ico h 4) (crdTok c))

def wOwn (h : ℕ) : Prog (PE F) PUnit := if h = 0 then own c else pure ⟨⟩
def wCredit (h : ℕ) : Prog (PE F) PUnit := if h ≤ 3 then credit c else pure ⟨⟩

theorem hop_eq (h : ℕ) : (hop c h : Prog (PE F) PUnit)
    = sub0 c h >>= fun p => subS c h 1 p >>= fun p => subS c h 2 p >>= fun p => subS c h 3 p >>= fun p => finish c h p >>= fun _ => wOwn c h >>= fun _ =>
      drain h 0 >>= fun _ => drain h 1 >>= fun _ => drain h 2 >>= fun _ => drain h 3 >>= fun _ => wCredit c h := by
  unfold hop wOwn wCredit
  split <;> split <;> rfl

theorem wOwn_step (h : ℕ) (K : PUnit → sProp (𝕄 F)) :
    iprop(Pers m ρ κ ιs ∗ bigSep (Finset.Ico 0 4) (LL m ρ c (min (h + 2) 7) (h + 1) h) ∗ Wb m c ∗ Ost0 c h ∗ Slabs c (if h = 0 then 0 else h + 1))
      ⊢ iprop((bigSep (Finset.Ico 0 4) (LL m ρ c (min (h + 2) 7) (h + 1) h) ∗ Wb m c ∗ Ost0 c (h + 1) ∗ Slabs c (h + 1) -∗ K ⟨⟩) -∗ wpT c (wOwn c h : Prog (PE F) PUnit) K) := by
  unfold wOwn
  rw [show Ost0 (F := F) c (h + 1) = iprop(emp) from if_neg (by omega)]
  by_cases h0 : h = 0
  · subst h0
    rw [if_pos rfl, if_pos rfl]
    iintro H HK
    iapply (own_step m ρ κ ιs c (a := min (0 + 2) 7) (b := 0 + 1) (by omega) K) $$ H
    iintro ⟨HL, HW, HS⟩
    iapply HK
    isplitl [HL]; · iexact HL
    isplitl [HW]; · iexact HW
    isplitr
    · iempintro
    iexact HS
  · rw [if_neg h0, if_neg h0]
    iintro ⟨-, HL, HW, -, HS⟩ HK
    iapply (run_pure c ⟨⟩ K)
    iapply HK
    isplitl [HL]; · iexact HL
    isplitl [HW]; · iexact HW
    isplitr
    · iempintro
    iexact HS

theorem wCredit_step (h n : ℕ) (K : PUnit → sProp (𝕄 F)) :
    iprop(Pers m ρ κ ιs ∗ bigSep (Finset.Ico h 4) (crdTok c) ∗ bigSep (Finset.Ico 0 4) (LL m ρ c (min (h + 2) 7) (h + 1) (h + 1)) ∗ ow c (owed c n (2 * h)))
      ⊢ iprop((bigSep (Finset.Ico (h + 1) 4) (crdTok c) ∗ bigSep (Finset.Ico 0 4) (LL m ρ c (min (h + 2) 7) (h + 1) (h + 1)) ∗ ow c (owed c n (2 * (h + 1))) -∗ K ⟨⟩)
        -∗ wpT c (wCredit c h : Prog (PE F) PUnit) K) := by
  unfold wCredit
  by_cases h3 : h ≤ 3
  · rw [if_pos h3, bs_peel (show h < 4 by omega)]
    iintro ⟨#HP, ⟨Ht, Hts⟩, HL, HO⟩ HK
    ihave HL := (lanes_news m ρ c (min (h + 2) 7) (h + 1) (h + 1)) $$ HL
    icases HL with ⟨HL, Hn⟩
    iapply (credit_step m ρ κ ιs c (h := h) (by omega) n K) $$ [Ht Hn HO]
    · isplitr; · iexact HP
      isplitl [Ht]; · iexact Ht
      isplitl [Hn]
      · iapply (Entails.of_eq (show iprop(news true c (min (h + 1) 4) ∗ news false c (min (h + 1) 4)) = iprop(news (F := F) true c (h + 1) ∗ news false c (h + 1)) by
          rw [show min (h + 1) 4 = h + 1 by omega])) $$ Hn
      iexact HO
    iintro HO
    iapply HK
    isplitl [Hts]; · iexact Hts
    isplitl [HL] <;> iassumption
  · rw [if_neg h3, Finset.Ico_eq_empty (show ¬ h < 4 by omega), Finset.Ico_eq_empty (show ¬ h + 1 < 4 by omega),
      show owed c n (2 * h) = owed c n (2 * (h + 1)) by
        unfold owed; rw [Finset.Ico_eq_empty (a := 2 * h) (by omega), Finset.Ico_eq_empty (a := 2 * (h + 1)) (by omega)]]
    iintro ⟨-, H⟩ HK
    iapply (run_pure c ⟨⟩ K)
    iapply HK; iexact H

theorem hop_step {h : ℕ} (hh : h < 7) (K : PUnit → sProp (𝕄 F)) :
    iprop(Pers m ρ κ ιs ∗ HopSt m ρ c h) ⊢ iprop((HopSt m ρ c (h + 1) -∗ K ⟨⟩) -∗ wpT c (hop c h : Prog (PE F) PUnit) K) := by
  unfold HopSt
  rw [hop_eq]
  iintro ⟨#HP, HL, HO, HC, HW, HQ, ⟨H0, H1, HS⟩, Ht⟩ HK
  iapply (run_bind c _ _ K)
  iapply (sub0_step m ρ κ ιs c hh _) $$ [HL HO HC HW HQ]
  · isplitr; · iexact HP
    isplitl [HL HO HC]
    · unfold ArrSt
      rw [bs_nil, if_pos rfl]
      isplitr
      · iempintro
      isplitl [HL]; · iexact HL
      isplitl [HO] <;> iassumption
    isplitl [HW] <;> iassumption
  iintro ⟨HA, HW, HQ⟩
  iapply (run_bind c _ _ K)
  iapply (subS_step m ρ κ ιs c hh (s := 1) (by decide) _ _) $$ [HA HW]
  · isplitr; · iexact HP
    isplitl [HA] <;> iassumption
  iintro ⟨HA, HW⟩
  iapply (run_bind c _ _ K)
  iapply (subS_step m ρ κ ιs c hh (s := 2) (by decide) _ _) $$ [HA HW]
  · isplitr; · iexact HP
    isplitl [HA] <;> iassumption
  iintro ⟨HA, HW⟩
  iapply (run_bind c _ _ K)
  iapply (subS_step m ρ κ ιs c hh (s := 3) (by decide) _ _) $$ [HA HW]
  · isplitr; · iexact HP
    isplitl [HA] <;> iassumption
  iintro ⟨HA, HW⟩
  iapply (run_bind c _ _ K)
  iapply (finish_step m ρ κ ιs c hh _) $$ [HQ H1 HS]
  · isplitr; · iexact HP
    isplitl [HQ]; · iexact HQ
    isplitl [H1] <;> iassumption
  iintro ⟨HQ, H1, HS⟩
  unfold ArrSt
  icases HA with ⟨HL, -, HO, HC⟩
  iapply (run_bind c _ _ K)
  iapply (wOwn_step m ρ κ ιs c h _) $$ [HL HW H0 HS]
  · isplitr; · iexact HP
    isplitl [HL]; · iexact HL
    isplitl [HW]; · iexact HW
    isplitl [H0] <;> iassumption
  iintro ⟨HL, HW, H0, HS⟩
  iapply (run_bind c _ _ K)
  iapply (drain_step m ρ κ ιs c (s := 0) (by decide) (a := min (h + 2) 7) (b := h + 1) (e := h) hh (by omega) rfl (8 * (h + 1) + 2 * (3 + 1)) (2 * h) _) $$ [HL HO]
  · isplitr; · iexact HP
    isplitl [HL]
    · rw [bs_nil]
      isplitr
      · iempintro
      iexact HL
    iexact HO
  iintro ⟨HL, HO⟩
  iapply (run_bind c _ _ K)
  iapply (drain_step m ρ κ ιs c (s := 1) (by decide) (a := min (h + 2) 7) (b := h + 1) (e := h) hh (by omega) rfl (8 * (h + 1) + 2 * (3 + 1)) (2 * h) _) $$ [HL HO]
  · isplitr; · iexact HP
    isplitl [HL] <;> iassumption
  iintro ⟨HL, HO⟩
  iapply (run_bind c _ _ K)
  iapply (drain_step m ρ κ ιs c (s := 2) (by decide) (a := min (h + 2) 7) (b := h + 1) (e := h) hh (by omega) rfl (8 * (h + 1) + 2 * (3 + 1)) (2 * h) _) $$ [HL HO]
  · isplitr; · iexact HP
    isplitl [HL] <;> iassumption
  iintro ⟨HL, HO⟩
  iapply (run_bind c _ _ K)
  iapply (drain_step m ρ κ ιs c (s := 3) (by decide) (a := min (h + 2) 7) (b := h + 1) (e := h) hh (by omega) rfl (8 * (h + 1) + 2 * (3 + 1)) (2 * h) _) $$ [HL HO]
  · isplitr; · iexact HP
    isplitl [HL] <;> iassumption
  iintro ⟨⟨HL, -⟩, HO⟩
  iapply (wCredit_step m ρ κ ιs c h (8 * (h + 1) + 2 * (3 + 1)) K) $$ [Ht HL HO]
  · isplitr; · iexact HP
    isplitl [Ht]; · iexact Ht
    isplitl [HL] <;> iassumption
  iintro ⟨Ht, HL, HO⟩
  iapply HK
  isplitl [HL]; · iexact HL
  isplitl [HO]; · iexact HO
  isplitl [HC]
  · iapply (Entails.of_eq (show Crd c (if 3 + 1 = 0 then min (h - 2) 4 else min (h - 1) 4) = Crd (F := F) c (min (h + 1 - 2) 4) by
      rw [if_neg (by omega), show h + 1 - 2 = h - 1 by omega])) $$ HC
  isplitl [HW]; · iexact HW
  isplitl [HQ]; · iexact HQ
  isplitr [Ht]
  · isplitl [H0]; · iexact H0
    isplitl [H1] <;> iassumption
  iexact Ht

end Cert.Proof
-- ==== Proof.Whole.lean ====
/-
  The whole body: the start, the hops, and the last waits.
-/
module

public import proofs.«01_k».proof.Proof.HopEnd

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

variable (m : (ℓ : Loc nD τ sig) → Buf (Elt F) ℓ) (ρ : Dev nD → PrngReg) (κ : Dev nD × SemLoc sig → ℕ) (ιs : Key → ℕ)
variable (c : Dev nD)

theorem bs_emp {I : Type} (S : Finset I) : bigSep S (fun _ => (iprop(emp) : sProp (𝕄 F))) = iprop(emp) := bigSep_emp_const S

/-- A change of every member that a persistent fact allows. -/
theorem bs_mono_with {I : Type} [DecidableEq I] (P : sProp (𝕄 F)) [BI.Persistent P] (S : Finset I) (Φ Ψ : I → sProp (𝕄 F)) (h : ∀ i ∈ S, iprop(P ∗ Φ i) ⊢ Ψ i) :
    iprop(P ∗ bigSep S Φ) ⊢ bigSep S Ψ :=
  bigSep_with_persistent h

/-! ### The lanes at the start -/

/-- What the send of hop `h` needs from the launch. -/
def toSend0 (d : Bool) (s h : ℕ) : sProp (𝕄 F) :=
  iprop((dutyTok ER (sndC d h s c) (h / 4) 0 ∗ dutyTok ER (rcvC d h s (tgt d c)) (h / 4) 0)
    ∗ if h < 3 then iprop(emp) else writeTok ES ((tgt d c, d, h - 3, s) : Key) 1)
/-- What a lane gets from the launch. -/
def laneSeed (d : Bool) (s : ℕ) : sProp (𝕄 F) :=
  iprop(bigSep (Finset.Ico 0 7) (toSend0 c d s) ∗ bigSep (Finset.Ico 0 7) (awaited c d s)
    ∗ bigSep (Finset.Ico 0 4) (atR c d s) ∗ bigSep (Finset.Ico 0 4) (atS c d s) ∗ bigSep (Finset.Ico 0 4) (giver c d s))

theorem lane_intro (d : Bool) (s : ℕ) :
    iprop(Pers m ρ κ ιs ∗ laneSeed c d s ∗ held m ρ c d s 0 ∗ bigSep (Finset.range 3) fun h => slotAny (tgt d c) d (h + 1) s) ⊢ Lane m ρ c d s 0 0 0 := by
  unfold laneSeed Lane
  rw [bs_nil, show min 0 4 = 0 from rfl, bs_nil, Finset.Ico_eq_empty (show ¬ 4 < 0 by decide), bs_grow (le_refl 0), bs_nil,
    show bigSep (∅ : Finset ℕ) (held m ρ c d s) = (iprop(emp) : sProp (𝕄 F)) from bigSep_empty, Finset.range_eq_Ico,
    bs_peel (show 0 < 7 by decide), bs_peel (show 0 + 1 < 7 by decide), bs_peel (show 0 + 1 + 1 < 7 by decide),
    bs_peel (show 0 < 7 by decide) (toSend c d s), bs_peel (show 0 + 1 < 7 by decide) (toSend c d s), bs_peel (show 0 + 1 + 1 < 7 by decide) (toSend c d s),
    bs_peel (show 0 < 3 by decide), bs_peel (show 0 + 1 < 3 by decide), bs_peel (show 0 + 1 + 1 < 3 by decide)]
  iintro ⟨#HP, ⟨⟨T0, T1, T2, Ts⟩, Ha, HR, HS, Hg⟩, Hh, ⟨S0, S1, S2, -⟩⟩
  have hs : ∀ h, h < 3 → iprop(toSend0 c d s h ∗ slotAny (tgt d c) d (h + 1) s) ⊢ (toSend c d s h : sProp (𝕄 F)) := fun h hh => by
    unfold toSend0 toSend
    rw [if_pos hh, if_pos hh]
    iintro ⟨⟨⟨H1, H2⟩, -⟩, H3⟩
    isplitl [H1]; · iexact H1
    isplitl [H2] <;> iassumption
  isplitl [T0 T1 T2 Ts S0 S1 S2]
  · isplitl [T0 S0]
    · iapply (hs 0 (by decide)); isplitl [T0] <;> iassumption
    isplitl [T1 S1]
    · iapply (hs (0 + 1) (by decide)); isplitl [T1] <;> iassumption
    isplitl [T2 S2]
    · iapply (hs (0 + 1 + 1) (by decide)); isplitl [T2] <;> iassumption
    iapply (show bigSep (Finset.Ico (0 + 1 + 1 + 1) 7) (toSend0 (F := F) c d s) ⊢ bigSep (Finset.Ico (0 + 1 + 1 + 1) 7) (toSend c d s) from bigSep_mono fun h hh => show toSend0 c d s h ⊢ toSend c d s h from by
      have := (Finset.mem_Ico.mp hh).1
      unfold toSend0 toSend
      rw [if_neg (by omega), if_neg (by omega)]
      iintro ⟨⟨H1, H2⟩, H3⟩
      isplitl [H1]; · iexact H1
      isplitl [H2] <;> iassumption) $$ Ts
  isplitl [Ha]; · iexact Ha
  isplitl [HR]
  · isplitl [HR]; · iexact HR
    iapply (show Pers m ρ κ ιs ⊢ bigSep (Finset.Ico 0 (0 + 4)) (reR (F := F) c d s) from
      (show Pers m ρ κ ιs ⊢ iprop(Pers m ρ κ ιs ∗ bigSep (Finset.Ico 0 (0 + 4)) fun _ => iprop(emp)) from by
        rw [bs_emp]; iintro #H; isplitr
        · iexact H
        · iempintro).trans (bs_mono_with _ _ _ _ fun h hh => by
          have := (Finset.mem_Ico.mp hh).2
          unfold reR
          rw [show h / 4 = 0 by omega]
          iintro ⟨H, -⟩
          iapply (reached_of m ρ κ ιs c _ (ne_rcv d _)) $$ H))
    iexact HP
  isplitl [HS]
  · isplitl [HS]; · iexact HS
    iapply (show Pers m ρ κ ιs ⊢ bigSep (Finset.Ico 0 (0 + 4)) (reS (F := F) c d s) from
      (show Pers m ρ κ ιs ⊢ iprop(Pers m ρ κ ιs ∗ bigSep (Finset.Ico 0 (0 + 4)) fun _ => iprop(emp)) from by
        rw [bs_emp]; iintro #H; isplitr
        · iexact H
        · iempintro).trans (bs_mono_with _ _ _ _ fun h hh => by
          have := (Finset.mem_Ico.mp hh).2
          unfold reS
          rw [show h / 4 = 0 by omega]
          iintro ⟨H, -⟩
          iapply (reached_of m ρ κ ιs c _ (ne_snd d _)) $$ H))
    iexact HP
  isplitr
  · iempintro
  isplitl [Hh]
  · isplitl [Hh]; · iexact Hh
    iempintro
  isplitr
  · iempintro
  isplitr
  · iempintro
  iexact Hg

def slotsAny (s : ℕ) : sProp (𝕄 F) := iprop(slotAny c true 0 s ∗ slotAny c false 0 s)
def heldBoth (s : ℕ) : sProp (𝕄 F) := iprop(held m ρ c true s 0 ∗ held m ρ c false s 0)
def seedBoth (s : ℕ) : sProp (𝕄 F) := iprop(laneSeed c true s ∗ laneSeed c false s)

theorem lanes_intro :
    iprop(Pers m ρ κ ιs ∗ bigSep (Finset.Ico 0 4) (seedBoth c) ∗ bigSep (Finset.Ico 0 4) (heldBoth m ρ c) ∗ fresh true (tgt true c) ∗ fresh false (tgt false c))
      ⊢ bigSep (Finset.Ico 0 4) (LL m ρ c 0 0 0) := by
  unfold fresh
  rw [Finset.range_eq_Ico, ← bs_sep, ← bs_sep, ← bs_sep]
  refine bs_mono_with _ _ _ _ fun s _ => ?_
  unfold seedBoth heldBoth LL
  iintro ⟨#HP, ⟨S1, S2⟩, ⟨H1, H2⟩, F1, F2⟩
  isplitl [S1 H1 F1]
  · iapply (lane_intro m ρ κ ιs c true s)
    isplitr; · iexact HP
    isplitl [S1]; · iexact S1
    isplitl [H1]; · iexact H1
    iexact F1
  · iapply (lane_intro m ρ κ ιs c false s)
    isplitr; · iexact HP
    isplitl [S2]; · iexact S2
    isplitl [H2]; · iexact H2
    iexact F2

theorem news_zero (d : Bool) (e : Dev nD) : (iprop(emp) : sProp (𝕄 F)) ⊢ news d e 0 := by
  unfold news
  have e' : ∀ s, (bigSep (Finset.range 0) fun j => released ES ((e, d, j, s) : Key) 1 : sProp (𝕄 F)) = iprop(emp) := fun s => by
    rw [Finset.range_zero]; exact bigSep_empty
  rw [bigSep_congr fun s _ => e' s, bs_emp]

/-! ### The body -/

def wInit : sProp (𝕄 F) :=
  iprop(bigSep (Finset.Ico 0 8) (wTodo m c) ∗ (wstAny c 0 ∗ wstAny c 1) ∗ bigSep (Finset.Ico 0 2) (atW c) ∗ bigSep (Finset.Ico 0 8) (wbAny c))

def atO (i : ℕ) : sProp (𝕄 F) := atPos ER (oC i c) 0 ∅ 0
def BodyIn : sProp (𝕄 F) :=
  iprop(xAt m ρ c ∗ bigSep (Finset.Ico 0 4) (slotsAny c) ∗ bigSep (Finset.Ico 0 4) (seedBoth c) ∗ wInit m c ∗ barIn c ∗ ow c (owed₀ c)
    ∗ (credW c true 0 ∗ credW c false 0) ∗ Pairs m ρ c 0 ∗ (Ost0 c 0 ∗ Ost1 c 0 ∗ Slabs c 0) ∗ bigSep (Finset.Ico 0 4) (crdTok c) ∗ bigSep (Finset.Ico 0 8) (atO c))

def outDone (i : ℕ) : sProp (𝕄 F) := iprop(sent m ρ c i ∗ atPos ER (oC i c) 1 ∅ 0)
def BodyOut : sProp (𝕄 F) :=
  iprop(xAt m ρ c ∗ bigSep (Finset.Ico 0 4) (LL m ρ c 7 7 7) ∗ wSt m c 8 ∗ ow c 0 ∗ atPos ER (barC c) 1 ∅ 0
    ∗ (credW c true 4 ∗ credW c false 4) ∗ bigSep (Finset.Ico 0 8) (outDone m ρ c))

theorem body_step (K : PUnit → sProp (𝕄 F)) :
    iprop(Pers m ρ κ ιs ∗ BodyIn m ρ c) ⊢ iprop((BodyOut m ρ c -∗ K ⟨⟩) -∗ wpT c (bodyAt c : Prog (PE F) PUnit) K) := by
  unfold BodyIn BodyOut bodyAt wInit
  rw [bs_peel (show 0 < 8 by decide)]
  iintro ⟨#HP, Hx, Hsl, Hsd, ⟨⟨Hw0, Hws⟩, ⟨Hst0, Hst1⟩, HaW, Hwb⟩, Hbar, HO, ⟨HC1, HC2⟩, HQ, Hres, Htk, HaO⟩ HK
  iapply (run_bind c _ _ K)
  iapply (wStart_step m ρ κ ιs c (k := 0) (by decide) _) $$ [Hw0 Hst0]
  · isplitr; · iexact HP
    isplitl [Hw0]; · iexact Hw0
    isplitr
    · unfold reW; iapply (reached_of m ρ κ ιs c _ (ne_w 0)); iexact HP
    iexact Hst0
  iintro Hwc
  iapply (run_bind c _ _ K)
  iapply (run_seqN c pack (fun i => iprop(xAt m ρ c ∗ bigSep (Finset.Ico 0 i) (heldBoth m ρ c) ∗ bigSep (Finset.Ico i 4) (slotsAny c))) 4 (fun i hi K => by
    rw [bs_peel hi, bs_grow (Nat.zero_le i)]
    iintro ⟨Hx, HD, ⟨HS, HT⟩⟩ HK
    unfold slotsAny
    icases HS with ⟨H1, H2⟩
    iapply (pack_step m ρ c i K) $$ [Hx H1 H2]
    · isplitl [Hx]; · iexact Hx
      isplitl [H1] <;> iassumption
    iintro ⟨Hx, H⟩
    iapply HK
    isplitl [Hx]; · iexact Hx
    isplitl [HD H]
    · isplitl [H]
      · unfold heldBoth; iexact H
      iexact HD
    iexact HT) _) $$ [Hx Hsl]
  · isplitl [Hx]; · iexact Hx
    isplitr
    · rw [bs_nil]; iempintro
    iexact Hsl
  iintro ⟨Hx, Hh, -⟩
  iapply (run_bind c _ _ K)
  iapply (barrier_step m ρ κ ιs c _) $$ [Hbar HO]
  · isplitr; · iexact HP
    isplitl [Hbar] <;> iassumption
  iintro ⟨HO, HaB, HF1, HF2⟩
  ihave HL := (lanes_intro m ρ κ ιs c) $$ [Hsd Hh HF1 HF2]
  · isplitr; · iexact HP
    isplitl [Hsd]; · iexact Hsd
    isplitl [Hh]; · iexact Hh
    isplitl [HF1] <;> iassumption
  iapply (run_bind c _ _ K)
  iapply (run_seqN c (sends c 0) (fun i => iprop(Pers m ρ κ ιs ∗ bigSep (Finset.Ico 0 i) (LL m ρ c 1 0 0) ∗ bigSep (Finset.Ico i 4) (LL m ρ c 0 0 0) ∗ ow c (owed c (8 * 0 + 2 * i) 0))) 4 (fun i hi K => by
    rw [bs_peel hi, bs_grow (Nat.zero_le i)]
    iintro ⟨#HP, HD, ⟨HL, HT⟩, HO⟩ HK
    iapply (sends_step m ρ κ ιs c hi (a := 0) (b := 0) (e := 0) (by decide) (by decide) (by decide) (by decide) 0 K) $$ [HL HO]
    · isplitr; · iexact HP
      isplitr
      · isplitr
        · iapply (news_zero true (tgt true c)); iempintro
        · iapply (news_zero false (tgt false c)); iempintro
      isplitl [HL] <;> iassumption
    iintro ⟨HO, HL⟩
    iapply HK
    isplitr; · iexact HP
    isplitl [HL HD]
    · isplitl [HL] <;> iassumption
    isplitl [HT] <;> iassumption) _) $$ [HL HO]
  · isplitr; · iexact HP
    isplitr
    · rw [bs_nil]; iempintro
    isplitl [HL] <;> iassumption
  iintro ⟨-, HL, -, HO⟩
  iapply (run_bind c _ _ K)
  iapply (run_seqN c wTile (fun k => iprop(Pers m ρ κ ιs ∗ wSt m c k ∗ ow c (owed c 8 0))) 8 (fun k hk K => by
    iintro ⟨#HP, HW, HO⟩ HK
    iapply (wTile_step m ρ κ ιs c hk 8 0 K) $$ [HW HO]
    · isplitr; · iexact HP
      isplitl [HW] <;> iassumption
    iintro ⟨HW, HO⟩
    iapply HK
    isplitr; · iexact HP
    isplitl [HW] <;> iassumption) _) $$ [Hwc Hws Hst1 HaW Hwb HO]
  · isplitr; · iexact HP
    isplitr [HO]
    · unfold wSt
      rw [bs_nil, bs_nil]
      isplitl [Hwc]
      · unfold wCr; rw [if_pos (by decide)]; iexact Hwc
      isplitl [Hws]; · iexact Hws
      isplitr
      · iempintro
      isplitl [Hst1]; · iexact Hst1
      isplitl [HaW]; · iexact HaW
      isplitr
      · rw [bs_peel (show 0 < 0 + 2 by decide), bs_peel (show 0 + 1 < 0 + 2 by decide), bs_nil]
        unfold reW
        isplitr
        · iapply (reached_of m ρ κ ιs c _ (ne_w 0)); iexact HP
        isplitr
        · iapply (reached_of m ρ κ ιs c _ (ne_w (0 + 1))); iexact HP
        · iempintro
      isplitr
      · iempintro
      iexact Hwb
    iexact HO
  iintro ⟨-, HW, HO⟩
  unfold wSt
  icases HW with ⟨W1, W2, W3, W4, W5, W6, W7, W8⟩
  iapply (run_bind c _ _ K)
  iapply (run_seqN c (hop c) (fun h => iprop(Pers m ρ κ ιs ∗ HopSt m ρ c h)) 7 (fun h hh K => by
    iintro ⟨#HP, H⟩ HK
    iapply (hop_step m ρ κ ιs c hh K) $$ [H]
    · isplitr; · iexact HP
      iexact H
    iintro H
    iapply HK
    isplitr; · iexact HP
    iexact H) _) $$ [HL HO HC1 HC2 W7 HQ Hres Htk]
  · isplitr; · iexact HP
    unfold HopSt
    isplitl [HL]; · iexact HL
    isplitl [HO]; · iexact HO
    isplitl [HC1 HC2]
    · unfold Crd
      isplitl [HC1]; · iexact HC1
      isplitl [HC2]; · iexact HC2
      isplitr
      · iapply (news_zero true (tgt true c)); iempintro
      · iapply (news_zero false (tgt false c)); iempintro
    isplitl [W7]; · unfold Wb; iexact W7
    isplitl [HQ]; · iexact HQ
    isplitl [Hres]; · iexact Hres
    iexact Htk
  iintro ⟨-, HH⟩
  unfold HopSt
  icases HH with ⟨HL, HO, HC, HW, -, ⟨-, -, HS⟩, -⟩
  iapply (run_seqN c (waitPush c) (fun i => iprop(Pers m ρ κ ιs ∗ bigSep (Finset.Ico 0 i) (outDone m ρ c) ∗ bigSep (Finset.Ico i 8) (pushed c) ∗ bigSep (Finset.Ico i 8) (atO c) ∗ ow c (owed c 64 14))) 8 (fun i hi K => by
    rw [bs_peel hi, bs_peel hi, bs_grow (Nat.zero_le i)]
    unfold atO
    iintro ⟨#HP, HD, ⟨Hp, Hps⟩, ⟨Ha, Has⟩, HO⟩ HK
    iapply (waitPush_step m ρ κ ιs c hi 64 14 K) $$ [Hp Ha HO]
    · isplitr; · iexact HP
      isplitl [Hp]; · iexact Hp
      isplitl [Ha] <;> iassumption
    iintro ⟨Hs, Ha, HO⟩
    iapply HK
    isplitr; · iexact HP
    isplitl [HD Hs Ha]
    · isplitl [Hs Ha]
      · unfold outDone
        isplitl [Hs] <;> iassumption
      iexact HD
    isplitl [Hps]; · iexact Hps
    isplitl [Has] <;> iassumption) K) $$ [HS HaO HO]
  · isplitr; · iexact HP
    isplitr
    · rw [bs_nil]; iempintro
    isplitl [HS]
    · iapply (Entails.of_eq (show Slabs (F := F) c 7 = bigSep (Finset.Ico 0 8) (pushed c) from bigSep_congr fun i hi => by
        have := (Finset.mem_Ico.mp hi).2
        unfold slabSt slabT
        rw [if_neg (by split <;> omega)])) $$ HS
    isplitl [HaO]; · iexact HaO
    iexact HO
  iintro ⟨-, HD, -, -, HO⟩
  iapply HK
  unfold Crd Wb
  icases HC with ⟨HC1, HC2, -⟩
  isplitl [Hx]; · iexact Hx
  isplitl [HL]; · iexact HL
  isplitl [W1 W2 W3 W4 W5 W6 HW W8]
  · isplitl [W1]; · iexact W1
    isplitl [W2]; · iexact W2
    isplitl [W3]; · iexact W3
    isplitl [W4]; · iexact W4
    isplitl [W5]; · iexact W5
    isplitl [W6]; · iexact W6
    isplitl [HW]; · iexact HW
    iexact W8
  isplitl [HO]
  · iapply (Entails.of_eq (congrArg (ow c) (owed_done c (n := 64) (k := 14) (by decide) (by decide)))) $$ HO
  isplitl [HaB]; · iexact HaB
  isplitl [HC1 HC2]
  · isplitl [HC1]; · iexact HC1
    iexact HC2
  iexact HD

end Cert.Proof
-- ==== Proof.Fund.lean ====
/-
  The ghost state at launch: every cell with its position, every token with the device that spends it, every credit.
-/
module

public import proofs.«01_k».proof.Proof.Whole

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

variable (m : (ℓ : Loc nD τ sig) → Buf (Elt F) ℓ) (ρ : Dev nD → PrngReg)
variable (c : Dev nD)

/-! ### Finite types and stretches -/

theorem bs_fin (n : ℕ) (Φ : ℕ → sProp (𝕄 F)) : bigSep Finset.univ (fun i : Fin n => Φ i.val) = bigSep (Finset.Ico 0 n) Φ := by
  have e : (Finset.univ : Finset (Fin n)).map Fin.valEmbedding = Finset.Ico 0 n := by
    ext x; rw [Finset.mem_map, Finset.mem_Ico]
    constructor
    · rintro ⟨i, -, rfl⟩; exact ⟨Nat.zero_le _, i.isLt⟩
    · rintro ⟨-, h⟩; exact ⟨⟨x, h⟩, Finset.mem_univ _, rfl⟩
  rw [← e, bigSep_map]; rfl
theorem bs_bool (Φ : Bool → sProp (𝕄 F)) : bigSep Finset.univ Φ = iprop(Φ true ∗ Φ false) := by
  rw [show (Finset.univ : Finset Bool) = insert true {false} by decide, bigSep_insert (by decide), bigSep_singleton]; rfl
theorem bs_sum {α β : Type} [Fintype α] [Fintype β] (Φ : α ⊕ β → sProp (𝕄 F)) :
    bigSep Finset.univ Φ = iprop(bigSep Finset.univ (fun a => Φ (.inl a)) ∗ bigSep Finset.univ (fun b => Φ (.inr b))) := bigSep_univ_sum Φ
theorem bs_prod {α β : Type} [Fintype α] [Fintype β] (Φ : α × β → sProp (𝕄 F)) :
    bigSep Finset.univ Φ = bigSep Finset.univ (fun a => bigSep Finset.univ fun b => Φ (a, b)) := bigSep_univ_prod Φ

theorem bs_product {α β : Type} [DecidableEq α] [DecidableEq β] (S : Finset α) (T : Finset β) (Φ : α × β → sProp (𝕄 F)) :
    bigSep (S ×ˢ T) Φ = bigSep S fun a => bigSep T fun b => Φ (a, b) := by
  induction S using Finset.induction_on with
  | empty => rw [Finset.empty_product, bigSep_empty, bigSep_empty]
  | insert a S ha ih =>
    have hd : Disjoint (T.image (Prod.mk a)) (S ×ˢ T) := Finset.disjoint_left.mpr fun x hx hx' => by
      obtain ⟨b, -, rfl⟩ := Finset.mem_image.mp hx
      exact ha (Finset.mem_product.mp hx').1
    have hu : insert a S ×ˢ T = T.image (Prod.mk a) ∪ S ×ˢ T := by
      ext ⟨x, y⟩
      rw [Finset.mem_union, Finset.mem_image, Finset.mem_product, Finset.mem_product, Finset.mem_insert]
      constructor
      · rintro ⟨rfl | h, hy⟩
        · exact .inl ⟨y, hy, rfl⟩
        · exact .inr ⟨h, hy⟩
      · rintro (⟨b, hb, h⟩ | ⟨h, hy⟩)
        · cases h; exact ⟨.inl rfl, hb⟩
        · exact ⟨.inr h, hy⟩
    rw [bigSep_insert ha, hu, bigSep_union hd, bigSep_image_of_injOn fun b _ b' _ h => congrArg Prod.snd h, ih]
theorem bs_comm {α β : Type} [DecidableEq α] (S : Finset α) (T : Finset β) (Φ : α → β → sProp (𝕄 F)) :
    (bigSep S fun a => bigSep T fun b => Φ a b) = bigSep T fun b => bigSep S fun a => Φ a b := by
  induction S using Finset.induction_on with
  | empty => simp only [bigSep_empty, bigSep_emp_const]
  | insert a S ha ih =>
    rw [bigSep_insert ha, ih, ← bigSep_sep]
    exact bigSep_congr fun b _ => (bigSep_insert (Φ := fun a => Φ a b) ha).symm

/-- Over sub-blocks and hops. -/
def grid (n : ℕ) (Φ : ℕ → ℕ → sProp (𝕄 F)) : sProp (𝕄 F) := bigSep (Finset.Ico 0 4) fun s => bigSep (Finset.Ico 0 n) fun h => Φ s h

theorem bs_grid (n : ℕ) (Φ : Bool → ℕ → ℕ → sProp (𝕄 F)) :
    bigSep Finset.univ (fun x : Bool × Fin 4 × Fin n => Φ x.1 x.2.1.val x.2.2.val) = iprop(grid n (Φ true) ∗ grid n (Φ false)) := by
  have e : ∀ d, bigSep Finset.univ (fun b : Fin 4 × Fin n => Φ d b.1.val b.2.val) = grid n (Φ d) := fun d => by
    unfold grid
    rw [bs_prod, ← bs_fin]
    exact bigSep_congr fun s _ => bs_fin n (Φ d s.val)
  rw [bs_prod, bs_bool]
  exact congrArg₂ _ (e true) (e false)

/-! ### The cells -/

abbrev CellIx : Type := Unit ⊕ Bool ⊕ (Bool × Fin 4 × Fin 4) ⊕ (Bool × Fin 4 × Fin 4) ⊕ Fin 2 ⊕ Fin 8

/-- The semaphore of every cell. -/
def cellAt : CellIx → SemLoc sig
  | .inl () => .reg barS
  | .inr (.inl d) => .reg (crdA d).sem
  | .inr (.inr (.inl x)) => .dma (at16 (sndA x.1) (4 * (x.2.2.val % 4) + x.2.1.val))
  | .inr (.inr (.inr (.inl x))) => .dma (at16 (rcvA x.1) (4 * (x.2.2.val % 4) + x.2.1.val))
  | .inr (.inr (.inr (.inr (.inl k)))) => .dma (wSem k.val)
  | .inr (.inr (.inr (.inr (.inr i)))) => .dma (oSem i.val)

/-- The cell of every use. -/
def cellFor : Use → CellIx
  | .bar => .inl ()
  | .crd d => .inr (.inl d)
  | .snd d i => .inr (.inr (.inl (d, ⟨i % 4, Nat.mod_lt _ (by decide)⟩, ⟨i / 4 % 4, Nat.mod_lt _ (by decide)⟩)))
  | .rcv d i => .inr (.inr (.inr (.inl (d, ⟨i % 4, Nat.mod_lt _ (by decide)⟩, ⟨i / 4 % 4, Nat.mod_lt _ (by decide)⟩))))
  | .wgt i => .inr (.inr (.inr (.inr (.inl ⟨i % 2, Nat.mod_lt _ (by decide)⟩))))
  | .out i => .inr (.inr (.inr (.inr (.inr ⟨i % 8, Nat.mod_lt _ (by decide)⟩))))
  | .other => .inl ()

theorem cellAt_use (x : CellIx) : use (cellAt x) ≠ .other := by
  rcases x with u | d | x | x | k | i
  · exact ne_bar
  · exact ne_crd d
  · exact ne_snd _ _
  · exact ne_rcv _ _
  · exact ne_w _
  · exact ne_o _

theorem cellFor_at (x : CellIx) : cellFor (use (cellAt x)) = x := by
  rcases x with u | d | ⟨d, s, h⟩ | ⟨d, s, h⟩ | k | i
  · show cellFor (use (.reg barS)) = _; rw [use_bar]; rfl
  · show cellFor (use (.reg (crdA d).sem)) = _; rw [use_crd]; rfl
  · show cellFor (use (.dma (at16 (sndA d) (4 * (h.val % 4) + s.val)))) = _
    rw [use_snd d _ s.isLt]
    have e1 : (4 * (h.val % 4) + s.val) % 4 = s.val := by have := s.isLt; omega
    have e2 : (4 * (h.val % 4) + s.val) / 4 % 4 = h.val := by have := s.isLt; have := h.isLt; omega
    simp only [cellFor, e1, e2]
  · show cellFor (use (.dma (at16 (rcvA d) (4 * (h.val % 4) + s.val)))) = _
    rw [use_rcv d _ s.isLt]
    have e1 : (4 * (h.val % 4) + s.val) % 4 = s.val := by have := s.isLt; omega
    have e2 : (4 * (h.val % 4) + s.val) / 4 % 4 = h.val := by have := s.isLt; have := h.isLt; omega
    simp only [cellFor, e1, e2]
  · show cellFor (use (.dma (wSem k.val))) = _
    rw [use_w]; simp only [cellFor, Nat.mod_mod, Nat.mod_eq_of_lt k.isLt]
  · show cellFor (use (.dma (oSem i.val))) = _
    rw [use_o]; simp only [cellFor, Nat.mod_mod, Nat.mod_eq_of_lt i.isLt]

theorem cellAt_inj : Function.Injective cellAt := fun x y h => by
  rw [← cellFor_at x, h, cellFor_at]

theorem cellAt_for : ∀ sm : SemLoc sig, use sm ≠ .other → cellAt (cellFor (use sm)) = sm := by
  decide

theorem cellS_eq : cellS = Finset.univ.map ⟨cellAt, cellAt_inj⟩ := by
  ext sm
  rw [Finset.mem_map]
  constructor
  · intro h
    exact ⟨_, Finset.mem_univ _, cellAt_for sm (Finset.mem_filter.mp h).2⟩
  · rintro ⟨x, -, rfl⟩; exact mem_cellS (cellAt_use x)

/-- Every cell of a device, kind by kind. -/
theorem bs_cells (Φ : SemLoc sig → sProp (𝕄 F)) : bigSep cellS Φ
    = iprop(Φ (.reg barS) ∗ (Φ (.reg (crdA true).sem) ∗ Φ (.reg (crdA false).sem))
      ∗ (grid 4 (fun s h => Φ (.dma (at16 (sndA true) (4 * (h % 4) + s)))) ∗ grid 4 (fun s h => Φ (.dma (at16 (sndA false) (4 * (h % 4) + s)))))
      ∗ (grid 4 (fun s h => Φ (.dma (at16 (rcvA true) (4 * (h % 4) + s)))) ∗ grid 4 (fun s h => Φ (.dma (at16 (rcvA false) (4 * (h % 4) + s)))))
      ∗ bigSep (Finset.Ico 0 2) (fun k => Φ (.dma (wSem k))) ∗ bigSep (Finset.Ico 0 8) (fun i => Φ (.dma (oSem i)))) := by
  rw [cellS_eq, bigSep_map, bs_sum, bs_sum, bs_sum, bs_sum, bs_sum, bs_bool, ← bs_fin 2, ← bs_fin 8,
    ← bs_grid 4 (fun d s h => Φ (.dma (at16 (sndA d) (4 * (h % 4) + s)))), ← bs_grid 4 (fun d s h => Φ (.dma (at16 (rcvA d) (4 * (h % 4) + s))))]
  rw [show (Finset.univ : Finset Unit) = {()} from rfl, bigSep_singleton]
  rfl

/-! ### The tokens -/

abbrev TokIx : Type := Bool ⊕ (Bool × Fin 4) ⊕ (Bool × Fin 4 × Fin 7) ⊕ (Bool × Fin 4 × Fin 7) ⊕ Fin 8 ⊕ Fin 8

/-- The duty that token `x` of device `c` stands for: the device holds the token of every duty that it performs. -/
def tokAt : Dev nD × TokIx → GSem nD τ sig × ℕ × ℕ
  | (c, .inl d) => (barC (tgt (!d) c), 0, dn d)
  | (c, .inr (.inl x)) => (crdC x.1 (tgt (!x.1) c), 0, x.2.val)
  | (c, .inr (.inr (.inl x))) => (sndC x.1 x.2.2.val x.2.1.val c, x.2.2.val / 4, 0)
  | (c, .inr (.inr (.inr (.inl x)))) => (rcvC x.1 x.2.2.val x.2.1.val (tgt x.1 c), x.2.2.val / 4, 0)
  | (c, .inr (.inr (.inr (.inr (.inl k))))) => (wC k.val c, k.val / 2, 0)
  | (c, .inr (.inr (.inr (.inr (.inr i))))) => (oC i.val c, 0, 0)

/-- Which token stands for duty `u` of round `r` of a cell of device `e` used so. -/
def tokFor (e : Dev nD) (r u : ℕ) : Use → Dev nD × TokIx
  | .bar => (tgt (decide (u = 1)) e, .inl (decide (u = 1)))
  | .crd d => (tgt d e, .inr (.inl (d, ⟨u % 4, Nat.mod_lt _ (by decide)⟩)))
  | .snd d i => (e, .inr (.inr (.inl (d, ⟨i % 4, Nat.mod_lt _ (by decide)⟩, ⟨(4 * r + i / 4) % 7, Nat.mod_lt _ (by decide)⟩))))
  | .rcv d i => (tgt (!d) e, .inr (.inr (.inr (.inl (d, ⟨i % 4, Nat.mod_lt _ (by decide)⟩, ⟨(4 * r + i / 4) % 7, Nat.mod_lt _ (by decide)⟩)))))
  | .wgt i => (e, .inr (.inr (.inr (.inr (.inl ⟨(2 * r + i) % 8, Nat.mod_lt _ (by decide)⟩)))))
  | .out i => (e, .inr (.inr (.inr (.inr (.inr ⟨i % 8, Nat.mod_lt _ (by decide)⟩)))))
  | .other => (e, .inl true)

theorem tokFor_at (x : Dev nD × TokIx) : tokFor (tokAt x).1.1.1 (tokAt x).2.1 (tokAt x).2.2 (use (tokAt x).1.2) = x := by
  rcases x with ⟨c, d | ⟨d, j⟩ | ⟨d, s, h⟩ | ⟨d, s, h⟩ | k | i⟩
  · show tokFor (tgt (!d) c) 0 (dn d) (use (.reg barS)) = _
    rw [use_bar]; cases d
    · exact congrArg (·, _) (tgt_not true c)
    · exact congrArg (·, _) (tgt_not false c)
  · show tokFor (tgt (!d) c) 0 j.val (use (.reg (crdA d).sem)) = _
    rw [use_crd]; simp only [tokFor, Nat.mod_eq_of_lt j.isLt, tgt_not']
  · show tokFor c (h.val / 4) 0 (use (.dma (at16 (sndA d) (4 * (h.val % 4) + s.val)))) = _
    rw [use_snd d _ s.isLt]
    have e1 : (4 * (h.val % 4) + s.val) % 4 = s.val := by have := s.isLt; omega
    have e2 : (4 * (h.val / 4) + (4 * (h.val % 4) + s.val) / 4) % 7 = h.val := by have := s.isLt; have := h.isLt; omega
    simp only [tokFor, e1, e2]
  · show tokFor (tgt d c) (h.val / 4) 0 (use (.dma (at16 (rcvA d) (4 * (h.val % 4) + s.val)))) = _
    rw [use_rcv d _ s.isLt]
    have e1 : (4 * (h.val % 4) + s.val) % 4 = s.val := by have := s.isLt; omega
    have e2 : (4 * (h.val / 4) + (4 * (h.val % 4) + s.val) / 4) % 7 = h.val := by have := s.isLt; have := h.isLt; omega
    simp only [tokFor, e1, e2, tgt_not]
  · show tokFor c (k.val / 2) 0 (use (.dma (wSem k.val))) = _
    have e2 : (2 * (k.val / 2) + k.val % 2) % 8 = k.val := by have := k.isLt; omega
    rw [use_w]; simp only [tokFor, e2]
  · show tokFor c 0 0 (use (.dma (oSem i.val))) = _
    rw [use_o]; simp only [tokFor, Nat.mod_mod, Nat.mod_eq_of_lt i.isLt]

theorem tokAt_inj : Function.Injective tokAt := fun x y h => by
  rw [← tokFor_at x, h, tokFor_at]

def ringToks : Finset (GSem nD τ sig × ℕ × ℕ) := Finset.univ.map ⟨tokAt, tokAt_inj⟩

theorem cellOf_inj' : Function.Injective (fun x : Dev nD × SemLoc sig => (((x.1 : Thread nD τ), x.2) : GSem nD τ sig)) := by
  rintro ⟨c, a⟩ ⟨c', a'⟩ h
  have h1 : c = c' := congrArg (fun g : GSem nD τ sig => g.1.1) h
  have h2 : a = a' := congrArg Prod.snd h
  rw [h1, h2]

def ringCells : Finset (GSem nD τ sig) := (Finset.univ ×ˢ cellS).map ⟨_, cellOf_inj'⟩

/-- The tokens that device `c` spends. -/
def toks : sProp (𝕄 F) :=
  iprop((dutyTok ER (barC (tgt false c)) 0 (dn true) ∗ dutyTok ER (barC (tgt true c)) 0 (dn false))
    ∗ bigSep (Finset.Ico 0 4) (crdTok c)
    ∗ (grid 7 (fun s h => dutyTok ER (sndC true h s c) (h / 4) 0) ∗ grid 7 (fun s h => dutyTok ER (sndC false h s c) (h / 4) 0))
    ∗ (grid 7 (fun s h => dutyTok ER (rcvC true h s (tgt true c)) (h / 4) 0) ∗ grid 7 (fun s h => dutyTok ER (rcvC false h s (tgt false c)) (h / 4) 0))
    ∗ bigSep (Finset.Ico 0 8) (fun k => dutyTok ER (wC k c) (k / 2) 0)
    ∗ bigSep (Finset.Ico 0 8) (fun i => dutyTok ER (oC i c) 0 0))

theorem toks_eq : bigSep Finset.univ (fun x : TokIx => (dutyTok ER (tokAt (c, x)).1 (tokAt (c, x)).2.1 (tokAt (c, x)).2.2 : sProp (𝕄 F))) = toks c := by
  unfold toks crdTok
  rw [bs_sum, bs_sum, bs_sum, bs_sum, bs_sum, bs_bool, bs_prod, bs_bool, bs_sep, ← bs_fin 4, ← bs_fin 4, ← bs_fin 8, ← bs_fin 8,
    ← bs_grid 7 (fun d s h => dutyTok ER (sndC d h s c) (h / 4) 0), ← bs_grid 7 (fun d s h => dutyTok ER (rcvC d h s (tgt d c)) (h / 4) 0)]
  rfl

theorem ringToks_eq : bigSep ringToks (fun x => (dutyTok ER x.1 x.2.1 x.2.2 : sProp (𝕄 F))) = bigSep Finset.univ fun c : Dev nD => toks c := by
  unfold ringToks
  rw [bigSep_map, bs_prod]
  exact bigSep_congr fun c _ => toks_eq c

theorem ringCells_eq (Φ : GSem nD τ sig → sProp (𝕄 F)) :
    bigSep ringCells Φ = bigSep Finset.univ fun c : Dev nD => bigSep cellS fun sm => Φ ((c : Thread nD τ), sm) := by
  unfold ringCells
  rw [bigSep_map, bs_product]; rfl

/-! ### The slots to be given up -/

theorem keys_eq (Φ : Key → sProp (𝕄 F)) : bigSep keysF Φ
    = bigSep Finset.univ fun c : Dev nD => iprop(grid 4 (fun s j => Φ (c, true, j, s)) ∗ grid 4 (fun s j => Φ (c, false, j, s))) := by
  unfold keysF
  rw [bs_product]
  refine bigSep_congr fun c _ => ?_
  rw [bs_product, bs_bool]
  refine congrArg₂ _ ?_ ?_ <;>
  · rw [bs_product, bs_comm, Finset.range_eq_Ico]; rfl

/-- The rights to give up the device's slots, and to write its neighbours' once they are given up. -/
def relSeed : sProp (𝕄 F) :=
  iprop((grid 4 (fun s j => readerAt ES ((c, true, j, s) : Key) 0) ∗ grid 4 (fun s j => readerAt ES ((c, false, j, s) : Key) 0))
    ∗ (grid 4 (fun s j => writeTok ES ((tgt true c, true, j, s) : Key) 1) ∗ grid 4 (fun s j => writeTok ES ((tgt false c, false, j, s) : Key) 1)))

theorem slots_fund : BI.own (ES (Release.initSlots keysF 1))
    ⊢ (|={Set.univ}=> bigSep Finset.univ fun c : Dev nD => iprop((∃ ιs, slots ιs) ∗ relSeed c) : sProp (𝕄 F)) := by
  iintro H
  imod (slots_init ES keysF 1 slotP) $$ H with ⟨%ιs, -, #HI, Hr, Hw⟩
  imodintro
  ihave Hr := (Entails.of_eq (keys_eq fun k => readerAt ES k 0)) $$ Hr
  ihave Hw := (show bigSep (keysF ×ˢ Finset.range 1) (fun x => (writeTok ES x.1 (x.2 + 1) : sProp (𝕄 F))) ⊢
      bigSep Finset.univ fun c : Dev nD => iprop(grid 4 (fun s j => writeTok ES ((tgt true c, true, j, s) : Key) 1) ∗ grid 4 (fun s j => writeTok ES ((tgt false c, false, j, s) : Key) 1)) from by
    have e1 : bigSep (keysF ×ˢ Finset.range 1) (fun x => (writeTok ES x.1 (x.2 + 1) : sProp (𝕄 F))) = bigSep keysF fun k => writeTok ES k 1 := by
      rw [bs_product]
      refine bigSep_congr fun k _ => ?_
      rw [Finset.range_one, bigSep_singleton]
    rw [e1, keys_eq, bs_sep, bs_sep,
      bigSep_univ_equiv (ring true) (fun c : Dev nD => (grid 4 (fun s j => writeTok ES ((c, true, j, s) : Key) 1) : sProp (𝕄 F))),
      bigSep_univ_equiv (ring false) (fun c : Dev nD => (grid 4 (fun s j => writeTok ES ((c, false, j, s) : Key) 1) : sProp (𝕄 F)))]
    exact BI.Entails.refl _) $$ Hw
  unfold relSeed
  iapply (bs_mono_with (slots ιs) Finset.univ (fun c : Dev nD => iprop((grid 4 (fun s j => readerAt ES ((c, true, j, s) : Key) 0) ∗ grid 4 (fun s j => readerAt ES ((c, false, j, s) : Key) 0))
    ∗ (grid 4 (fun s j => writeTok ES ((tgt true c, true, j, s) : Key) 1) ∗ grid 4 (fun s j => writeTok ES ((tgt false c, false, j, s) : Key) 1)))) _ fun c _ => by
      iintro ⟨#H, H1⟩
      isplitr
      · iexists ιs; iexact H
      iexact H1)
  isplitr
  · unfold slots; iexact HI
  iapply (show iprop((bigSep Finset.univ fun c : Dev nD => iprop(grid 4 (fun s j => readerAt ES ((c, true, j, s) : Key) 0) ∗ grid 4 (fun s j => readerAt ES ((c, false, j, s) : Key) 0)))
      ∗ bigSep Finset.univ fun c : Dev nD => iprop(grid 4 (fun s j => writeTok ES ((tgt true c, true, j, s) : Key) 1) ∗ grid 4 (fun s j => writeTok ES ((tgt false c, false, j, s) : Key) 1)))
    ⊢ (bigSep Finset.univ fun c : Dev nD => iprop((grid 4 (fun s j => readerAt ES ((c, true, j, s) : Key) 0) ∗ grid 4 (fun s j => readerAt ES ((c, false, j, s) : Key) 0))
    ∗ (grid 4 (fun s j => writeTok ES ((tgt true c, true, j, s) : Key) 1) ∗ grid 4 (fun s j => writeTok ES ((tgt false c, false, j, s) : Key) 1))) : sProp (𝕄 F))
    from Entails.of_eq (bs_sep _ _ _).symm)
  isplitl [Hr] <;> iassumption

/-! ### The cells set up -/

/-- The device's positions. -/
def posns : sProp (𝕄 F) := bigSep cellS fun sm => atPos ER ((c : Thread nD τ), sm) 0 ∅ 0

/-- What the launch element gives device `c`. -/
def G : sProp (𝕄 F) :=
  iprop((bigSep cellS fun sm => roundState ER (rd m ρ) ((c : Thread nD τ), sm) 0)
    ∗ (bigSep cellS fun sm => reached ER ((c : Thread nD τ), sm) 0) ∗ posns c ∗ toks c ∗ (∃ ιs, slots ιs) ∗ relSeed c)

/-- What it has when the cells are set up. -/
def G' : sProp (𝕄 F) := iprop(∃ κ ιs, recs m ρ κ ∗ slots ιs ∗ posns c ∗ toks c ∗ relSeed c)

theorem fund : BI.own (embR ((initOf ringCells ringToks, Release.initSlots keysF 1) : UB)) ⊢ (|={Set.univ}=> bigSep Finset.univ (G m ρ) : sProp (𝕄 F)) := by
  iintro H
  ihave H := (own_pair_emb embR _ _) $$ H
  icases H with ⟨HX, HS⟩
  imod (show BI.own (((Emb.inl : Emb (URounds (GSem nD τ sig) ℕ) UB).trans embR) (initOf ringCells ringToks)) ⊢ _ from Rounds.fund ER (rd m ρ) ringCells ringToks) $$ HX
    with ⟨Hst, Hr, Hat, Htok⟩
  imod (show BI.own (((Emb.inr : Emb (Release.USlots Key) UB).trans embR) (Release.initSlots keysF 1)) ⊢ _ from slots_fund) $$ HS with HS
  imodintro
  have e : bigSep Finset.univ (G m ρ) = (iprop(bigSep ringCells (fun g => roundState ER (rd m ρ) g 0) ∗ bigSep ringCells (fun g => reached ER g 0)
      ∗ bigSep ringCells (fun g => atPos ER g 0 ∅ 0) ∗ bigSep ringToks (fun x => dutyTok ER x.1 x.2.1 x.2.2)
      ∗ bigSep Finset.univ fun c : Dev nD => iprop((∃ ιs, slots ιs) ∗ relSeed c)) : sProp (𝕄 F)) := by
    unfold G posns
    rw [bs_sep, bs_sep, bs_sep, bs_sep, ringCells_eq, ringCells_eq, ringCells_eq, ringToks_eq]
  iapply (Entails.of_eq e.symm)
  isplitl [Hst]; · iexact Hst
  isplitl [Hr]; · iexact Hr
  isplitl [Hat]; · iexact Hat
  isplitl [Htok]; · iexact Htok
  iexact HS

theorem alloc : (bigSep Finset.univ fun c : Dev nD => iprop((bigSep cellS fun sm => semVal ((c : Thread nD τ), sm) 0) ∗ G m ρ c))
    ⊢ (|={Set.univ}=> bigSep Finset.univ (G' m ρ) : sProp (𝕄 F)) := by
  unfold G
  rw [bs_sep, bs_sep, bs_sep]
  iintro ⟨Hv, Hst, Hr, Hrest⟩
  imod (show iprop((bigSep Finset.univ fun c : Dev nD => bigSep cellS fun sm => semVal ((c : Thread nD τ), sm) 0)
        ∗ bigSep Finset.univ fun c : Dev nD => bigSep cellS fun sm => roundState ER (rd m ρ) ((c : Thread nD τ), sm) 0)
      ⊢ (|={Set.univ}=> bigSep (Finset.univ ×ˢ cellS) fun x : Dev nD × SemLoc sig => iprop(∃ k : ℕ, cellInv ER (rd m ρ) k ((x.1 : Thread nD τ), x.2)) : sProp (𝕄 F)) from by
    rw [← bs_product Finset.univ cellS (fun x : Dev nD × SemLoc sig => (semVal ((x.1 : Thread nD τ), x.2) 0 : sProp (𝕄 F))),
      ← bs_product Finset.univ cellS (fun x : Dev nD × SemLoc sig => (roundState ER (rd m ρ) ((x.1 : Thread nD τ), x.2) 0 : sProp (𝕄 F))), ← bs_sep]
    exact (bigSep_mono fun x _ => (Rounds.body_intro ER (rd m ρ) _).trans inv_alloc).trans (bigSep_fupd _ _)) $$ [Hv Hst] with HI
  · isplitl [Hv] <;> iassumption
  imodintro
  ihave HK := (BI.bigSep_exists_pi (Finset.univ ×ˢ cellS) (fun (x : Dev nD × SemLoc sig) (k : ℕ) => (cellInv ER (rd m ρ) k ((x.1 : Thread nD τ), x.2) : sProp (𝕄 F)))) $$ HI
  icases HK with ⟨%κ, HI⟩
  iapply (bs_mono_with (recs m ρ κ) Finset.univ (fun c : Dev nD => iprop(posns c ∗ toks c ∗ (∃ ιs, slots ιs) ∗ relSeed c)) _ fun c _ => by
    unfold G'
    iintro ⟨#H, H1, H2, ⟨%ιs, H3⟩, H4⟩
    iexists κ, ιs
    isplitr; · iexact H
    isplitl [H3]; · iexact H3
    isplitl [H1]; · iexact H1
    isplitl [H2] <;> iassumption)
  isplitl [HI Hr]
  · have e : recs m ρ κ = iprop((bigSep (Finset.univ ×ˢ cellS) fun x => cellInv ER (rd m ρ) (κ x) ((x.1 : Thread nD τ), x.2))
        ∗ bigSep Finset.univ fun c : Dev nD => bigSep cellS fun sm => reached ER ((c : Thread nD τ), sm) 0) := by
      unfold recs
      rw [bs_sep, bs_product Finset.univ cellS (fun x : Dev nD × SemLoc sig => (reached ER ((x.1 : Thread nD τ), x.2) 0 : sProp (𝕄 F)))]
    iapply (Entails.of_eq e.symm)
    isplitl [HI] <;> iassumption
  iexact Hrest

end Cert.Proof
-- ==== Proof.Seed.lean ====
/-
  What the body is given at launch: the credits, and the tokens and positions sorted by their use.
-/
module

public import proofs.«01_k».proof.Proof.Fund

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

variable (m : (ℓ : Loc nD τ sig) → Buf (Elt F) ℓ) (ρ : Dev nD → PrngReg)
variable (c : Dev nD)

/-! ### The credits -/

/-- The number of the send of hop `h`, sub-block `s`. -/
abbrev numS (d : Bool) (s h : ℕ) : ℕ := 8 * h + 2 * s + (if d then 0 else 1)
abbrev numC (d : Bool) (j : ℕ) : ℕ := 2 * j + (if d then 0 else 1)

theorem sendT_at (e : Dev nD) (d : Bool) {s : ℕ} (h : ℕ) (hs : s < 4) : sendT e (numS d s h) = tallyAt (rcvC d h s (tgt d e)) (h / 4) (NS d) := by
  have e1 : numS d s h / 8 = h := by unfold numS; split <;> omega
  have e2 : numS d s h % 8 / 2 = s := by unfold numS; split <;> omega
  have e3 : dirN (numS d s h) = d := by cases d <;> simp only [dirN, numS] <;> simp <;> omega
  unfold sendT; rw [e1, e2, e3]
theorem credT_at (e : Dev nD) (d : Bool) (j : ℕ) : credT e (numC d j) = tallyAt (crdC d (tgt (!d) e)) j 1 := by
  have e1 : numC d j / 2 = j := by unfold numC; split <;> omega
  have e3 : dirN (numC d j) = d := by cases d <;> simp only [dirN, numC] <;> simp <;> omega
  unfold credT; rw [e1, e3]

theorem bs_sends (Φ : ℕ → sProp (𝕄 F)) : bigSep (Finset.Ico 0 56) Φ
    = iprop(grid 7 (fun s h => Φ (numS true s h)) ∗ grid 7 (fun s h => Φ (numS false s h))) := by
  have e : Finset.Ico 0 56 = (Finset.univ : Finset (Bool × Fin 4 × Fin 7)).image fun x => numS x.1 x.2.1.val x.2.2.val := by decide
  rw [e, bigSep_image_of_injOn, ← bs_grid 7 (fun d s h => Φ (numS d s h))]
  rintro ⟨d, s, h⟩ - ⟨d', s', h'⟩ - he
  have he : numS d s.val h.val = numS d' s'.val h'.val := he
  have e0 := s.isLt
  have e0' := s'.isLt
  have e1 : h = h' := Fin.ext (by unfold numS at he; split at he <;> split at he <;> omega)
  have e2 : s = s' := Fin.ext (by unfold numS at he; split at he <;> split at he <;> omega)
  have e3 : d = d' := by cases d <;> cases d' <;> first | rfl | (exfalso; simp [numS] at he; omega)
  rw [e1, e2, e3]
theorem bs_creds (Φ : ℕ → sProp (𝕄 F)) : bigSep (Finset.Ico 0 8) Φ
    = iprop(bigSep (Finset.Ico 0 4) (fun j => Φ (numC true j)) ∗ bigSep (Finset.Ico 0 4) (fun j => Φ (numC false j))) := by
  have e : Finset.Ico 0 8 = (Finset.univ : Finset (Bool × Fin 4)).image fun x => numC x.1 x.2.val := by decide
  rw [e, bigSep_image_of_injOn, bs_prod, bs_bool, ← bs_fin 4, ← bs_fin 4]
  rintro ⟨d, s⟩ - ⟨d', s'⟩ - he
  have he : numC d s.val = numC d' s'.val := he
  have e2 : s = s' := Fin.ext (by unfold numC at he; split at he <;> split at he <;> omega)
  have e3 : d = d' := by cases d <;> cases d' <;> first | rfl | (exfalso; simp [numC] at he; omega)
  rw [e2, e3]

def creds : sProp (𝕄 F) :=
  iprop(cred (tallyAt (barC c) 0 2) ∗ (grid 7 (awaited c true) ∗ grid 7 (awaited c false))
    ∗ (bigSep (Finset.Ico 0 4) (fun j => cred (tallyAt (crdC true c) j 1)) ∗ bigSep (Finset.Ico 0 4) (fun j => cred (tallyAt (crdC false c) j 1))))

theorem cred_at (sm : SemLoc sig) (d : Bool) (u n : ℕ) :
    (Pipeline.launchCred (fun e : Dev nD => tallyAt ((tgt d e : Thread nD τ), sm) u n) c : sProp (𝕄 F)) ⊢ cred (tallyAt ((c : Thread nD τ), sm) u n) :=
  Pipeline.launchCred_tallyAt sm (tgt d) (tgt (!d)) (tgt_not' d) (tgt_not d) u n c

theorem creds_intro : (Pipeline.launchCred owed₀ c : sProp (𝕄 F)) ⊢ creds c := by
  have e : (Pipeline.launchCred owed₀ c : sProp (𝕄 F)) = iprop(((bigSep (Finset.Ico 0 56) (fun i => Pipeline.launchCred (fun e => sendT e i) c)
      ∗ bigSep (Finset.Ico 0 8) (fun i => Pipeline.launchCred (fun e => credT e i) c))
      ∗ Pipeline.launchCred (fun e => tallyAt (barC (tgt true e)) 0 1) c) ∗ Pipeline.launchCred (fun e => tallyAt (barC (tgt false e)) 0 1) c) := by
    rw [← Pipeline.launchCred_sum, ← Pipeline.launchCred_sum, ← Pipeline.launchCred_add, ← Pipeline.launchCred_add, ← Pipeline.launchCred_add]
    rfl
  have hg : ∀ d, (grid 7 (fun s h => Pipeline.launchCred (fun e => sendT e (numS d s h)) c) : sProp (𝕄 F)) ⊢ grid 7 (awaited c d) := fun d =>
    bigSep_mono fun s hs => bigSep_mono fun h _ => by
      have hs' := (Finset.mem_Ico.mp hs).2
      show Pipeline.launchCred (fun e => sendT e (numS d s h)) c ⊢ awaited c d s h
      rw [show (fun e => sendT e (numS d s h)) = fun e => tallyAt (rcvC d h s (tgt d e)) (h / 4) (NS d) from funext fun e => sendT_at e d h hs']
      exact cred_at c _ d _ _
  have hc : ∀ d, (bigSep (Finset.Ico 0 4) (fun j => Pipeline.launchCred (fun e => credT e (numC d j)) c) : sProp (𝕄 F))
      ⊢ bigSep (Finset.Ico 0 4) (fun j => cred (tallyAt (crdC d c) j 1)) := fun d =>
    bigSep_mono fun j _ => by
      show Pipeline.launchCred (fun e => credT e (numC d j)) c ⊢ cred (tallyAt (crdC d c) j 1)
      rw [show (fun e => credT e (numC d j)) = fun e => tallyAt (crdC d (tgt (!d) e)) j 1 from funext fun e => credT_at e d j]
      exact cred_at c _ (!d) _ _
  rw [e, bs_sends, bs_creds]
  unfold creds
  iintro ⟨⟨⟨⟨H1, H2⟩, H3, H4⟩, HB⟩, HB'⟩
  isplitl [HB HB']
  · ihave HB := (cred_at c (.reg barS) true 0 1) $$ HB
    ihave HB' := (cred_at c (.reg barS) false 0 1) $$ HB'
    iapply ((cred_add _ _).2.trans (Entails.of_eq (congrArg cred (show tallyAt (barC c) 0 1 + tallyAt (barC c) 0 1 = (tallyAt (barC c) 0 2 : CellTallies nD τ sig ℕ) from by
      funext g; ext i; rw [Pi.add_apply, Finsupp.add_apply, tallyAt_apply, tallyAt_apply]; split <;> rfl))))
    isplitl [HB] <;> iassumption
  isplitl [H1 H2]
  · isplitl [H1]
    · iapply (hg true) $$ H1
    iapply (hg false) $$ H2
  isplitl [H3]
  · iapply (hc true) $$ H3
  iapply (hc false) $$ H4

/-! ### Sorted by use -/

theorem toSend0_intro (d : Bool) (s : ℕ) :
    iprop(bigSep (Finset.Ico 0 7) (fun h => dutyTok ER (sndC d h s c) (h / 4) 0) ∗ bigSep (Finset.Ico 0 7) (fun h => dutyTok ER (rcvC d h s (tgt d c)) (h / 4) 0)
      ∗ bigSep (Finset.Ico 0 4) (fun j => writeTok ES ((tgt d c, d, j, s) : Key) 1)) ⊢ bigSep (Finset.Ico 0 7) (toSend0 (F := F) c d s) := by
  have e : bigSep (Finset.Ico 0 7) (fun h => if h < 3 then iprop(emp) else writeTok ES ((tgt d c, d, h - 3, s) : Key) 1)
      = (iprop(emp ∗ emp ∗ emp ∗ bigSep (Finset.Ico 0 4) (fun j => writeTok ES ((tgt d c, d, j, s) : Key) 1)) : sProp (𝕄 F)) := by
    rw [bs_peel (by decide), bs_peel (by decide), bs_peel (by decide), bs_peel (by decide), bs_peel (by decide), bs_peel (by decide), bs_peel (by decide), bs_nil,
      bs_peel (by decide), bs_peel (by decide), bs_peel (by decide), bs_peel (by decide), bs_nil]
    rfl
  unfold toSend0
  rw [bs_sep, bs_sep, e]
  iintro ⟨H1, H2, H3⟩
  isplitl [H1 H2]
  · isplitl [H1] <;> iassumption
  isplitr; · iempintro
  isplitr; · iempintro
  isplitr; · iempintro
  iexact H3

theorem at_intro (d : Bool) (s : ℕ) :
    (bigSep (Finset.Ico 0 4) (fun h => atPos ER (rcvC d h s c) 0 ∅ 0) : sProp (𝕄 F)) = bigSep (Finset.Ico 0 4) (atR c d s)
    ∧ (bigSep (Finset.Ico 0 4) (fun h => atPos ER (sndC d h s c) 0 ∅ 0) : sProp (𝕄 F)) = bigSep (Finset.Ico 0 4) (atS c d s) := by
  constructor <;>
  · refine bigSep_congr fun h hh => ?_
    have := (Finset.mem_Ico.mp hh).2
    first
      | (unfold atR; rw [show h / 4 = 0 by omega])
      | (unfold atS; rw [show h / 4 = 0 by omega])

theorem lanes_seed (d : Bool) :
    iprop(grid 7 (fun s h => dutyTok ER (sndC d h s c) (h / 4) 0) ∗ grid 7 (fun s h => dutyTok ER (rcvC d h s (tgt d c)) (h / 4) 0)
      ∗ grid 4 (fun s j => writeTok ES ((tgt d c, d, j, s) : Key) 1) ∗ grid 7 (awaited c d)
      ∗ grid 4 (fun s h => atPos ER (rcvC d h s c) 0 ∅ 0) ∗ grid 4 (fun s h => atPos ER (sndC d h s c) 0 ∅ 0)
      ∗ grid 4 (fun s j => readerAt ES ((c, d, j, s) : Key) 0)) ⊢ bigSep (Finset.Ico 0 4) (laneSeed (F := F) c d) := by
  unfold grid
  rw [← bs_sep, ← bs_sep, ← bs_sep, ← bs_sep, ← bs_sep, ← bs_sep]
  refine bigSep_mono fun s _ => ?_
  show iprop(bigSep (Finset.Ico 0 7) (fun h => dutyTok ER (sndC d h s c) (h / 4) 0) ∗ bigSep (Finset.Ico 0 7) (fun h => dutyTok ER (rcvC d h s (tgt d c)) (h / 4) 0)
      ∗ bigSep (Finset.Ico 0 4) (fun j => writeTok ES ((tgt d c, d, j, s) : Key) 1) ∗ bigSep (Finset.Ico 0 7) (awaited c d s)
      ∗ bigSep (Finset.Ico 0 4) (fun h => atPos ER (rcvC d h s c) 0 ∅ 0) ∗ bigSep (Finset.Ico 0 4) (fun h => atPos ER (sndC d h s c) 0 ∅ 0)
      ∗ bigSep (Finset.Ico 0 4) (giver c d s)) ⊢ laneSeed c d s
  rw [(at_intro c d s).1, (at_intro c d s).2]
  unfold laneSeed
  iintro ⟨H1, H2, H3, H4, H5, H6, H7⟩
  isplitl [H1 H2 H3]
  · iapply (toSend0_intro c d s)
    isplitl [H1]; · iexact H1
    isplitl [H2] <;> iassumption
  isplitl [H4]; · iexact H4
  isplitl [H5]; · iexact H5
  isplitl [H6] <;> iassumption

theorem credW_intro (d : Bool) :
    iprop(atPos ER (crdC d c) 0 ∅ 0 ∗ bigSep (Finset.Ico 0 4) (fun j => cred (tallyAt (crdC d c) j 1))) ⊢ credW (F := F) c d 0 := by
  rw [credW_lt c d (by decide)]
  iintro ⟨H1, H2⟩
  iexists (∅ : Finset ℕ)
  isplitr; · ipureintro; exact ⟨Finset.empty_subset _, Nat.zero_le _⟩
  isplitl [H1]; · iexact H1
  isplitr
  · rw [bigSep_empty]; iempintro
  iexact H2

/-- The launch's ghost state and credits in the order that the body takes them. -/
def ghostIn : sProp (𝕄 F) :=
  iprop(bigSep (Finset.Ico 0 4) (seedBoth c)
    ∗ (bigSep (Finset.Ico 0 8) (fun k => dutyTok ER (wC k c) (k / 2) 0) ∗ bigSep (Finset.Ico 0 2) (atW c))
    ∗ (cred (tallyAt (barC c) 0 2) ∗ atPos ER (barC c) 0 ∅ 0 ∗ dutyTok ER (barC (tgt false c)) 0 (dn true) ∗ dutyTok ER (barC (tgt true c)) 0 (dn false))
    ∗ (credW c true 0 ∗ credW c false 0) ∗ bigSep (Finset.Ico 0 4) (crdTok c)
    ∗ (bigSep (Finset.Ico 0 8) (fun i => dutyTok ER (oC i c) 0 0) ∗ bigSep (Finset.Ico 0 8) (atO c)))

theorem ghost_intro : iprop(posns c ∗ toks c ∗ relSeed c ∗ creds c) ⊢ ghostIn (F := F) c := by
  have ew : (bigSep (Finset.Ico 0 2) (fun k => atPos ER (wC k c) 0 ∅ 0) : sProp (𝕄 F)) = bigSep (Finset.Ico 0 2) (atW c) :=
    bigSep_congr fun k hk => by
      have := (Finset.mem_Ico.mp hk).2
      unfold atW; rw [show k / 2 = 0 by omega]
  unfold posns toks relSeed creds ghostIn
  rw [bs_cells, ew]
  iintro ⟨⟨Pb, ⟨Pc1, Pc2⟩, ⟨Ps1, Ps2⟩, ⟨Pr1, Pr2⟩, Pw, Po⟩, ⟨⟨Tb1, Tb2⟩, Tc, ⟨Ts1, Ts2⟩, ⟨Tr1, Tr2⟩, Tw, To⟩, ⟨⟨R1, R2⟩, W1, W2⟩, Cb, ⟨Ca1, Ca2⟩, Cc1, Cc2⟩
  isplitl [Ps1 Ps2 Pr1 Pr2 Ts1 Ts2 Tr1 Tr2 R1 R2 W1 W2 Ca1 Ca2]
  · iapply (show iprop(bigSep (Finset.Ico 0 4) (laneSeed (F := F) c true) ∗ bigSep (Finset.Ico 0 4) (laneSeed (F := F) c false)) ⊢ bigSep (Finset.Ico 0 4) (seedBoth (F := F) c)
      from Entails.of_eq (bs_sep _ _ _).symm)
    isplitl [Ps1 Pr1 Ts1 Tr1 R1 W1 Ca1]
    · iapply (lanes_seed c true)
      isplitl [Ts1]; · iexact Ts1
      isplitl [Tr1]; · iexact Tr1
      isplitl [W1]; · iexact W1
      isplitl [Ca1]; · iexact Ca1
      isplitl [Pr1]; · iexact Pr1
      isplitl [Ps1] <;> iassumption
    · iapply (lanes_seed c false)
      isplitl [Ts2]; · iexact Ts2
      isplitl [Tr2]; · iexact Tr2
      isplitl [W2]; · iexact W2
      isplitl [Ca2]; · iexact Ca2
      isplitl [Pr2]; · iexact Pr2
      isplitl [Ps2] <;> iassumption
  isplitl [Tw Pw]
  · isplitl [Tw] <;> iassumption
  isplitl [Cb Pb Tb1 Tb2]
  · isplitl [Cb]; · iexact Cb
    isplitl [Pb]; · iexact Pb
    isplitl [Tb1] <;> iassumption
  isplitl [Pc1 Pc2 Cc1 Cc2]
  · isplitl [Pc1 Cc1]
    · iapply (credW_intro c true); isplitl [Pc1] <;> iassumption
    · iapply (credW_intro c false); isplitl [Pc2] <;> iassumption
  isplitl [Tc]; · iexact Tc
  isplitl [To]; · iexact To
  iexact Po

end Cert.Proof
-- ==== Proof.Close.lean ====
/-
  The end: every cell is closed and every tile is back.
-/
module

public import proofs.«01_k».proof.Proof.Seed

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

variable (m : (ℓ : Loc nD τ sig) → Buf (Elt F) ℓ) (ρ : Dev nD → PrngReg) (κ : Dev nD × SemLoc sig → ℕ) (ιs : Key → ℕ)
variable (c : Dev nD)

/-- The counter of one of the device's cells, at zero. -/
def still (sm : SemLoc sig) : sProp (𝕄 F) := semVal ((c : Thread nD τ), sm) 0

/-- A cell whose duties are over gives its counter back. -/
theorem close_one (sm : SemLoc sig) (hu : use sm ≠ .other) {R : ℕ} (h : ∀ r, R ≤ r → (rd (F := F) m ρ).duties ((c : Thread nD τ), sm) r = ∅) :
    iprop(Pers m ρ κ ιs ∗ atPos ER ((c : Thread nD τ), sm) R ∅ 0) ⊢ (|={Set.univ}=> still c sm : sProp (𝕄 F)) := by
  iintro ⟨HP, H⟩
  iapply (Rounds.cell_close ER (rd m ρ) (Set.mem_univ (κ (c, sm))) (fun h => h) h)
  isplitl [HP]
  · iapply (inv_of m ρ κ ιs c sm hu) $$ HP
  iexact H

/-- Many of them. -/
theorem close_many {I : Type} [DecidableEq I] (S : Finset I) (sm : I → SemLoc sig) (R : I → ℕ) (Φ : I → sProp (𝕄 F))
    (hΦ : ∀ i ∈ S, Φ i = atPos ER ((c : Thread nD τ), sm i) (R i) ∅ 0) (hu : ∀ i ∈ S, use (sm i) ≠ .other)
    (h : ∀ i ∈ S, ∀ r, R i ≤ r → (rd (F := F) m ρ).duties ((c : Thread nD τ), sm i) r = ∅) :
    iprop(Pers m ρ κ ιs ∗ bigSep S Φ) ⊢ (|={Set.univ}=> bigSep S fun i => still c (sm i) : sProp (𝕄 F)) :=
  (bs_mono_with _ S Φ (fun i => iprop(|={Set.univ}=> still c (sm i))) fun i hi => by
    rw [hΦ i hi]; exact close_one m ρ κ ιs c (sm i) (hu i hi) (h i hi)).trans (bigSep_fupd S _)

/-- Four members in a row of a family of period four are the first four. -/
theorem bs_wrap (Φ : ℕ → sProp (𝕄 F)) (h : ∀ i, Φ (i + 4) = Φ i) : bigSep (Finset.Ico 7 (7 + 4)) Φ ⊢ bigSep (Finset.Ico 0 4) Φ := by
  rw [bs_peel (show 7 < 7 + 4 by decide), bs_peel (show 7 + 1 < 7 + 4 by decide), bs_peel (show 7 + 1 + 1 < 7 + 4 by decide), bs_peel (show 7 + 1 + 1 + 1 < 7 + 4 by decide), bs_nil,
    bs_peel (show 0 < 4 by decide), bs_peel (show 0 + 1 < 4 by decide), bs_peel (show 0 + 1 + 1 < 4 by decide), bs_peel (show 0 + 1 + 1 + 1 < 4 by decide), bs_nil,
    show Φ 7 = Φ (0 + 1 + 1 + 1) from h 3, show Φ (7 + 1) = Φ 0 from (h 4).trans (h 0), show Φ (7 + 1 + 1) = Φ (0 + 1) from (h 5).trans (h 1),
    show Φ (7 + 1 + 1 + 1) = Φ (0 + 1 + 1) from (h 6).trans (h 2)]
  iintro ⟨H3, H0, H1, H2, H⟩
  isplitl [H0]; · iexact H0
  isplitl [H1]; · iexact H1
  isplitl [H2]; · iexact H2
  isplitl [H3] <;> iassumption

abbrev sndL (d : Bool) (s h : ℕ) : SemLoc sig := .dma (at16 (sndA d) (4 * (h % 4) + s))
abbrev rcvL (d : Bool) (s h : ℕ) : SemLoc sig := .dma (at16 (rcvA d) (4 * (h % 4) + s))

theorem held_any (d : Bool) (s j : ℕ) : held m ρ c d s j ⊢ slotAny c d (j % 4) s := by
  unfold held slotAny
  rw [slotAt_mod c d (r := j) (r' := j % 4) s fs _ (Nat.mod_mod j 4).symm]
  iintro H; iexists _; iexact H

/-- What a lane gives back. -/
def laneOut (d : Bool) (s : ℕ) : sProp (𝕄 F) :=
  iprop((bigSep (Finset.Ico 0 4) fun h => still c (sndL d s h)) ∗ (bigSep (Finset.Ico 0 4) fun h => still c (rcvL d s h))
    ∗ bigSep (Finset.Ico 0 4) fun r => slotAny c d r s)

theorem lane_close (d : Bool) {s : ℕ} (hs : s < 4) :
    iprop(Pers m ρ κ ιs ∗ Lane m ρ c d s 7 7 7) ⊢ (|={Set.univ}=> laneOut c d s : sProp (𝕄 F)) := by
  have hR := close_many m ρ κ ιs c (Finset.Ico 7 (7 + 4)) (rcvL d s) (fun h => h / 4) (atR c d s) (fun h _ => rfl) (fun h _ => ne_rcv d _)
    (fun h hh => later_rcv m ρ c d (Finset.mem_Ico.mp hh).1 hs)
  have hS := close_many m ρ κ ιs c (Finset.Ico 7 (7 + 4)) (sndL d s) (fun h => h / 4) (atS c d s) (fun h _ => rfl) (fun h _ => ne_snd d _)
    (fun h hh => later_snd m ρ c d (Finset.mem_Ico.mp hh).1 hs)
  unfold Lane laneOut
  rw [bs_peel (show 7 < 7 + 1 by decide) (held m ρ c d s), bs_peel (show 4 < 7 by decide) (held m ρ c d s), bs_peel (show 4 + 1 < 7 by decide) (held m ρ c d s),
    bs_peel (show 4 + 1 + 1 < 7 by decide) (held m ρ c d s)]
  iintro ⟨#HP, -, -, ⟨HR, -⟩, ⟨HS, -⟩, -, ⟨H3, -⟩, ⟨H0, H1, H2, -⟩, -⟩
  imod hR $$ [HR] with HR
  · isplitr <;> iassumption
  imod hS $$ [HS] with HS
  · isplitr <;> iassumption
  imodintro
  isplitl [HS]
  · iapply (bs_wrap (fun h => still c (sndL d s h)) fun i => congrArg (fun g => semVal g 0) (sndC_add d i s c)) $$ HS
  isplitl [HR]
  · iapply (bs_wrap (fun h => still c (rcvL d s h)) fun i => congrArg (fun g => semVal g 0) (rcvC_add d i s c)) $$ HR
  iapply (Entails.of_eq (show iprop(slotAny (F := F) c d 0 s ∗ slotAny c d 1 s ∗ slotAny c d 2 s ∗ slotAny c d 3 s ∗ iprop(emp)) = bigSep (Finset.Ico 0 4) fun r => slotAny c d r s from by
    rw [bs_peel (show 0 < 4 by decide), bs_peel (show 0 + 1 < 4 by decide), bs_peel (show 0 + 1 + 1 < 4 by decide), bs_peel (show 0 + 1 + 1 + 1 < 4 by decide), bs_nil]))
  isplitl [H0]; · iapply (held_any m ρ c d s 4) $$ H0
  isplitl [H1]; · iapply (held_any m ρ c d s 5) $$ H1
  isplitl [H2]; · iapply (held_any m ρ c d s 6) $$ H2
  isplitl [H3]; · iapply (held_any m ρ c d s 7) $$ H3
  iempintro

theorem lanes_close :
    iprop(Pers m ρ κ ιs ∗ bigSep (Finset.Ico 0 4) (LL m ρ c 7 7 7))
      ⊢ (|={Set.univ}=> iprop(bigSep (Finset.Ico 0 4) (laneOut c true) ∗ bigSep (Finset.Ico 0 4) (laneOut c false)) : sProp (𝕄 F)) := by
  rw [← bs_sep]
  refine (bs_mono_with _ _ (LL m ρ c 7 7 7) (fun s => iprop(|={Set.univ}=> (laneOut c true s ∗ laneOut c false s))) fun s hs => ?_).trans (bigSep_fupd _ _)
  have hs := (Finset.mem_Ico.mp hs).2
  unfold LL
  iintro ⟨#HP, H1, H2⟩
  imod (lane_close m ρ κ ιs c true hs) $$ [H1] with H1
  · isplitr <;> iassumption
  imod (lane_close m ρ κ ιs c false hs) $$ [H2] with H2
  · isplitr <;> iassumption
  imodintro
  isplitl [H1] <;> iassumption

/-- A direction's lanes give back its cells and its buffer's slots. -/
theorem laneOut_split (d : Bool) : bigSep (Finset.Ico 0 4) (laneOut (F := F) c d)
    = iprop(grid 4 (fun s h => still c (sndL d s h)) ∗ grid 4 (fun s h => still c (rcvL d s h)) ∗ grid 4 (fun s r => slotAny c d r s)) := by
  unfold grid
  rw [← bs_sep, ← bs_sep]; rfl

/-- The device's buffers at the end, as tiles. -/
def tilesOut : sProp (𝕄 F) :=
  iprop((grid 4 (fun s r => slotAny c true r s) ∗ grid 4 (fun s r => slotAny c false r s))
    ∗ ((wstAny c 0 ∗ wstAny c 1) ∗ bigSep (Finset.Ico 0 8) (wrowD m c) ∗ bigSep (Finset.Ico 0 8) (wbD m c))
    ∗ bigSep (Finset.Ico 0 8) (sent m ρ c))

theorem wst_at (k k' : ℕ) (h : k % 2 = k' % 2) : wstAny c k ⊢ (wstAny c k' : sProp (𝕄 F)) := by
  unfold wstAny
  iintro ⟨%X, H⟩
  iexists X
  iapply (Entails.of_eq (wstAt_mod c X h)) $$ H

theorem w_close :
    iprop(Pers m ρ κ ιs ∗ wSt m c 8)
      ⊢ (|={Set.univ}=> iprop((bigSep (Finset.Ico 0 2) fun k => still c (.dma (wSem k)))
        ∗ (wstAny c 0 ∗ wstAny c 1) ∗ bigSep (Finset.Ico 0 8) (wrowD m c) ∗ bigSep (Finset.Ico 0 8) (wbD m c)) : sProp (𝕄 F)) := by
  have hW := close_many m ρ κ ιs c (Finset.Ico 8 (8 + 2)) (fun k => .dma (wSem k)) (fun k => k / 2) (atW c) (fun _ _ => rfl) (fun k _ => ne_w k)
    (fun k hk r hr => later_w m ρ c k r (by have := (Finset.mem_Ico.mp hk).1; have : k / 2 ≤ r := hr; omega))
  unfold wSt
  iintro ⟨#HP, Hc, -, Hrow, Hst, Hat, -, Hwb, -⟩
  imod hW $$ [Hat] with Hat
  · isplitr <;> iassumption
  imodintro
  isplitl [Hat]
  · iapply (show (bigSep (Finset.Ico 8 (8 + 2)) fun k => still (F := F) c (.dma (wSem k))) ⊢ bigSep (Finset.Ico 0 2) fun k => still c (.dma (wSem k)) from Entails.of_eq (by
      rw [bs_peel (show 8 < 8 + 2 by decide), bs_peel (show 8 + 1 < 8 + 2 by decide), bs_nil, bs_peel (show 0 < 2 by decide), bs_peel (show 0 + 1 < 2 by decide), bs_nil,
        show wSem 8 = wSem 0 from wSem_congr (by decide), show wSem (8 + 1) = wSem (0 + 1) from wSem_congr (by decide)])) $$ Hat
  isplitl [Hc Hst]
  · isplitl [Hc]
    · iapply (wst_at c 8 0 (by decide))
      iapply (Entails.of_eq (show wCr (F := F) c 8 = wstAny c 8 from if_neg (by decide))) $$ Hc
    · iapply (wst_at c 9 1 (by decide)) $$ Hst
  isplitl [Hrow] <;> iassumption

theorem o_close :
    iprop(Pers m ρ κ ιs ∗ bigSep (Finset.Ico 0 8) (outDone m ρ c))
      ⊢ (|={Set.univ}=> iprop((bigSep (Finset.Ico 0 8) fun i => still c (.dma (oSem i))) ∗ bigSep (Finset.Ico 0 8) (sent m ρ c)) : sProp (𝕄 F)) := by
  rw [show bigSep (Finset.Ico 0 8) (outDone m ρ c) = iprop(bigSep (Finset.Ico 0 8) (sent m ρ c) ∗ bigSep (Finset.Ico 0 8) fun i => atPos ER (oC i c) 1 ∅ 0) from by
    rw [← bs_sep]; rfl]
  iintro ⟨HP, HS, Hat⟩
  imod (close_many m ρ κ ιs c (Finset.Ico 0 8) (fun i => .dma (oSem i)) (fun _ => 1) _ (fun _ _ => rfl) (fun i _ => ne_o i) (fun i _ => later_o m ρ c i)) $$ [HP Hat] with Hat
  · isplitl [HP] <;> iassumption
  imodintro
  isplitl [Hat] <;> iassumption

/-- The end of the body: the counters are zero, nothing is owed and the tiles are back. -/
theorem close_all :
    iprop(Pers m ρ κ ιs ∗ BodyOut m ρ c)
      ⊢ (|={Set.univ}=> iprop(bigSep cellS (still c) ∗ ow c 0 ∗ xAt m ρ c ∗ tilesOut m ρ c) : sProp (𝕄 F)) := by
  rw [bs_cells]
  unfold BodyOut tilesOut
  rw [credW_four, credW_four]
  iintro ⟨#HP, Hx, HL, HW, HO, Hb, ⟨Hc1, Hc2⟩, Ho⟩
  imod (lanes_close m ρ κ ιs c) $$ [HL] with ⟨HL1, HL2⟩
  · isplitr <;> iassumption
  imod (w_close m ρ κ ιs c) $$ [HW] with ⟨HWs, HW⟩
  · isplitr <;> iassumption
  imod (o_close m ρ κ ιs c) $$ [Ho] with ⟨Hos, Ho⟩
  · isplitr <;> iassumption
  imod (close_one m ρ κ ιs c _ ne_bar (later_bar m ρ c)) $$ [Hb] with Hb
  · isplitr <;> iassumption
  imod (close_one m ρ κ ιs c _ (ne_crd true) (later_crd m ρ c true)) $$ [Hc1] with Hc1
  · isplitr <;> iassumption
  imod (close_one m ρ κ ιs c _ (ne_crd false) (later_crd m ρ c false)) $$ [Hc2] with Hc2
  · isplitr <;> iassumption
  imodintro
  ihave HL1 := (Entails.of_eq (laneOut_split c true)) $$ HL1
  ihave HL2 := (Entails.of_eq (laneOut_split c false)) $$ HL2
  icases HL1 with ⟨HS1, HR1, HT1⟩
  icases HL2 with ⟨HS2, HR2, HT2⟩
  isplitl [Hb Hc1 Hc2 HS1 HS2 HR1 HR2 HWs Hos]
  · isplitl [Hb]; · iexact Hb
    isplitl [Hc1 Hc2]
    · isplitl [Hc1] <;> iassumption
    isplitl [HS1 HS2]
    · isplitl [HS1] <;> iassumption
    isplitl [HR1 HR2]
    · isplitl [HR1] <;> iassumption
    isplitl [HWs] <;> iassumption
  isplitl [HO]; · iexact HO
  isplitl [Hx]; · iexact Hx
  isplitl [HT1 HT2]
  · isplitl [HT1] <;> iassumption
  isplitl [HW] <;> iassumption

end Cert.Proof
-- ==== Proof.Split.lean ====
/-
  The buffers cut into tiles and put together again.
-/
module

public import proofs.«01_k».proof.Proof.Close

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

variable (m : (ℓ : Loc nD τ sig) → Buf (Elt F) ℓ) (ρ : Dev nD → PrngReg)
variable (c : Dev nD)

instance elt_nonempty : ∀ e, Nonempty (Elt F e) := fun e => inferInstance

/-! ### Any tiling -/

section Tiles
variable {T : Type} [Fintype T] [DecidableEq T] {cs : Space} {sh : Shape} {e : EltTy} (M : Memref sig .tc cs sh e)
  (r : T → Rect sh) (hr : ∀ t a, (r t).stride a = 1) (part : sh.Idx → T) (hm : ∀ t i, i ∈ (r t).set ↔ part i = t)
include hm

omit [Fintype T] [DecidableEq T] in
theorem tile_disj : ∀ t t', t ≠ t' → Disjoint (r t).set (r t').set := fun t t' h =>
  Finset.disjoint_left.mpr fun i hi hi' => h (((hm t i).mp hi).symm.trans ((hm t' i).mp hi'))
theorem tile_cover : (Finset.univ : Finset T).biUnion (fun t => (r t).set) = Finset.univ := by
  ext i
  exact ⟨fun _ => Finset.mem_univ _, fun _ => Finset.mem_biUnion.mpr ⟨part i, Finset.mem_univ _, (hm _ i).mpr rfl⟩⟩

theorem tile_split (X : sh.Idx → Elt F e) :
    (ownsTc c M fs X : sProp (𝕄 F)) ⊢ bigSep Finset.univ fun t => ownsTc c (M.slice (r t) (hr t)) fs (fun j => X ((r t).emb j)) := by
  unfold ownsTc
  exact owns_rects (c : Thread nD τ) M fs r hr (tile_disj r part hm) (tile_cover r part hm) X
theorem tile_join (X : sh.Idx → Elt F e) :
    (bigSep Finset.univ fun t => ownsTc c (M.slice (r t) (hr t)) fs (fun j => X ((r t).emb j))) ⊢ (ownsTc c M fs X : sProp (𝕄 F)) := by
  unfold ownsTc
  exact owns_of_rects (c : Thread nD τ) M fs r hr (tile_disj r part hm) (tile_cover r part hm) X

omit [Fintype T] [DecidableEq T] in
/-- Contents given tile by tile. -/
theorem tile_fill {α : Type} (Y : ∀ t, (r t).shape.Idx → α) : ∃ X : sh.Idx → α, ∀ t j, X ((r t).emb j) = Y t j := by
  have h : ∀ i, ∃ j, (r (part i)).emb j = i := fun i => by
    have hi := (hm (part i) i).mpr rfl
    rw [← Rect.map_emb_univ, Finset.mem_map] at hi
    obtain ⟨j, -, hj⟩ := hi
    exact ⟨j, hj⟩
  choose g hg using h
  refine ⟨fun i => Y (part i) (g i), fun t j => ?_⟩
  have key : ∀ (t' : T) (j' : (r t').shape.Idx), t' = t → (r t').emb j' = (r t).emb j → Y t' j' = Y t j := by
    rintro t' j' rfl hj
    rw [(r t').emb.injective hj]
  refine key _ _ ((hm t _).mp ?_) (hg _)
  rw [← Rect.map_emb_univ, Finset.mem_map]
  exact ⟨j, Finset.mem_univ _, rfl⟩

theorem tile_join_of (Y : ∀ t, (r t).shape.Idx → Elt F e) :
    (bigSep Finset.univ fun t => ownsTc c (M.slice (r t) (hr t)) fs (Y t)) ⊢ (iprop(∃ X, ⌜∀ t j, X ((r t).emb j) = Y t j⌝ ∗ ownsTc c M fs X) : sProp (𝕄 F)) := by
  obtain ⟨X, hX⟩ := tile_fill r part hm Y
  rw [show Y = fun t j => X ((r t).emb j) from funext fun t => funext fun j => (hX t j).symm]
  iintro H
  iexists X
  isplitr
  · ipureintro; exact fun _ _ => rfl
  iapply (tile_join c M r hr part hm X) $$ H
theorem tile_join_any :
    (bigSep Finset.univ fun t => iprop(∃ Y, ownsTc c (M.slice (r t) (hr t)) fs Y)) ⊢ (iprop(∃ X, ownsTc c M fs X) : sProp (𝕄 F)) := by
  iintro H
  ihave H := (bigSep_exists_pi Finset.univ fun t (Y : (r t).shape.Idx → Elt F e) => (ownsTc c (M.slice (r t) (hr t)) fs Y : sProp (𝕄 F))) $$ H
  icases H with ⟨%Y, H⟩
  ihave H := (tile_join_of c M r hr part hm Y) $$ H
  icases H with ⟨%X, -, H⟩
  iexists X; iexact H
theorem tile_split_any :
    (iprop(∃ X, ownsTc c M fs X) : sProp (𝕄 F)) ⊢ bigSep Finset.univ fun t => iprop(∃ Y, ownsTc c (M.slice (r t) (hr t)) fs Y) := by
  iintro ⟨%X, H⟩
  ihave H := (tile_split c M r hr part hm X) $$ H
  iapply (show (bigSep Finset.univ fun t => ownsTc c (M.slice (r t) (hr t)) fs (fun j => X ((r t).emb j)))
      ⊢ (bigSep Finset.univ fun t => iprop(∃ Y, ownsTc c (M.slice (r t) (hr t)) fs Y) : sProp (𝕄 F)) from bigSep_mono fun t _ =>
      show ownsTc c (M.slice (r t) (hr t)) fs (fun j => X ((r t).emb j)) ⊢ (iprop(∃ Y, ownsTc c (M.slice (r t) (hr t)) fs Y) : sProp (𝕄 F)) from by
    iintro H; iexists _; iexact H) $$ H
end Tiles

/-- A whole buffer owned is its points-to. -/
theorem whole_at (b : Ref sig .tc) (X : b.ty.Contents (Elt F)) :
    (ownsTc c (Memref.whole b) fs X : sProp (𝕄 F)) ⊢ ((c : Thread nD τ).loc b) ↦{fullShare} X := by
  iintro H
  ihave H := (Entails.of_eq (owns_whole_eq (c : Thread nD τ) b fs X)) $$ H
  icases H with ⟨%f, %hf, H⟩
  subst hf
  iexact H
theorem at_whole (b : Ref sig .tc) (X : b.ty.Contents (Elt F)) :
    (((c : Thread nD τ).loc b) ↦{fullShare} X : sProp (𝕄 F)) ⊢ ownsTc c (Memref.whole b) fs X := by
  iintro H
  iapply (Entails.of_eq (owns_whole_eq (c : Thread nD τ) b fs X).symm)
  iexists X
  isplitr
  · ipureintro; rfl
  iexact H
/-- A buffer with any contents. -/
def bufAny (b : Ref sig .tc) : sProp (𝕄 F) := iprop(∃ f : Buf (Elt F) ((c : Thread nD τ).loc b), ((c : Thread nD τ).loc b) ↦{fullShare} f)
theorem any_whole (b : Ref sig .tc) : bufAny c b ⊢ (iprop(∃ X, ownsTc c (Memref.whole b) fs X) : sProp (𝕄 F)) := by
  unfold bufAny
  iintro ⟨%f, H⟩
  iexists f
  iapply (at_whole c b f) $$ H
theorem whole_any (b : Ref sig .tc) : (iprop(∃ X, ownsTc c (Memref.whole b) fs X) : sProp (𝕄 F)) ⊢ bufAny c b := by
  unfold bufAny
  iintro ⟨%X, H⟩
  iexists X
  iapply (whole_at c b X) $$ H

/-! ### The tilings used -/

/-- The sub-block and the slot that an entry of a travelling buffer lies in; -/
def slotOf (i : S4x4x512x512.Idx) : Fin 4 × Fin 4 := (⟨(i 1).val, (i 1).isLt⟩, ⟨(i 0).val, (i 0).isLt⟩)
/-- the tile of two; -/
def twoOf (i : S2x512x1024.Idx) : Fin 2 := ⟨(i 0).val, (i 0).isLt⟩
/-- the tile of six. -/
def sixOf (i : S6x512x1024.Idx) : Fin 6 := ⟨(i 0).val, (i 0).isLt⟩

/-- The slots of a travelling buffer, by sub-block and slot. -/
theorem slot_part (t : Fin 4 × Fin 4) (i : S4x4x512x512.Idx) : i ∈ (slotR t.2.val t.1.val).set ↔ slotOf i = t := by
  obtain ⟨s, r⟩ := t
  rw [Rect.mem_set_unit, show (slotOf i = (s, r)) ↔ ((i 1).val = s.val ∧ (i 0).val = r.val) from by
    unfold slotOf; rw [Prod.mk.injEq, Fin.ext_iff, Fin.ext_iff]]
  have h2 := (i 2).isLt; have h3 := (i 3).isLt
  constructor
  · intro h
    have h0 := h 0; have h1 := h 1
    simp [S1x1x512x512] at h0 h1
    have := Nat.mod_eq_of_lt r.isLt; have := Nat.mod_eq_of_lt s.isLt
    omega
  · rintro ⟨h1, h0⟩ a
    have := Nat.mod_eq_of_lt r.isLt; have := Nat.mod_eq_of_lt s.isLt
    simp [S4x4x512x512] at h2 h3
    fin_cases a <;> simp [S1x1x512x512] <;> omega
theorem two_part (t : Fin 2) (i : S2x512x1024.Idx) : i ∈ (twoR t.val).set ↔ twoOf i = t := by
  rw [Rect.mem_set_unit, show (twoOf i = t) ↔ (i 0).val = t.val from by unfold twoOf; rw [Fin.ext_iff]]
  have h1 := (i 1).isLt; have h2 := (i 2).isLt
  have := Nat.mod_eq_of_lt t.isLt
  constructor
  · intro h
    have h0 := h 0
    simp [S1x512x1024] at h0
    omega
  · rintro h0 a
    simp [S2x512x1024] at h1 h2
    fin_cases a <;> simp [S1x512x1024] <;> omega
theorem six_part (t : Fin 6) (i : S6x512x1024.Idx) : i ∈ (sixR t.val).set ↔ sixOf i = t := by
  rw [Rect.mem_set_unit, show (sixOf i = t) ↔ (i 0).val = t.val from by unfold sixOf; rw [Fin.ext_iff]]
  have h1 := (i 1).isLt; have h2 := (i 2).isLt
  have := Nat.mod_eq_of_lt t.isLt
  constructor
  · intro h
    have h0 := h 0
    simp [S1x512x1024] at h0
    omega
  · rintro h0 a
    simp [S6x512x1024] at h1 h2
    fin_cases a <;> simp [S1x512x1024] <;> omega

/-- The eighth of the rows that an entry lies in. -/
def rowOf (i : S4096x1024.Idx) : Fin 8 := ⟨(i 0).val / 512, by have := (i 0).isLt; simp [S4096x1024] at this; omega⟩
theorem rows_part {off : Fin 2 → ℕ} (inb) (k : Fin 8) (h0 : off 0 = 512 * k.val) (h1 : off 1 = 0) (i : S4096x1024.Idx) :
    i ∈ (Rect.unit (s := S4096x1024) off S512x1024.size inb).set ↔ rowOf i = k := by
  rw [Rect.mem_set_unit, Fin.ext_iff]
  have hi := (i 1).isLt
  unfold rowOf
  constructor
  · intro h
    have h := h 0
    simp [S512x1024] at h
    show (i 0).val / 512 = k.val
    omega
  · intro h a
    have h : (i 0).val / 512 = k.val := h
    simp [S4096x1024] at hi
    fin_cases a <;> simp [S512x1024] <;> omega
theorem wrow_part (t : Fin 8) (i : S4096x1024.Idx) : i ∈ (wrowR t.val).set ↔ rowOf i = t :=
  rows_part _ t (by show 512 * (t.val % 8) = _; rw [Nat.mod_eq_of_lt t.isLt]) rfl i

/-- Slab `i` of device `c` is this eighth of the rows, -/
def eighth (c : Dev nD) (i : Fin 8) : Fin 8 := ⟨(c.val + (![0, 4, 3, 5, 2, 6, 1, 7] : Fin 8 → ℕ) i) % 8, Nat.mod_lt _ (by decide)⟩
/-- and this eighth is that slab. -/
def slabOf (c : Dev nD) (k : Fin 8) : Fin 8 := (![0, 6, 4, 2, 1, 3, 5, 7] : Fin 8 → Fin 8) ⟨(k.val + (8 - c.val)) % 8, Nat.mod_lt _ (by decide)⟩
theorem oOff_eighth : ∀ (c : Dev nD) (i : Fin 8), oOff c i.val 0 = 512 * (eighth c i).val ∧ oOff c i.val 1 = 0 := by decide +kernel
theorem slabOf_eighth : ∀ (c : Dev nD) (i : Fin 8), slabOf c (eighth c i) = i := by decide +kernel
theorem eighth_slabOf : ∀ (c : Dev nD) (k : Fin 8), eighth c (slabOf c k) = k := by decide +kernel
theorem out_part (t : Fin 8) (i : S4096x1024.Idx) : i ∈ (oR c t.val).set ↔ slabOf c (rowOf i) = t := by
  refine (rows_part _ (eighth c t) (oOff_eighth c t).1 (oOff_eighth c t).2 i).trans ⟨fun h => ?_, fun h => ?_⟩
  · rw [h, slabOf_eighth]
  · rw [← h, eighth_slabOf]

end Cert.Proof
-- ==== Proof.Bufs.lean ====
/-
  What the body starts from and ends with, in whole buffers.
-/
module

public import proofs.«01_k».proof.Proof.Split

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

variable (m : (ℓ : Loc nD τ sig) → Buf (Elt F) ℓ) (ρ : Dev nD → PrngReg)
variable (c : Dev nD)

/-! ### Each buffer -/

theorem grid_eq (n : ℕ) (Φ : ℕ → ℕ → sProp (𝕄 F)) : bigSep Finset.univ (fun b : Fin 4 × Fin n => Φ b.1.val b.2.val) = grid n Φ := by
  unfold grid
  rw [bs_prod, ← bs_fin]
  exact bigSep_congr fun s _ => bs_fin n (Φ s.val)

theorem ring_eq (d : Bool) : (bigSep Finset.univ fun t : Fin 4 × Fin 4 => iprop(∃ Y, ownsTc c ((bufM d).slice (slotR t.2.val t.1.val) (fun _ => rfl)) fs Y))
    = (grid 4 (fun s r => slotAny c d r s) : sProp (𝕄 F)) := grid_eq 4 (fun s r => slotAny c d r s)
theorem ring_split (d : Bool) : (iprop(∃ X, ownsTc c (bufM d) fs X) : sProp (𝕄 F)) ⊢ grid 4 (fun s r => slotAny c d r s) := by
  rw [← ring_eq]
  exact tile_split_any c (bufM d) (fun t : Fin 4 × Fin 4 => slotR t.2.val t.1.val) (fun _ _ => rfl) slotOf slot_part
theorem ring_join (d : Bool) : grid 4 (fun s r => slotAny c d r s) ⊢ (iprop(∃ X, ownsTc c (bufM d) fs X) : sProp (𝕄 F)) := by
  rw [← ring_eq]
  exact tile_join_any c (bufM d) (fun t : Fin 4 × Fin 4 => slotR t.2.val t.1.val) (fun _ _ => rfl) slotOf slot_part

/-- A travelling buffer is its packed slots and the slots it lends. -/
theorem ring_fresh (d : Bool) : (grid 4 (fun s r => slotAny (F := F) c d r s)) = iprop((bigSep (Finset.Ico 0 4) fun s => slotAny c d 0 s) ∗ fresh d c) := by
  unfold grid fresh
  rw [Finset.range_eq_Ico, Finset.range_eq_Ico, ← bs_sep]
  refine bigSep_congr fun s _ => ?_
  show bigSep (Finset.Ico 0 4) (fun r => slotAny (F := F) c d r s) = iprop(slotAny c d 0 s ∗ bigSep (Finset.Ico 0 3) fun h => slotAny c d (h + 1) s)
  rw [bs_peel (show 0 < 4 by decide), bs_peel (show 0 + 1 < 4 by decide), bs_peel (show 0 + 1 + 1 < 4 by decide), bs_peel (show 0 + 1 + 1 + 1 < 4 by decide), bs_nil,
    bs_peel (show 0 < 3 by decide), bs_peel (show 0 + 1 < 3 by decide), bs_peel (show 0 + 1 + 1 < 3 by decide), bs_nil]

theorem two_eq (Φ : ℕ → sProp (𝕄 F)) : bigSep Finset.univ (fun t : Fin 2 => Φ t.val) = iprop(Φ 0 ∗ Φ 1 ∗ emp) := by
  rw [bs_fin 2 Φ, bs_peel (show 0 < 2 by decide), bs_peel (show 0 + 1 < 2 by decide), bs_nil]
theorem two_split : bufAny c cc0_scratch3 ⊢ (iprop(wstAny c 0 ∗ wstAny c 1) : sProp (𝕄 F)) := by
  iintro H
  ihave H := (show bufAny c cc0_scratch3 ⊢ (bigSep Finset.univ (fun t : Fin 2 => wstAny c t.val) : sProp (𝕄 F)) from
    (any_whole c cc0_scratch3).trans (tile_split_any c wsM (fun t : Fin 2 => twoR t.val) (fun _ _ => rfl) twoOf two_part)) $$ H
  ihave H := (Entails.of_eq (two_eq (wstAny c))) $$ H
  icases H with ⟨H1, H2, -⟩
  isplitl [H1] <;> iassumption
theorem two_join : (iprop(wstAny c 0 ∗ wstAny c 1) : sProp (𝕄 F)) ⊢ bufAny c cc0_scratch3 := by
  iintro ⟨H1, H2⟩
  iapply (show (bigSep Finset.univ (fun t : Fin 2 => wstAny c t.val) : sProp (𝕄 F)) ⊢ bufAny c cc0_scratch3 from
    (tile_join_any c wsM (fun t : Fin 2 => twoR t.val) (fun _ _ => rfl) twoOf two_part).trans (whole_any c cc0_scratch3))
  iapply (Entails.of_eq (two_eq (wstAny c)).symm)
  isplitl [H1]; · iexact H1
  isplitl [H2]; · iexact H2
  iempintro

def ostAny (k : ℕ) : sProp (𝕄 F) := iprop(∃ X, ostAt c k X)
def accAny (k : ℕ) : sProp (𝕄 F) := iprop(∃ X, accAt c k X)
def outAny (i : ℕ) : sProp (𝕄 F) := iprop(∃ X, outAt c i X)

theorem ost_split : bufAny c cc0_scratch5 ⊢ (bigSep (Finset.Ico 0 2) (ostAny c) : sProp (𝕄 F)) := by
  rw [← bs_fin 2]
  exact (any_whole c cc0_scratch5).trans (tile_split_any c osM (fun t : Fin 2 => twoR t.val) (fun _ _ => rfl) twoOf two_part)
theorem ost_join : bigSep (Finset.Ico 0 2) (ostAny c) ⊢ (bufAny c cc0_scratch5 : sProp (𝕄 F)) := by
  rw [← bs_fin 2]
  exact (tile_join_any c osM (fun t : Fin 2 => twoR t.val) (fun _ _ => rfl) twoOf two_part).trans (whole_any c cc0_scratch5)
theorem acc_split : bufAny c cc0_scratch4 ⊢ (bigSep (Finset.Ico 0 6) (accAny c) : sProp (𝕄 F)) := by
  rw [← bs_fin 6]
  exact (any_whole c cc0_scratch4).trans (tile_split_any c acM (fun t : Fin 6 => sixR t.val) (fun _ _ => rfl) sixOf six_part)
theorem acc_join : bigSep (Finset.Ico 0 6) (accAny c) ⊢ (bufAny c cc0_scratch4 : sProp (𝕄 F)) := by
  rw [← bs_fin 6]
  exact (tile_join_any c acM (fun t : Fin 6 => sixR t.val) (fun _ _ => rfl) sixOf six_part).trans (whole_any c cc0_scratch4)
theorem wb_split : bufAny c cc0_scratch2 ⊢ (bigSep (Finset.Ico 0 8) (wbAny c) : sProp (𝕄 F)) := by
  rw [← bs_fin 8]
  exact (any_whole c cc0_scratch2).trans (tile_split_any c wbM (fun t : Fin 8 => wrowR t.val) (fun _ _ => rfl) rowOf wrow_part)
theorem wb_join : bigSep (Finset.Ico 0 8) (wbAny c) ⊢ (bufAny c cc0_scratch2 : sProp (𝕄 F)) := by
  rw [← bs_fin 8]
  exact (tile_join_any c wbM (fun t : Fin 8 => wrowR t.val) (fun _ _ => rfl) rowOf wrow_part).trans (whole_any c cc0_scratch2)

/-- The weights and their rows. -/
theorem w_split : (((c : Thread nD τ).loc main_arg1) ↦{fullShare} wv m c : sProp (𝕄 F)) ⊢ bigSep (Finset.Ico 0 8) (wrowD m c) := by
  rw [← bs_fin 8]
  exact (at_whole c main_arg1 (wv m c)).trans (tile_split c wM (fun t : Fin 8 => wrowR t.val) (fun _ _ => rfl) rowOf wrow_part (wv m c))
theorem w_join : bigSep (Finset.Ico 0 8) (wrowD m c) ⊢ (((c : Thread nD τ).loc main_arg1) ↦{fullShare} wv m c : sProp (𝕄 F)) := by
  rw [← bs_fin 8]
  exact (tile_join c wM (fun t : Fin 8 => wrowR t.val) (fun _ _ => rfl) rowOf wrow_part (wv m c)).trans (whole_at c main_arg1 (wv m c))

/-- The result and its slabs. -/
theorem out_split : (((c : Thread nD τ).loc main_v1) ↦{fullShare} ov m c : sProp (𝕄 F)) ⊢ bigSep (Finset.Ico 0 8) (outAny c) := by
  rw [← bs_fin 8]
  iintro H
  iapply (tile_split_any c oM (fun t : Fin 8 => oR c t.val) (fun _ _ => rfl) (fun i => slabOf c (rowOf i)) (out_part c))
  iexists _
  iapply (at_whole c main_v1 (ov m c)) $$ H

/-- The result buffer holds every slab in its rows. -/
def Result (X : FVec F S4096x1024 .f32) : Prop := ∀ (i : Fin 8) (j : S512x1024.Idx), X ((oR c i.val).emb j) = outV m ρ c i.val j

theorem out_join : (bigSep (Finset.Ico 0 8) fun i => outAt c i (outV m ρ c i))
    ⊢ (iprop(∃ X, ⌜Result m ρ c X⌝ ∗ ((c : Thread nD τ).loc main_v1) ↦{fullShare} X) : sProp (𝕄 F)) := by
  rw [← bs_fin 8]
  iintro H
  ihave H := (show (bigSep Finset.univ fun t : Fin 8 => outAt c t.val (outV m ρ c t.val)) ⊢ (iprop(∃ X, ⌜Result m ρ c X⌝ ∗ ownsTc c oM fs X) : sProp (𝕄 F)) from
    tile_join_of c oM (fun t : Fin 8 => oR c t.val) (fun _ _ => rfl) (fun i => slabOf c (rowOf i)) (out_part c) (fun t => outV m ρ c t.val)) $$ H
  icases H with ⟨%X, %hX, H⟩
  iexists X
  isplitr
  · ipureintro; exact hX
  iapply (whole_at c main_v1 X) $$ H

/-! ### The start -/

/-- The scratch buffers. -/
def scratch : sProp (𝕄 F) :=
  iprop(bufAny c cc0_scratch0 ∗ bufAny c cc0_scratch1 ∗ bufAny c cc0_scratch2 ∗ bufAny c cc0_scratch3 ∗ bufAny c cc0_scratch4 ∗ bufAny c cc0_scratch5)

theorem pairs_start : bigSep (Finset.Ico 0 6) (accAny c) ⊢ Pairs m ρ c 0 := by
  unfold Pairs
  have e : ∀ q, pairSt m ρ c 0 q = iprop(accAny c (2 * q) ∗ accAny c (2 * q + 1)) := fun q => if_pos (Nat.zero_le q)
  rw [bigSep_congr fun q _ => e q, bs_peel (show 0 < 3 by decide), bs_peel (show 0 + 1 < 3 by decide), bs_peel (show 0 + 1 + 1 < 3 by decide), bs_nil,
    bs_peel (show 0 < 6 by decide), bs_peel (show 0 + 1 < 6 by decide), bs_peel (show 0 + 1 + 1 < 6 by decide), bs_peel (show 0 + 1 + 1 + 1 < 6 by decide),
    bs_peel (show 0 + 1 + 1 + 1 + 1 < 6 by decide), bs_peel (show 0 + 1 + 1 + 1 + 1 + 1 < 6 by decide), bs_nil]
  iintro ⟨H0, H1, H2, H3, H4, H5, H⟩
  isplitl [H0 H1]; · isplitl [H0]; · iexact H0
                     iexact H1
  isplitl [H2 H3]; · isplitl [H2]; · iexact H2
                     iexact H3
  isplitl [H4 H5]; · isplitl [H4]; · iexact H4
                     iexact H5
  iempintro

theorem osts_start : bigSep (Finset.Ico 0 2) (ostAny c) ⊢ (iprop(Ost0 c 0 ∗ Ost1 c 0) : sProp (𝕄 F)) := by
  rw [bs_peel (show 0 < 2 by decide), bs_peel (show 0 + 1 < 2 by decide), bs_nil, show Ost0 (F := F) c 0 = ostAny c 0 from if_pos rfl,
    show Ost1 (F := F) c 0 = ostAny c (0 + 1) from if_pos (by decide)]
  iintro ⟨H0, H1, -⟩
  isplitl [H0] <;> iassumption

theorem slabs_start : iprop(bigSep (Finset.Ico 0 8) (fun i => dutyTok ER (oC i c) 0 0) ∗ bigSep (Finset.Ico 0 8) (outAny c)) ⊢ (Slabs c 0 : sProp (𝕄 F)) := by
  unfold Slabs
  rw [← bs_sep]
  exact Entails.of_eq (bigSep_congr fun i _ => (show slabSt c 0 i = iprop(dutyTok ER (oC i c) 0 0 ∗ outAny c i) from if_pos (Nat.zero_le _)).symm)

theorem wTodo_start : iprop(bigSep (Finset.Ico 0 8) (wrowD m c) ∗ bigSep (Finset.Ico 0 8) (fun k => dutyTok ER (wC k c) (k / 2) 0)) ⊢ bigSep (Finset.Ico 0 8) (wTodo m c) := by
  rw [← bs_sep]; exact BI.Entails.refl _

theorem slots_start : iprop((bigSep (Finset.Ico 0 4) fun s => slotAny (F := F) c true 0 s) ∗ bigSep (Finset.Ico 0 4) fun s => slotAny c false 0 s) ⊢ bigSep (Finset.Ico 0 4) (slotsAny c) := by
  rw [← bs_sep]; exact BI.Entails.refl _

theorem body_in :
    iprop(scratch c ∗ ((c : Thread nD τ).loc main_arg1 ↦{fullShare} wv m c) ∗ ((c : Thread nD τ).loc main_v1 ↦{fullShare} ov m c)
      ∗ ghostIn c ∗ xAt m ρ c ∗ ow c (owed₀ c)) ⊢ BodyIn m ρ c := by
  unfold scratch ghostIn BodyIn wInit barIn
  iintro ⟨⟨B0, B1, B2, B3, B4, B5⟩, Hw, Ho, ⟨Hseed, ⟨Hwt, HaW⟩, ⟨Hb1, Hb2, Hb3, Hb4⟩, Hcr, Hct, Hot, HaO⟩, Hx, HO⟩
  ihave B0 := (any_whole c cc0_scratch0) $$ B0
  ihave B0 := (ring_split c true) $$ B0
  ihave B0 := (Entails.of_eq (ring_fresh c true)) $$ B0
  icases B0 with ⟨B0, F0⟩
  ihave B1 := (any_whole c cc0_scratch1) $$ B1
  ihave B1 := (ring_split c false) $$ B1
  ihave B1 := (Entails.of_eq (ring_fresh c false)) $$ B1
  icases B1 with ⟨B1, F1⟩
  ihave B2 := (wb_split c) $$ B2
  ihave B3 := (two_split c) $$ B3
  ihave B4 := (acc_split c) $$ B4
  ihave B4 := (pairs_start m ρ c) $$ B4
  ihave B5 := (ost_split c) $$ B5
  ihave B5 := (osts_start c) $$ B5
  icases B5 with ⟨B5, B6⟩
  ihave Hw := (w_split m c) $$ Hw
  ihave Ho := (out_split m c) $$ Ho
  isplitl [Hx]; · iexact Hx
  isplitl [B0 B1]
  · iapply (slots_start c)
    isplitl [B0] <;> iassumption
  isplitl [Hseed]; · iexact Hseed
  isplitl [Hw Hwt B3 HaW B2]
  · isplitl [Hw Hwt]
    · iapply (wTodo_start m c)
      isplitl [Hw] <;> iassumption
    isplitl [B3]; · iexact B3
    isplitl [HaW] <;> iassumption
  isplitl [Hb1 Hb2 Hb3 Hb4 F0 F1]
  · isplitl [Hb1]; · iexact Hb1
    isplitl [Hb2]; · iexact Hb2
    isplitl [Hb3 F0]
    · isplitl [Hb3] <;> iassumption
    isplitl [Hb4] <;> iassumption
  isplitl [HO]; · iexact HO
  isplitl [Hcr]; · iexact Hcr
  isplitl [B4]; · iexact B4
  isplitl [B5 B6 Hot Ho]
  · isplitl [B5]; · iexact B5
    isplitl [B6]; · iexact B6
    iapply (slabs_start c)
    isplitl [Hot] <;> iassumption
  isplitl [Hct] <;> iassumption

/-! ### The end -/

def srcAny (i : ℕ) : sProp (𝕄 F) := iprop(∃ X, srcAt c i X)

theorem src_acc_any {h : ℕ} (h3 : 3 < h) (h7 : h < 7) : iprop(srcAny c (2 * h - 6) ∗ srcAny c (2 * h - 5)) ⊢ (iprop(accAny c (2 * (6 - h)) ∗ accAny c (2 * (6 - h) + 1)) : sProp (𝕄 F)) := by
  unfold srcAny accAny
  iintro ⟨⟨%X, H1⟩, %Y, H2⟩
  isplitl [H2]
  · iexists usq numel_tile Y
    iapply (Entails.of_eq (src_acc c h3 h7 (usq numel_tile Y)).2)
    iapply (Entails.of_eq (congrArg (srcAt c (2 * h - 5)) (sq_usq numel_tile Y).symm)) $$ H2
  · iexists usq numel_tile X
    iapply (Entails.of_eq (src_acc c h3 h7 (usq numel_tile X)).1)
    iapply (Entails.of_eq (congrArg (srcAt c (2 * h - 6)) (sq_usq numel_tile X).symm)) $$ H1
theorem src_ost_any0 : srcAny c 0 ⊢ (ostAny c 0 : sProp (𝕄 F)) := by
  unfold srcAny ostAny
  iintro ⟨%X, H⟩
  iexists usq numel_tile X
  iapply (Entails.of_eq (src_ost0 c (usq numel_tile X)))
  iapply (Entails.of_eq (congrArg (srcAt c 0) (sq_usq numel_tile X).symm)) $$ H
theorem src_ost_any1 : srcAny c 1 ⊢ (ostAny c 1 : sProp (𝕄 F)) := by
  unfold srcAny ostAny
  iintro ⟨%X, H⟩
  iexists usq numel_tile X
  iapply (Entails.of_eq (src_ost1 c (usq numel_tile X)))
  iapply (Entails.of_eq (congrArg (srcAt c 1) (sq_usq numel_tile X).symm)) $$ H

theorem srcs_tiles : bigSep (Finset.Ico 0 8) (srcAny c) ⊢ (iprop(bigSep (Finset.Ico 0 6) (accAny c) ∗ bigSep (Finset.Ico 0 2) (ostAny c)) : sProp (𝕄 F)) := by
  rw [bs_peel (show 0 < 2 by decide), bs_peel (show 0 + 1 < 2 by decide), bs_nil,
    bs_peel (show 0 < 6 by decide), bs_peel (show 0 + 1 < 6 by decide), bs_peel (show 0 + 1 + 1 < 6 by decide), bs_peel (show 0 + 1 + 1 + 1 < 6 by decide),
    bs_peel (show 0 + 1 + 1 + 1 + 1 < 6 by decide), bs_peel (show 0 + 1 + 1 + 1 + 1 + 1 < 6 by decide), bs_nil,
    bs_peel (show 0 < 8 by decide), bs_peel (show 0 + 1 < 8 by decide), bs_peel (show 0 + 1 + 1 < 8 by decide), bs_peel (show 0 + 1 + 1 + 1 < 8 by decide),
    bs_peel (show 0 + 1 + 1 + 1 + 1 < 8 by decide), bs_peel (show 0 + 1 + 1 + 1 + 1 + 1 < 8 by decide), bs_peel (show 0 + 1 + 1 + 1 + 1 + 1 + 1 < 8 by decide),
    bs_peel (show 0 + 1 + 1 + 1 + 1 + 1 + 1 + 1 < 8 by decide), bs_nil]
  iintro ⟨H0, H1, H2, H3, H4, H5, H6, H7, -⟩
  ihave H0 := (src_ost_any0 c) $$ H0
  ihave H1 := (src_ost_any1 c) $$ H1
  ihave A := (src_acc_any c (h := 4) (by decide) (by decide)) $$ [H2 H3]
  · isplitl [H2]; · iexact H2
    iexact H3
  ihave B := (src_acc_any c (h := 5) (by decide) (by decide)) $$ [H4 H5]
  · isplitl [H4]; · iexact H4
    iexact H5
  ihave C := (src_acc_any c (h := 6) (by decide) (by decide)) $$ [H6 H7]
  · isplitl [H6]; · iexact H6
    iexact H7
  icases A with ⟨A4, A5⟩
  icases B with ⟨A2, A3⟩
  icases C with ⟨A0, A1⟩
  isplitr [H0 H1]
  · isplitl [A0]; · iexact A0
    isplitl [A1]; · iexact A1
    isplitl [A2]; · iexact A2
    isplitl [A3]; · iexact A3
    isplitl [A4]; · iexact A4
    isplitl [A5]; · iexact A5
    iempintro
  isplitl [H0]; · iexact H0
  isplitl [H1]; · iexact H1
  iempintro

theorem srcs_join : bigSep (Finset.Ico 0 8) (srcAny c) ⊢ (iprop(bufAny c cc0_scratch4 ∗ bufAny c cc0_scratch5) : sProp (𝕄 F)) := by
  have h : bigSep (Finset.Ico 0 8) (srcAny c) ⊢ (iprop(bigSep (Finset.Ico 0 6) (accAny c) ∗ bigSep (Finset.Ico 0 2) (ostAny c)) : sProp (𝕄 F)) := srcs_tiles c
  iintro H
  ihave H := h $$ H
  icases H with ⟨H1, H2⟩
  isplitl [H1]
  · iapply (acc_join c) $$ H1
  · iapply (ost_join c) $$ H2

theorem sent_split : bigSep (Finset.Ico 0 8) (sent m ρ c) ⊢ iprop((bigSep (Finset.Ico 0 8) fun i => outAt c i (outV m ρ c i)) ∗ bigSep (Finset.Ico 0 8) (srcAny c)) := by
  rw [← bs_sep]; exact BI.Entails.refl _

theorem wbs_any : bigSep (Finset.Ico 0 8) (wbD m c) ⊢ bigSep (Finset.Ico 0 8) (wbAny c) :=
  bigSep_mono fun k _ => show wbD m c k ⊢ wbAny c k from by
    unfold wbD wbAny
    iintro H; iexists _; iexact H

theorem tiles_out :
    tilesOut m ρ c ⊢ iprop(scratch c ∗ ((c : Thread nD τ).loc main_arg1 ↦{fullShare} wv m c)
      ∗ ∃ X, ⌜Result m ρ c X⌝ ∗ ((c : Thread nD τ).loc main_v1) ↦{fullShare} X) := by
  unfold tilesOut scratch
  iintro ⟨⟨B0, B1⟩, ⟨B3, Hw, B2⟩, Hs⟩
  ihave B0 := (ring_join c true) $$ B0
  ihave B1 := (ring_join c false) $$ B1
  ihave B2 := (wbs_any m c) $$ B2
  ihave Hs := (sent_split m ρ c) $$ Hs
  icases Hs with ⟨Ho, Hs⟩
  ihave Hs := (srcs_join c) $$ Hs
  icases Hs with ⟨B4, B5⟩
  isplitl [B0 B1 B2 B3 B4 B5]
  · isplitl [B0]; · iapply (whole_any c cc0_scratch0) $$ B0
    isplitl [B1]; · iapply (whole_any c cc0_scratch1) $$ B1
    isplitl [B2]; · iapply (wb_join c) $$ B2
    isplitl [B3]; · iapply (two_join c) $$ B3
    isplitl [B4] <;> iassumption
  isplitl [Hw]; · iapply (w_join m c) $$ Hw
  iapply (out_join m ρ c) $$ Ho

end Cert.Proof
-- ==== Proof.Run.lean ====
/-
  The launch: every device's run, from the buffers and the semaphores at rest to the result.
-/
module

public import proofs.«01_k».proof.Proof.Bufs
public import Idealize.ShloMosaic.Lib.Pipeline.CollectiveSegs

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Pipeline

variable {F : FTy → Type} [FloatOps F]

variable (m : (ℓ : Loc nD τ sig) → Buf (Elt F) ℓ) (ρ : Dev nD → PrngReg)

/-! ### The semaphores -/

/-- The kernel's own semaphores: all that the run uses but the barrier's. -/
abbrev OwnSem : Type := {sm : SemLoc sig // sm ∈ cellS.erase (.reg barS)}
abbrev osem : OwnSem → SemLoc sig := Subtype.val

theorem ownSemFacts : Pipeline.OwnSemFacts cfg0.spec osem where
  isScoped k := (show ∀ sm : SemLoc sig, sm ∈ cellS.erase (.reg barS) → sm.isScoped .tc = true by decide) k.1 k.2
  inj := Subtype.val_injective
  disj k := (show ∀ sm : SemLoc sig, sm ∈ cellS.erase (.reg barS) → ∀ w s, sm ≠ .dma ((cfg0.spec w).sem s) by decide) k.1 k.2

variable (c : Dev nD)

omit [FloatOps F] in
theorem own_eq : (Pipeline.ownSems0 (Ix := ℕ) (Name := ℕ) (U := UU) (Lvl := ℕ) (Val := Elt F) (τ := τ) osem c : sProp (𝕄 F))
    = bigSep (cellS.erase (.reg barS)) (still c) := by
  unfold Pipeline.ownSems0
  refine (bigSep_subtype (p := fun sm => sm ∈ cellS.erase (.reg barS)) (Ψ := still c)).trans ?_
  rw [Finset.filter_mem_eq_inter, Finset.univ_inter]

omit [FloatOps F] in
theorem unscoped_eq : (unscopedSems0 c : sProp (𝕄 F)) = still c (.reg barS) := by
  unfold unscopedSems0; rw [bigSep_eq_bigSepL_of_eq [SemLoc.reg barS] (by decide) (by decide)]; rfl

omit [FloatOps F] in
theorem bar_mem : (SemLoc.reg barS : SemLoc sig) ∈ cellS := mem_cellS (by rw [use_bar]; decide)

omit [FloatOps F] in
theorem still_split : (bigSep cellS (still c) : sProp (𝕄 F))
    = iprop(unscopedSems0 c ∗ Pipeline.ownSems0 (Ix := ℕ) (Name := ℕ) (U := UU) (Lvl := ℕ) (Val := Elt F) (τ := τ) osem c) := by
  rw [own_eq, unscoped_eq, bigSep_erase bar_mem]; rfl

/-- All the cells are set up at once. -/
theorem glob :
    (bigSep Finset.univ fun c => iprop(Pipeline.ownSems0 (Ix := ℕ) (Name := ℕ) (U := UU) (Lvl := ℕ) (Val := Elt F) (τ := τ) osem c
        ∗ unscopedSems0 c ∗ G m ρ c) : sProp (𝕄 F))
      ⊢ |={Set.univ}=> bigSep Finset.univ (G' m ρ) := by
  have h : (bigSep Finset.univ fun c => iprop(Pipeline.ownSems0 (Ix := ℕ) (Name := ℕ) (U := UU) (Lvl := ℕ) (Val := Elt F) (τ := τ) osem c
        ∗ unscopedSems0 c ∗ G m ρ c) : sProp (𝕄 F))
      ⊢ bigSep Finset.univ (fun c : Dev nD => iprop((bigSep cellS fun sm => semVal ((c : Thread nD τ), sm) 0) ∗ G m ρ c)) := by
    refine bigSep_mono fun c _ => ?_
    show iprop(Pipeline.ownSems0 osem c ∗ unscopedSems0 c ∗ G m ρ c) ⊢ iprop(bigSep cellS (still c) ∗ G m ρ c)
    rw [still_split]
    iintro ⟨H1, H2, H3⟩
    isplitr [H3]
    · isplitl [H2] <;> iassumption
    · iexact H3
  exact BI.Entails.trans h (alloc m ρ)

/-! ### What is held before the point and after it -/

/-- What a device has before its body runs, besides the scratch buffers. -/
def begins : sProp (𝕄 F) :=
  iprop(∃ κ ιs, Pers m ρ κ ιs ∗ ghostIn c ∗ (((c : Thread nD τ).loc main_arg1) ↦{fullShare} wv m c) ∗ (((c : Thread nD τ).loc main_v1) ↦{fullShare} ov m c))

/-- The weights and the result at the end. -/
def ends : sProp (𝕄 F) :=
  iprop((((c : Thread nD τ).loc main_arg1) ↦{fullShare} wv m c) ∗ ∃ X, ⌜Result m ρ c X⌝ ∗ (((c : Thread nD τ).loc main_v1) ↦{fullShare} X))

def Φ₀ : sProp (𝕄 F) := iprop(begins m ρ c ∗ scratch c)
def Φ₁ : sProp (𝕄 F) := iprop(bigSep cellS (still c) ∗ scratch c ∗ ends m ρ c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xv m ρ c
  Φ t := match t with
    | ⟨0, _⟩ => Φ₀ m ρ c
    | ⟨_ + 1, _⟩ => Φ₁ m ρ c
  q _ := fullShare
  owed t := match t with
    | ⟨0, _⟩ => owed₀ c
    | ⟨_ + 1, _⟩ => 0

theorem fetch_0 (t : Fin cfg0.N) : (cfg0.win (0 : Fin 1)).fetch t = true := by rw [fin_N0 t]; rfl

theorem before_0 (d : (cfg0.win (0 : Fin 1)).block.Idx → Elt F (cfg0.win (0 : Fin 1)).elt) :
    (dats m ρ 0 c).before (0 : Fin 1) t0_0 d = xv m ρ c := by
  unfold Dat.before; rw [if_pos (fetch_0 t0_0)]; rfl

/-- Asking for the device's number goes on with it. -/
theorem run_device {α : Type} (k : Dev nD → Prog (PE F) α) (Q : α → sProp (𝕄 F)) :
    wpT c (k c) Q ⊢ wpT c ((Prog.lift .deviceId : Prog (PE F) (Dev nD)) >>= k) Q := by
  iintro H
  iapply (run_bind c (Prog.lift .deviceId : Prog (PE F) (Dev nD)) k Q)
  unfold wpT Prog.lift
  rw [wp_deviceId, wp_ret]
  imodintro; iexact H

/-- The body, run on a device. -/
theorem run_body (K : PUnit → sProp (𝕄 F)) :
    iprop(Φ₀ m ρ c ∗ ow c (owed₀ c) ∗ xAt m ρ c) ⊢ iprop((Φ₁ m ρ c ∗ ow c 0 ∗ xAt m ρ c -∗ K ⟨⟩) -∗ wpT c (body : Prog (PE F) PUnit) K) := by
  unfold Φ₀ begins
  iintro ⟨⟨⟨%κ, %ιs, #HP, Hg, Hw, Ho⟩, Hs⟩, HO, Hx⟩ HK
  ihave HB := (body_in m ρ c) $$ [Hg Hw Ho Hs HO Hx]
  · isplitl [Hs]; · iexact Hs
    isplitl [Hw]; · iexact Hw
    isplitl [Ho]; · iexact Ho
    isplitl [Hg]; · iexact Hg
    isplitl [Hx]; · iexact Hx
    iexact HO
  unfold body
  iapply (run_device c)
  iapply (run_fupd c (bodyAt c : Prog (PE F) PUnit) K)
  iapply (body_step m ρ κ ιs c) $$ [HB]
  · isplitr; · iexact HP
    iexact HB
  iintro HB
  imod (close_all m ρ κ ιs c) $$ [HB] with ⟨Hc, HO, Hx, Ht⟩
  · isplitr; · iexact HP
    iexact HB
  imodintro
  ihave Ht := (tiles_out m ρ c) $$ Ht
  icases Ht with ⟨Hs, Hr⟩
  iapply HK
  unfold Φ₁ ends
  isplitr [HO Hx]
  · isplitl [Hc]; · iexact Hc
    isplitl [Hs]; · iexact Hs
    iexact Hr
  isplitl [HO]; · iexact HO
  iexact Hx

theorem owes_in : (dats m ρ 0 c).owesAt 0 t0_0.castSucc ⊢ ow c (owed₀ c) := by
  unfold Dat.owesAt Pipeline.owesWithin ow
  iintro ⟨%W, -, H⟩
  iexists W; iexact H

theorem owes_out : ow c 0 ⊢ (dats m ρ 0 c).owesAt 0 t0_0.succ := by
  unfold Dat.owesAt Pipeline.owesWithin ow
  iintro ⟨%W, H⟩
  iexists W
  isplitr
  · ipureintro; exact fun _ _ => Or.inl trivial
  iexact H

set_option maxRecDepth 16000 in
/-- The body as the launch asks for it. -/
theorem body_obligation : BodyObligation (dats (F := F) m ρ 0 c) (defs₀ (F := F)) 𝒱₀ 0 Set.univ := fun t => by
  rw [fin_N0 t]
  have e : defs₀ (F := F) .tc cfg0.body (cfg0.bodyArgs t0_0 (cfg0.slots t0_0)) = body := Eq.trans rfl body_eq
  rw [bigSep_W0, bigSep_W0, e]
  have hR := run_body m ρ c
  unfold xAt at hR
  revert hR
  generalize (body : Prog (PE F) PUnit) = p
  intro hR
  show iprop(Φ₀ m ρ c ∗ (dats m ρ 0 c).owesAt 0 t0_0.castSucc
      ∗ (∃ d, ownsTc c xM fs ((dats m ρ 0 c).before (0 : Fin 1) t0_0 d)))
    ⊢ wpT c p (fun _ => iprop(Φ₁ m ρ c ∗ (dats m ρ 0 c).owesAt 0 t0_0.succ ∗ ownsTc c xM fs (xv m ρ c)))
  iintro ⟨HP, HO, ⟨%d, Hx⟩⟩
  rw [before_0]
  iapply (hR _) $$ [HP HO Hx]
  · isplitl [HP]; · iexact HP
    isplitl [HO]; · iapply (owes_in m ρ c); iexact HO
    iexact Hx
  iintro ⟨HP, HO, Hx⟩
  isplitl [HP]; · iexact HP
  isplitl [HO]; · iapply (owes_out m ρ c); iexact HO
  iexact Hx

/-! ### The launch -/

theorem share_eq (c : Dev nD) (w : Fin cfg0.W) : (dats m ρ 0 c).share w = fullShare := by unfold Dat.share; split <;> rfl

omit [FloatOps F] in
/-- Of what a device owes at the start everything is above a cell the kernel does not use. -/
theorem stage_wait (c : Dev nD) (q : SemLoc sig) (hq : use q = .other) (O : CellTallies nD τ sig ℕ) (hO : O = owed₀ c ∨ O = 0) :
    (levAts L lv : sProp (𝕄 F)) ⊢ MayWait (c : Thread nD τ) q 0 O := by
  rcases hO with rfl | rfl
  · have hp : ∀ (g : GSem nD τ sig) (v : ℕ), 0 < owed₀ c g v → v ∈ L g ∧ 0 < lv g v := fun g v hg => by
      unfold owed₀ at hg
      rw [Pi.add_apply, Finsupp.add_apply, Pi.add_apply, Finsupp.add_apply] at hg
      have h3 : 0 < owed c 0 0 g v ∨ 0 < (tallyAt (barC (tgt true c)) 0 1 : CellTallies nD τ sig ℕ) g v
          ∨ 0 < (tallyAt (barC (tgt false c)) 0 1 : CellTallies nD τ sig ℕ) g v := by omega
      rcases h3 with h0 | h | h
      · rcases owed_pos h0 with ⟨d, h, s, e, h1, h2, h3, rfl, rfl⟩ | ⟨d, j, e, h1, h2, rfl, rfl⟩
        · rw [L_tc, lv_rcv d e h h3]; exact ⟨Finset.mem_range.mpr (by omega), by omega⟩
        · rw [L_tc, lv_crd]; exact ⟨Finset.mem_range.mpr h2, by omega⟩
      · obtain ⟨rfl, rfl⟩ := tally_pos h
        rw [L_tc, lv_bar]; exact ⟨Finset.mem_range.mpr (by omega), by omega⟩
      · obtain ⟨rfl, rfl⟩ := tally_pos h
        rw [L_tc, lv_bar]; exact ⟨Finset.mem_range.mpr (by omega), by omega⟩
    exact MayOwe.of_cut (L := L) (lev := lv) 0
      (fun p hp => by rw [Finset.mem_singleton.mp hp, L_tc]; exact Finset.mem_range.mpr (by omega))
      (fun g v hg => (hp g v hg).1)
      (fun p hp => by rw [Finset.mem_singleton.mp hp]; unfold lv; dsimp only; rw [hq]; exact Nat.le_refl 0)
      (fun g v hg => (hp g v hg).2)
  · rw [MayWait_zero]; iintro -; iempintro

theorem waits (c : Dev nD) : (levAts L lv : sProp (𝕄 F)) ⊢ Pipeline.cellsWaits cfgs (dats m ρ) 0 0 c :=
  Pipeline.cellsWaits_intro cfgs (dats m ρ) 0 0 c fun w s t =>
    stage_wait c _ (by fin_cases w <;> fin_cases s <;> decide) _ (by
      rcases t with ⟨_ | _, ht⟩
      · exact Or.inl rfl
      · exact Or.inr rfl)

theorem begins_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m ρ c)
      ⊢ |={Set.univ}=> iprop(begins m ρ c ∗ emp) := by
  rw [Pipeline.unscopedRestP_none]
  rw [show (Pipeline.unscopedRest (Ix := ℕ) (Name := ℕ) (U := UU) (Lvl := ℕ) cfg0.spec c (fun b => m ((c : Thread nD τ).loc b)) : sProp (𝕄 F))
    = iprop((((c : Thread nD τ).loc main_arg1) ↦{fullShare} wv m c) ∗ (((c : Thread nD τ).loc main_v1) ↦{fullShare} ov m c)) from
      unscopedRest0_eq c _]
  unfold begins G' Pers
  iintro ⟨⟨Hw, Ho⟩, Hlev, Hcr, -, ⟨%κ, %ιs, Hr, Hs, Hp, Ht, Hrel⟩⟩
  ihave Hc := (creds_intro (F := F) c) $$ Hcr
  ihave Hg := (ghost_intro (F := F) c) $$ [Hp Ht Hrel Hc]
  · isplitl [Hp]; · iexact Hp
    isplitl [Ht]; · iexact Ht
    isplitl [Hrel]; · iexact Hrel
    iexact Hc
  imodintro
  isplitl
  · iexists κ; iexists ιs
    isplitl [Hr Hs Hlev]
    · isplitl [Hr]; · iexact Hr
      isplitl [Hs]; · iexact Hs
      iexact Hlev
    isplitl [Hg]; · iexact Hg
    isplitl [Hw]; · iexact Hw
    iexact Ho
  · iempintro

omit [FloatOps F] in
theorem rest_eq (c : Dev nD) : (Pipeline.scopedRest cfg0.spec c : sProp (𝕄 F)) = scratch c := (scopedRest0_eq c).trans rfl

theorem phi_in (c : Dev nD) :
    iprop(begins m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, rest_eq]
  unfold Φ₀
  iintro ⟨Hs, -, Hr⟩
  isplitl [Hs]; · iexact Hs
  iexact Hr

theorem phi_out (c : Dev nD) :
    (dats m ρ 0 c).Φ (Fin.last cfg0.N) ⊢ iprop((unscopedSems0 c ∗ ends m ρ c) ∗ Pipeline.ownSems0 osem c ∗ Pipeline.scopedRest cfg0.spec c) := by
  rw [show (dats m ρ 0 c).Φ (Fin.last cfg0.N) = Φ₁ m ρ c from rfl, rest_eq]
  unfold Φ₁
  rw [still_split]
  iintro ⟨⟨Hu, Ho⟩, Hs, He⟩
  isplitl [Hu He]
  · isplitl [Hu] <;> iassumption
  isplitl [Ho]; · iexact Ho
  iexact Hs

/-- What is read off a device at the end. -/
def QY (c : Dev nD) (s : MemSt nD τ sig (Elt F)) : Prop :=
  (s.mem ((c : Thread nD τ).loc main_arg1) = m ((c : Thread nD τ).loc main_arg1) ∧ Result m ρ c (s.mem ((c : Thread nD τ).loc main_v1)))
    ∧ ∀ sm : SemLoc sig, sm.isScoped .tc = false → s.sem ((c.tc : Thread nD τ), sm) = 0

theorem read_one (ℓ : Loc nD τ sig) (X : Buf (Elt F) ℓ) (s' : Phys nD τ sig (Elt F)) :
    iprop((ℓ ↦{fullShare} X) ∗ SI s') ⊢ (iprop(⌜s'.mem.mem ℓ = X⌝ ∗ SI s') : sProp (𝕄 F)) := by
  have h := pointsTo_read_all (Ix := ℕ) (Name := ℕ) (U := UU) (Lvl := ℕ) ({()} : Finset Unit) (fun _ => ℓ) (fun _ => X) s'
  rw [bigSep_singleton] at h
  iintro H
  ihave H := h $$ H
  icases H with ⟨%h, H⟩
  isplitr
  · ipureintro; exact h () (Finset.mem_singleton_self _)
  iexact H

theorem read_end (c : Dev nD) (s' : Phys nD τ sig (Elt F)) :
    iprop((unscopedSems0 c ∗ ends m ρ c) ∗ emp ∗ SI s') ⊢ (|={Set.univ}=> iprop(⌜QY m ρ c s'.mem⌝ ∗ SI s') : sProp (𝕄 F)) := by
  unfold ends
  iintro ⟨⟨Hu, Hw, ⟨%X, %hX, Ho⟩⟩, -, HSI⟩
  ihave H := (read_one _ _ s') $$ [Hw HSI]
  · isplitl [Hw] <;> iassumption
  icases H with ⟨%h1, HSI⟩
  ihave H := (read_one _ _ s') $$ [Ho HSI]
  · isplitl [Ho] <;> iassumption
  icases H with ⟨%h2, HSI⟩
  imod (Pipeline.unscopedSems0_read (X := unscopedSems0 c) (c := c) fupd_intro s') $$ [Hu HSI] with ⟨%h3, HSI⟩
  · isplitl [Hu] <;> iassumption
  imodintro
  isplitr
  · ipureintro; exact ⟨⟨h1, h2.symm ▸ hX⟩, h3⟩
  iexact HSI

def u₀ : UU := (initOf (Pipeline.cells cfgs cellOf_inj) (Pipeline.launchToks cfgs cellOf_inj), (initOf ringCells ringToks, Release.initSlots keysF 1))

/-- What the run reaches: the operands as they were, the result as computed, the semaphores at rest. -/
def Final (s : MemSt nD τ sig (Elt F)) : Prop :=
  (∀ c : Dev nD, s.mem ((c : Thread nD τ).loc main_arg0) = m ((c : Thread nD τ).loc main_arg0)
    ∧ s.mem ((c : Thread nD τ).loc main_arg1) = m ((c : Thread nD τ).loc main_arg1)
    ∧ Result m ρ c (s.mem ((c : Thread nD τ).loc main_v1))) ∧ s.sem = fun _ => 0

set_option maxRecDepth 60000 in
/-- From any memory with the semaphores at rest every run ends, and ends so. -/
theorem run_main : θ_run defs (onTc (τ := τ) (main (F := F))) (s₀ m ρ) (fun r => Final m ρ r.2) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w; exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := begins m ρ) (Y := fun c => iprop(unscopedSems0 c ∗ ends m ρ c)) (Z := fun _ => iprop(emp))
    (hX := begins_intro m ρ) (hin := phi_in m ρ) (hout := phi_out m ρ)
    (QY := QY m ρ) (hY := read_end m ρ)
    (hQ := fun _ h hs => ⟨fun c => ⟨((h c).1 (0 : Fin 1)).trans ((dats (F := F) m ρ 0 c).arrAt_in (0 : Fin 1) rfl _), (h c).2.2.1.1, (h c).2.2.1.2⟩,
      sem_eq_zero hs fun c => (h c).2.2.2⟩)

end Cert.Proof
-- ==== Proof.Frames.lean ====
/-
  The frames: each program ends, leaves its arguments as they were and every counter at zero.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Proof

open Idealize.ShloMosaic Idealize.ShloMosaic.TcCoe Idealize.SL.Sem

/-- What the run says of the arguments and the counters, over any float values. -/
theorem frame_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (run_main m ρ)

/-- The idealized kernel's frame. -/
theorem frame_ideal : Cert.quiescent_KernelIdeal := fun m ρ _ => frame_run (F := Ideal) m ρ

set_option maxRecDepth 100000 in
set_option maxHeartbeats 0 in
/-- The two programs have the same kernel, -/
theorem same_kernel : Cert.Kernel.defs₀ (F := Bits) = Cert.KernelIdeal.defs₀ (F := Bits) := by
  unfold Cert.Kernel.defs₀ Cert.KernelIdeal.defs₀
  refine congrArg Defs.onTc (funext fun l => funext fun a => ?_)
  obtain ⟨_ | n, h⟩ := l
  · obtain ⟨t, s⟩ := a
    exact rfl
  · exact absurd h (Nat.not_lt.2 (Nat.le_add_left _ _))

set_option maxRecDepth 100000 in
/-- and so the same table of bodies. -/
theorem same_defs : Cert.Kernel.defs (F := Bits) = Cert.KernelIdeal.defs (F := Bits) :=
  congrArg (Pipeline.defs Cert.Kernel.pcfgs) same_kernel

set_option maxRecDepth 100000 in
/-- The kernel's frame, by that. -/
theorem frame_kernel : Cert.quiescent_Kernel := fun m ρ _ => by
  rw [same_defs]
  exact frame_run (F := Bits) m ρ

/-- The reference's frame: it is a list of host operations and has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.Value.lean ====
/-
  The value: over the extended reals every slab of every device's result is the activation of the whole matrix product.
-/
module

public import proofs.«01_k».proof.Proof.Frames
public import Idealize.ShloMosaic.Lib.MatmulPlain
public import Idealize.ShloMosaic.Lib.StackMember
public import Idealize.ShloMosaic.Lib.Layout
public import Idealize.ShloMosaic.Lib.IdealHost
public import Idealize.ShloMosaic.PureOps.Ideal.Laws

@[expose] public section

noncomputable section

namespace Cert.Proof

open Cert.KernelIdeal Cert.KernelIdeal.Gen
open Idealize.ShloMosaic Idealize.ShloMosaic.TcCoe Idealize.ShloMosaic.ValueIdx
open Idealize.SL.Sem

/-! ### The steps, entry by entry -/

/-- A tile packed, then one reshaped back: the entries are unchanged. -/
theorem reshape_back {α : Type} {s t : Shape} (h : t.numel = s.numel) (h' : s.numel = t.numel) (x : s.Idx → α) (i : s.Idx) :
    x (Shape.reshapeEquiv h (Shape.reshapeEquiv h' i)) = x i := by
  rw [Shape.reshapeEquiv_reshapeEquiv, Shape.reshapeEquiv_self]

/-- A packed chunk times a staged tile is the plain sum of products. -/
theorem mm_apply (A : FVec Ideal S512x512 .f32) (B : FVec Ideal S512x1024 .f32) (p : Fin 512) (q : Fin 1024) :
    mm (F := Ideal) (packV (F := Ideal) A) (wbV (F := Ideal) (usq numel_tile B)) (ix2 p q) = ∑ k : Fin 512, A (ix2 p k) * B (ix2 k q) := by
  refine (Ideal.matmul_plain_apply (M := 512) (K := 512) (N := 1024) none _ _ _ p q).trans ?_
  refine (congrArg (· + _) (Ideal.ofBits_zero_f32)).trans ((zero_add _).trans ?_)
  refine Finset.sum_congr rfl fun k _ => ?_
  refine congrArg₂ (· * ·) ?_ ?_
  · show A (Shape.reshapeEquiv _ (Shape.reshapeEquiv _ (Shape.reshapeEquiv _ (ix2 p k)))) = _
    rw [Shape.reshapeEquiv_self]
    exact reshape_back _ _ A _
  · show B ((Shape.reshapeEquiv _).symm (Shape.reshapeEquiv _ (Shape.reshapeEquiv _ (ix2 k q)))) = _
    rw [Shape.reshapeEquiv_symm, Shape.reshapeEquiv_self]
    exact reshape_back _ _ B _

theorem down_up (a : FVec Ideal S512x1024 .f32) : down (up a) = a := funext fun i => reshape_back _ _ a i

/-- The host's form of the activation. -/
def act (y : EReal) : EReal := Ideal.div y (1 + Ideal.exp (-y))

theorem exp_pos' (y : EReal) : 0 ≤ Ideal.exp y := by
  induction y with
  | bot => exact le_refl _
  | top => exact le_top
  | coe r => exact EReal.coe_nonneg.mpr (Real.exp_nonneg r)

/-- The denominator is never zero. -/
theorem den_ne (y : EReal) : 1 + Ideal.exp y ≠ 0 := by
  have h : (0 : EReal) < 1 + Ideal.exp y := lt_of_lt_of_le zero_lt_one (le_add_of_nonneg_right (exp_pos' y))
  exact h.ne'

/-- The kernel's form, which multiplies by the reciprocal, is the same. -/
theorem act_eq (y : EReal) : y * Ideal.div 1 (1 + Ideal.exp (0 - y)) = act y := by
  have h : (0 : EReal) - y = -y := by rw [sub_eq_add_neg, zero_add]
  unfold act Ideal.div
  rw [h, if_neg (den_ne _), if_neg (den_ne _), one_mul]

/-- The kernel's activation of a tile, before its leading axis. -/
def kact (y : FVec Ideal S512x1024 .f32) : FVec Ideal S512x1024 .f32 :=
  mulf y (divf (broadcast S512x1024 (Scalar.ofBits .f32 0x3F800000#32))
    (addf (broadcast S512x1024 (Scalar.ofBits .f32 0x3F800000#32)) (exp (subf (broadcast S512x1024 (Scalar.ofBits .f32 0x00000000#32)) y))))

theorem kact_apply (y : FVec Ideal S512x1024 .f32) (i : S512x1024.Idx) : kact y i = act (y i) := by
  refine Eq.trans ?_ (act_eq (y i))
  show y i * Ideal.div (Ideal.ofBits .f32 0x3F800000#32) (Ideal.ofBits .f32 0x3F800000#32 + Ideal.exp (Ideal.ofBits .f32 0x00000000#32 - y i)) = _
  rw [Ideal.ofBits_one_f32, Ideal.ofBits_zero_f32]

theorem fin_kact (y : FVec Ideal S512x1024 .f32) : fin (F := Ideal) y = shapeCast S1x512x1024 (kact y) shapeCasts_S512x1024_S1x512x1024 := by
  unfold fin k0_pay72 kact
  rfl

theorem fin_apply (y : FVec Ideal S512x1024 .f32) (i : S512x1024.Idx) : sq numel_tile (fin (F := Ideal) y) i = act (y i) := by
  rw [fin_kact]
  exact (reshape_back _ _ (kact y) i).trans (kact_apply y i)

/-! ### The blocks of one slab -/

variable (m : (ℓ : Loc nD τ sig) → Buf (Elt Ideal) ℓ) (ρ : Dev nD → PrngReg)

/-- Block `b` of the contraction of device `e`'s rows with device `c`'s columns. -/
def part (e c : Dev nD) (b : ℕ) : FVec Ideal S512x1024 .f32 := mm (packV (fun i => xv m ρ e ((xcolR b).emb i))) (wb m c b)

theorem prod_part (d : Bool) (c : Dev nD) (j s : ℕ) : prod m ρ d c j s = part m ρ (org d c j) c (blk d s) := rfl

/-- The eight of them. -/
def parts (e c : Dev nD) (i : S512x1024.Idx) : EReal :=
  (part m ρ e c 0 i + part m ρ e c 1 i + part m ρ e c 2 i + part m ρ e c 3 i)
    + (part m ρ e c 4 i + part m ρ e c 5 i + part m ρ e c 6 i + part m ρ e c 7 i)

theorem half_true (c : Dev nD) (h : ℕ) (i : S512x1024.Idx) : half m ρ true c h i
    = part m ρ (org true c (h + 1)) c 0 i + part m ρ (org true c (h + 1)) c 1 i + part m ρ (org true c (h + 1)) c 2 i + part m ρ (org true c (h + 1)) c 3 i := rfl
theorem half_false (c : Dev nD) (h : ℕ) (i : S512x1024.Idx) : half m ρ false c h i
    = part m ρ (org false c (h + 1)) c 4 i + part m ρ (org false c (h + 1)) c 5 i + part m ρ (org false c (h + 1)) c 6 i + part m ρ (org false c (h + 1)) c 7 i := rfl

/-- The own rows' product, in the order it is taken. -/
theorem ownP_apply (c : Dev nD) (i : S512x1024.Idx) : ownP m ρ c i = parts m ρ c c i := by
  show ((((((part m ρ c c 0 i + part m ρ c c 1 i) + part m ρ c c 2 i) + part m ρ c c 3 i) + part m ρ c c 4 i) + part m ρ c c 5 i) + part m ρ c c 6 i) + part m ρ c c 7 i = _
  unfold parts
  simp only [add_assoc]

/-- A half product started from another half is the sum of the two. -/
theorem full_apply (d : Bool) (c : Dev nD) (h : ℕ) (i : S512x1024.Idx) :
    full m ρ d c h i = half m ρ d c h i + half m ρ (!d) c (6 - h) i := by
  unfold full
  rw [down_up]
  show (((prod m ρ d c (h + 1) 0 i + half m ρ (!d) c (6 - h) i) + prod m ρ d c (h + 1) 1 i) + prod m ρ d c (h + 1) 2 i) + prod m ρ d c (h + 1) 3 i
    = (((prod m ρ d c (h + 1) 0 i + prod m ρ d c (h + 1) 1 i) + prod m ρ d c (h + 1) 2 i) + prod m ρ d c (h + 1) 3 i) + half m ρ (!d) c (6 - h) i
  generalize half m ρ (!d) c (6 - h) i = z
  rw [add_right_comm (prod m ρ d c (h + 1) 0 i) z, add_right_comm _ z, add_right_comm _ z]

/-- Two halves of the same rows make the whole. -/
theorem halves (e c : Dev nD) (h h' : ℕ) (i : S512x1024.Idx) (ht : org true c (h + 1) = e) (hf : org false c (h' + 1) = e) :
    half m ρ true c h i + half m ρ false c h' i = parts m ρ e c i := by
  rw [half_true, half_false, ht, hf]; rfl

/-- Where each slab's rows come from, by either way round the ring. -/
theorem origins : ∀ c : Dev nD, eighth c 0 = c ∧ org true c 4 = eighth c 1 ∧ org false c 4 = eighth c 1
    ∧ org true c 5 = eighth c 2 ∧ org false c 3 = eighth c 2 ∧ org true c 3 = eighth c 3 ∧ org false c 5 = eighth c 3
    ∧ org true c 6 = eighth c 4 ∧ org false c 2 = eighth c 4 ∧ org true c 2 = eighth c 5 ∧ org false c 6 = eighth c 5
    ∧ org true c 7 = eighth c 6 ∧ org false c 1 = eighth c 6 ∧ org true c 1 = eighth c 7 ∧ org false c 7 = eighth c 7 := by
  decide +kernel

/-- Every slab is the activation of its eight blocks. -/
theorem outV_apply (c : Dev nD) (t : Fin 8) (i : S512x1024.Idx) : outV m ρ c t.val i = act (parts m ρ (eighth c t) c i) := by
  obtain ⟨h0, a1, b1, a2, b2, a3, b3, a4, b4, a5, b5, a6, b6, a7, b7⟩ := origins c
  have key : ∀ (y : FVec Ideal S512x1024 .f32) (e : Dev nD), y i = parts m ρ e c i → sq numel_tile (fin (F := Ideal) y) i = act (parts m ρ e c i) :=
    fun y e h => (fin_apply y i).trans (congrArg act h)
  match t with
  | 0 => exact key (ownP m ρ c) _ (by rw [ownP_apply, h0])
  | 1 => exact key _ _ (halves m ρ _ c 3 3 i a1 b1)
  | 2 => exact key (full m ρ true c 4) _ ((full_apply m ρ true c 4 i).trans (halves m ρ _ c 4 2 i a2 b2))
  | 3 => exact key (full m ρ false c 4) _ ((full_apply m ρ false c 4 i).trans ((add_comm _ _).trans (halves m ρ _ c 2 4 i a3 b3)))
  | 4 => exact key (full m ρ true c 5) _ ((full_apply m ρ true c 5 i).trans (halves m ρ _ c 5 1 i a4 b4))
  | 5 => exact key (full m ρ false c 5) _ ((full_apply m ρ false c 5 i).trans ((add_comm _ _).trans (halves m ρ _ c 1 5 i a5 b5)))
  | 6 => exact key (full m ρ true c 6) _ ((full_apply m ρ true c 6 i).trans (halves m ρ _ c 6 0 i a6 b6))
  | 7 => exact key (full m ρ false c 6) _ ((full_apply m ρ false c 6 i).trans ((add_comm _ _).trans (halves m ρ _ c 0 6 i a7 b7)))

/-! ### The whole contraction -/

/-- Position `k` of block `b`. -/
def posn (b : Fin 8) (k : Fin 512) : Fin 4096 := ⟨512 * b.val + k.val, by omega⟩

/-- A sum over the whole contraction is the sum over its blocks. -/
theorem sum_posn (f : Fin 4096 → EReal) : ∑ k : Fin 4096, f k = ∑ b : Fin 8, ∑ k : Fin 512, f (posn b k) := by
  rw [← Fintype.sum_prod_type' (f := fun b k => f (posn b k))]
  refine (Equiv.sum_comp ((finProdFinEquiv (m := 8) (n := 512)).trans (finCongr (by norm_num : 8 * 512 = 4096))) f).symm.trans ?_
  refine Finset.sum_congr rfl fun x _ => congrArg f (Fin.ext ?_)
  show x.2.val + 512 * x.1.val = 512 * x.1.val + x.2.val
  omega

/-- The rows as they stand in the argument. -/
theorem xv_eq (c : Dev nD) : xv m ρ c = m ((c : Thread nD τ).loc main_arg0) := by
  funext i
  refine congrArg (m ((c : Thread nD τ).loc main_arg0)) (?_ : (win0_0.blk (0 : Fin 1)).view.emb i = i)
  funext a
  refine Fin.ext ?_
  match a with
  | 0 => show 0 * 512 + 1 * (i 0).val = (i 0).val; omega
  | 1 => show 0 * 4096 + 1 * (i 1).val = (i 1).val; omega

theorem part_apply (e c : Dev nD) (b : Fin 8) (p : Fin 512) (q : Fin 1024) : part m ρ e c b.val (ix2 p q)
    = ∑ k : Fin 512, xv m ρ e (ix2 p (posn b k)) * wv m c (ix2 (posn b k) q) := by
  refine (mm_apply _ _ p q).trans (Finset.sum_congr rfl fun k _ => ?_)
  have hb : b.val % 8 = b.val := Nat.mod_eq_of_lt b.isLt
  refine congrArg₂ (· * ·) (congrArg (xv m ρ e) ?_) (congrArg (wv m c) ?_)
  · funext a
    match a with
    | 0 => exact Fin.ext (by show 0 + 1 * p.val = p.val; omega)
    | 1 => exact Fin.ext (by show 512 * (b.val % 8) + 1 * k.val = 512 * b.val + k.val; omega)
  · funext a
    match a with
    | 0 => exact Fin.ext (by show 512 * (b.val % 8) + 1 * k.val = 512 * b.val + k.val; omega)
    | 1 => exact Fin.ext (by show 0 + 1 * q.val = q.val; omega)

/-- The eight blocks are the whole row times the whole column. -/
theorem parts_apply (e c : Dev nD) (p : Fin 512) (q : Fin 1024) :
    parts m ρ e c (ix2 p q) = ∑ k : Fin 4096, xv m ρ e (ix2 p k) * wv m c (ix2 k q) := by
  rw [sum_posn, Finset.sum_congr rfl fun b _ => (part_apply m ρ e c b p q).symm, Fin.sum_univ_eight]
  unfold parts
  simp only [add_assoc]
  rfl

/-- The result, entry by entry. -/
theorem result_apply (c : Dev nD) (X : FVec Ideal S4096x1024 .f32) (h : Result m ρ c X) (o : Fin 8) (p : Fin 512) (q : Fin 1024) :
    X (ix2 (posn o p) q) = act (∑ k : Fin 4096, xv m ρ o (ix2 p k) * wv m c (ix2 k q)) := by
  have hp : (oR c (slabOf c o).val).emb (ix2 p q) = ix2 (posn o p) q := by
    obtain ⟨h0, h1⟩ := oOff_eighth c (slabOf c o)
    rw [eighth_slabOf] at h0
    funext a
    match a with
    | 0 => exact Fin.ext (by show oOff c (slabOf c o).val 0 + 1 * p.val = 512 * o.val + p.val; omega)
    | 1 => exact Fin.ext (by show oOff c (slabOf c o).val 1 + 1 * q.val = q.val; omega)
  have hh := h (slabOf c o) (ix2 p q)
  rw [hp] at hh
  rw [hh, outV_apply, eighth_slabOf, parts_apply]

/-! ### The reference -/

/-- The reference's result as a function of its arguments. -/
def refOut (x : FVec Ideal ⟨2, ![4096, 4096]⟩ .f32) (w : FVec Ideal ⟨2, ![4096, 8192]⟩ .f32) : FVec Ideal ⟨2, ![4096, 8192]⟩ .f32 :=
  Host.divf (Host.dotGeneral Cert.ReferenceIdeal.dot_S4096x4096_S4096x8192_S4096x8192_1_0_0_1_n_n none x w)
    (addf (broadcastInDim Cert.ReferenceIdeal.S4096x8192 ![] Cert.ReferenceIdeal.Gen.bcast_S_S4096x8192 (constant Cert.ReferenceIdeal.S_ .f32 0x3F800000#32))
      (Host.exp (Host.negf (Host.dotGeneral Cert.ReferenceIdeal.dot_S4096x4096_S4096x8192_S4096x8192_1_0_0_1_n_n none x w))))

theorem refOut_apply (x : FVec Ideal ⟨2, ![4096, 4096]⟩ .f32) (w : FVec Ideal ⟨2, ![4096, 8192]⟩ .f32) (r : Fin 4096) (q : Fin 8192) :
    refOut x w (ix2 r q) = act (∑ k : Fin 4096, x (ix2 r k) * w (ix2 k q)) := by
  have e := StackMember.dotGeneral_plain_apply (m := 4096) (n := 8192) none x w r q
  rw [← e]
  show Ideal.div _ (Ideal.ofBits .f32 0x3F800000#32 + Ideal.exp (-_)) = _
  rw [Ideal.ofBits_one_f32]
  rfl

/-! ### The claim -/

/-- Each device's result is its block of columns of the reference's. -/
theorem result_block (x : FVec Ideal ⟨2, ![4096, 4096]⟩ .f32) (w : FVec Ideal ⟨2, ![4096, 8192]⟩ .f32)
    (hx : ∀ c : Dev nD, m ((c : Thread nD τ).loc main_arg0) = Layout.block ⟨2, ![512, 4096]⟩ ⟨2, ![4096, 4096]⟩ 0 8 c x)
    (hw : ∀ c : Dev nD, m ((c : Thread nD τ).loc main_arg1) = Layout.block ⟨2, ![4096, 1024]⟩ ⟨2, ![4096, 8192]⟩ 1 8 c w)
    (c : Dev nD) (X : FVec Ideal S4096x1024 .f32) (h : Result m ρ c X) :
    X = Layout.block ⟨2, ![4096, 1024]⟩ ⟨2, ![4096, 8192]⟩ 1 8 c (refOut x w) := by
  funext i
  obtain ⟨r, q, rfl⟩ : ∃ (r : Fin 4096) (q : Fin 1024), i = ix2 r q := ⟨i 0, i 1, by funext a; match a with | 0 => rfl | 1 => rfl⟩
  obtain ⟨o, p, rfl⟩ : ∃ (o : Fin 8) (p : Fin 512), r = posn o p :=
    ⟨⟨r.val / 512, by omega⟩, ⟨r.val % 512, by omega⟩, Fin.ext (by show r.val = 512 * (r.val / 512) + r.val % 512; omega)⟩
  rw [result_apply m ρ c X h o p q, Layout.block_apply]
  have hq : c.val * 1024 + q.val < 8192 := by have : c.val < 8 := c.isLt; omega
  refine Eq.trans ?_ ((refOut_apply x w (posn o p) ⟨c.val * 1024 + q.val, hq⟩).symm.trans (congrArg (refOut x w) ?_))
  · refine congrArg act (Finset.sum_congr rfl fun k _ => congrArg₂ (· * ·) ?_ ?_)
    · rw [xv_eq, hx, Layout.block_apply]
      refine congrArg x ?_
      funext a
      match a with
      | 0 => exact Fin.ext (by show o.val * 512 + p.val = 512 * o.val + p.val; omega)
      | 1 => rfl
    · show m ((c : Thread nD τ).loc main_arg1) (ix2 k q) = _
      rw [hw, Layout.block_apply]
      refine congrArg w ?_
      funext a
      match a with
      | 0 => rfl
      | 1 => rfl
  · funext a
    match a with
    | 0 => rfl
    | 1 => rfl

/-- The kernel over the extended reals computes the reference's product and activation. -/
theorem algebraic : Cert.algebraic_KernelIdeal_ReferenceIdeal := by
  intro m ρ m' ρ' _ hagree
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono (fun _ h c =>
      ⟨result_block m ρ _ _ (fun c => (hagree c).1) (fun c => (hagree c).2) c _ (h.1 c).2.2, (h.1 c).1, (h.1 c).2.1⟩) (run_main (F := Ideal) m ρ)
  · exact (θ_run Cert.ReferenceIdeal.defs _ _).mono (fun _ h => h 0) (Cert.ReferenceIdeal.Value.run (F := Ideal) m' ρ')

end Cert.Proof
-- ==== Proof.lean ====
/-
  The claims about the ring all-gather fused with the product and the silu: the frames of the kernel, of the kernel over the
  extended reals and of the reference, that the idealized kernel is the kernel's text, and that over the extended reals it
  computes the reference's result.
-/
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- All that is claimed. -/
theorem claim : Cert.Claim :=
  ⟨Cert.Kernel.Gen.facts, Cert.KernelIdeal.Gen.facts, Cert.ReferenceIdeal.Gen.facts, frame_kernel, frame_ideal, frame_reference, trivial, algebraic⟩

end Cert.Proof

end
